-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_projected [hPre_projected : Cert.Pre_projected.Facts] (m : (ℓ : Loc Cert.KernelIdeal.nD Cert.KernelIdeal.τ Cert.KernelIdeal.sig) → Buf (Elt Ideal) ℓ) : Prop :=
  ∀ c : Dev Cert.KernelIdeal.nD,
    (Cert.Pre_projected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_projected [hPre_projected : Cert.Pre_projected.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_projected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_projected [hKernelIdeal : Cert.KernelIdeal.Facts] [hPre_projected : Cert.Pre_projected.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_projected m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_projected [hReferenceIdeal : Cert.ReferenceIdeal.Facts] [hPre_projected : Cert.Pre_projected.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_projected m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_projected [hKernelIdeal : Cert.KernelIdeal.Facts] [hReferenceIdeal : Cert.ReferenceIdeal.Facts] [hPre_projected : Cert.Pre_projected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_projected m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v36) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_projected : Cert.Pre_projected.Facts),
    quiescent_Kernel (hKernel := hKernel)
    ∧ quiescent_KernelIdeal (hKernelIdeal := hKernelIdeal)
    ∧ quiescent_KernelIdeal_pre_projected (hKernelIdeal := hKernelIdeal) (hPre_projected := hPre_projected)
    ∧ quiescent_ReferenceIdeal (hReferenceIdeal := hReferenceIdeal)
    ∧ quiescent_ReferenceIdeal_pre_projected (hReferenceIdeal := hReferenceIdeal) (hPre_projected := hPre_projected)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_projected (hKernelIdeal := hKernelIdeal) (hReferenceIdeal := hReferenceIdeal) (hPre_projected := hPre_projected)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_projected.lean ====
abbrev S65536x2048 : Shape := ⟨2, ![65536, 2048]⟩
abbrev S8192x2048 : Shape := ⟨2, ![8192, 2048]⟩
abbrev S8x15x31 : Shape := ⟨3, ![8, 15, 31]⟩
abbrev S65536x8 : Shape := ⟨2, ![65536, 8]⟩
abbrev S_ : Shape := ⟨0, ![]⟩
abbrev S8192x8 : Shape := ⟨2, ![8192, 8]⟩
abbrev S65536x1024 : Shape := ⟨2, ![65536, 1024]⟩
abbrev S8192x512 : Shape := ⟨2, ![8192, 512]⟩

class Facts : Prop where
  slicesBy_S65536x2048_S65536x8_0s1_1088s128 : S65536x2048.SlicesBy (![0, 1088] : Fin 2 → Nat) ![1, 128] S65536x8
  bitsLt_bf16_f32 : FTy.bits .bf16 < FTy.bits .f32
  bcast_S_S65536x8 : S_.BroadcastsInDim S65536x8 (![] : Fin 0 → Fin S65536x8.rank)
  reducesTo_S65536x8_S_d0_1 : S65536x8.ReducesTo [0, 1] S_
  h_S_ : 0 < S_.numel
  slicesBy_S8192x2048_S8192x8_0s1_1088s128 : S8192x2048.SlicesBy (![0, 1088] : Fin 2 → Nat) ![1, 128] S8192x8
  bcast_S_S8192x8 : S_.BroadcastsInDim S8192x8 (![] : Fin 0 → Fin S8192x8.rank)
  reducesTo_S8192x8_S_d0_1 : S8192x8.ReducesTo [0, 1] S_
  slices_S65536x2048_S65536x1024_0_0 : S65536x2048.Slices ![0, 0] S65536x1024
  bcast_S_S65536x1024 : S_.BroadcastsInDim S65536x1024 (![] : Fin 0 → Fin S65536x1024.rank)
  reducesTo_S65536x1024_S_d0_1 : S65536x1024.ReducesTo [0, 1] S_
  slices_S8192x2048_S8192x512_0_512 : S8192x2048.Slices ![0, 512] S8192x512
  bcast_S_S8192x512 : S_.BroadcastsInDim S8192x512 (![] : Fin 0 → Fin S8192x512.rank)
  reducesTo_S8192x512_S_d0_1 : S8192x512.ReducesTo [0, 1] S_
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_arg2 : FVec F S8x15x31 .f32) (main_v10 : IVec S_ 1) (main_v16 : IVec S_ 1) (main_v17 : FVec F S8192x512 .bf16) : IVec S_ 1 :=
  let main_v18 : FVec F S8192x512 .f32 := (extf .f32 · bitsLt_bf16_f32) main_v17
  let main_v19 : FVec F S8192x512 .f32 := Host.absf main_v18
  let main_cst_4 : FVec F S_ .f32 := constant S_ .f32 0x7F800000#32
  let main_v20 : FVec F S8192x512 .f32 := broadcastInDim S8192x512 ![] bcast_S_S8192x512 main_cst_4
  let main_v21 : IVec S8192x512 1 := cmpf .olt main_v19 main_v20
  let main_c_5 : IVec S_ 1 := constantI S_ 1 1#1
  let main_v22 : IVec S_ 1 := (fun x v => Host.reduce IntOp.andi x v reducesTo_S8192x512_S_d0_1 h_S_) main_v21 main_c_5
  let main_v23 : IVec S_ 1 := andi main_v10 main_v16
  let main_v24 : IVec S_ 1 := andi main_v23 main_v22
  let main_v25 : FVec F S8x15x31 .f32 := Host.absf main_arg2
  let main_cst_6 : FVec F S_ .f32 := constant S_ .f32 0x7F800000#32
  let main_v26 : FVec F S8x15x31 .f32 := broadcastInDim S8x15x31 ![] bcast_S_S8x15x31 main_cst_6
  let main_v27 : IVec S8x15x31 1 := cmpf .olt main_v25 main_v26
  let main_c_7 : IVec S_ 1 := constantI S_ 1 1#1
  let main_v28 : IVec S_ 1 := (fun x v => Host.reduce IntOp.andi x v reducesTo_S8x15x31_S_d0_1_2 h_S_) main_v27 main_c_7
  let main_v29 : IVec S_ 1 := andi main_v24 main_v28
  main_v29

def fn {F : FTy → Type} [FloatOps F] (main_arg0 : FVec F S65536x2048 .bf16) (main_arg1 : FVec F S8192x2048 .bf16) (main_arg2 : FVec F S8x15x31 .f32) : IVec S_ 1 :=
  let main_v0 : FVec F S65536x8 .bf16 := (Host.slice S65536x8 ![0, 1088] ![1, 128] · slicesBy_S65536x2048_S65536x8_0s1_1088s128) main_arg0
  let main_v1 : FVec F S65536x8 .f32 := (extf .f32 · bitsLt_bf16_f32) main_v0
  let main_cst : FVec F S_ .f32 := constant S_ .f32 0x3F800000#32
  let main_v2 : FVec F S65536x8 .f32 := broadcastInDim S65536x8 ![] bcast_S_S65536x8 main_cst
  let main_v3 : IVec S65536x8 1 := cmpf .oeq main_v1 main_v2
  let main_c : IVec S_ 1 := constantI S_ 1 1#1
  let main_v4 : IVec S_ 1 := (fun x v => Host.reduce IntOp.andi x v reducesTo_S65536x8_S_d0_1 h_S_) main_v3 main_c
  let main_v5 : FVec F S8192x8 .bf16 := (Host.slice S8192x8 ![0, 1088] ![1, 128] · slicesBy_S8192x2048_S8192x8_0s1_1088s128) main_arg1
  let main_v6 : FVec F S8192x8 .f32 := (extf .f32 · bitsLt_bf16_f32) main_v5
  let main_cst_0 : FVec F S_ .f32 := constant S_ .f32 0x3F800000#32
  let main_v7 : FVec F S8192x8 .f32 := broadcastInDim S8192x8 ![] bcast_S_S8192x8 main_cst_0
  let main_v8 : IVec S8192x8 1 := cmpf .oeq main_v6 main_v7
  let main_c_1 : IVec S_ 1 := constantI S_ 1 1#1
  let main_v9 : IVec S_ 1 := (fun x v => Host.reduce IntOp.andi x v reducesTo_S8192x8_S_d0_1 h_S_) main_v8 main_c_1
  let main_v10 : IVec S_ 1 := andi main_v4 main_v9
  let main_v11 : FVec F S65536x1024 .bf16 := (extractStridedSlice S65536x1024 ![0, 0] · slices_S65536x2048_S65536x1024_0_0) main_arg0
  let main_v12 : FVec F S65536x1024 .f32 := (extf .f32 · bitsLt_bf16_f32) main_v11
  let main_v13 : FVec F S65536x1024 .f32 := Host.absf main_v12
  let main_cst_2 : FVec F S_ .f32 := constant S_ .f32 0x7F800000#32
  let main_v14 : FVec F S65536x1024 .f32 := broadcastInDim S65536x1024 ![] bcast_S_S65536x1024 main_cst_2
  let main_v15 : IVec S65536x1024 1 := cmpf .olt main_v13 main_v14
  let main_c_3 : IVec S_ 1 := constantI S_ 1 1#1
  let main_v16 : IVec S_ 1 := (fun x v => Host.reduce IntOp.andi x v reducesTo_S65536x1024_S_d0_1 h_S_) main_v15 main_c_3
  let main_v17 : FVec F S8192x512 .bf16 := (extractStridedSlice S8192x512 ![0, 512] · slices_S8192x2048_S8192x512_0_512) main_arg1
  fn_part1 (F := F) main_arg2 main_v10 main_v16 main_v17
-- ==== Kernel.lean ====
abbrev S65536x2048 : Shape := ⟨2, ![65536, 2048]⟩
abbrev S8192x2048 : Shape := ⟨2, ![8192, 2048]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S3 : Shape := ⟨1, ![3]⟩
abbrev S3x1 : Shape := ⟨2, ![3, 1]⟩
abbrev S4 : Shape := ⟨1, ![4]⟩
abbrev S1x4 : Shape := ⟨2, ![1, 4]⟩
abbrev S3x4 : Shape := ⟨2, ![3, 4]⟩
abbrev S11 : Shape := ⟨1, ![11]⟩
abbrev S1x11 : Shape := ⟨2, ![1, 11]⟩
abbrev S3x11 : Shape := ⟨2, ![3, 11]⟩
abbrev S3x1x11 : Shape := ⟨3, ![3, 1, 11]⟩
abbrev S3x4x1 : Shape := ⟨3, ![3, 4, 1]⟩
abbrev S3x4x11 : Shape := ⟨3, ![3, 4, 11]⟩
abbrev S3x4x11x1 : Shape := ⟨4, ![3, 4, 11, 1]⟩
abbrev S15 : Shape := ⟨1, ![15]⟩
abbrev S1x1x1x15 : Shape := ⟨4, ![1, 1, 1, 15]⟩
abbrev S3x4x11x15 : Shape := ⟨4, ![3, 4, 11, 15]⟩
abbrev S3x4x1x11x1 : Shape := ⟨5, ![3, 4, 1, 11, 1]⟩
abbrev S1x1x64x1x64 : Shape := ⟨5, ![1, 1, 64, 1, 64]⟩
abbrev S3x4x64x11x64 : Shape := ⟨5, ![3, 4, 64, 11, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S8x15x31x1x1 : Shape := ⟨5, ![8, 15, 31, 1, 1]⟩
abbrev S1x1x31x64x64 : Shape := ⟨5, ![1, 1, 31, 64, 64]⟩
abbrev S8x15x31x64x64 : Shape := ⟨5, ![8, 15, 31, 64, 64]⟩
abbrev S8x15x64x64 : Shape := ⟨4, ![8, 15, 64, 64]⟩
abbrev S3x1x4x1x11x1x15 : Shape := ⟨7, ![3, 1, 4, 1, 11, 1, 15]⟩
abbrev S8x64x64x15 : Shape := ⟨4, ![8, 64, 64, 15]⟩
abbrev S1x8x1x64x1x64x15 : Shape := ⟨7, ![1, 8, 1, 64, 1, 64, 15]⟩
abbrev S3x8x4x64x11x64x15 : Shape := ⟨7, ![3, 8, 4, 64, 11, 64, 15]⟩
abbrev S3x8x4x64x11x64 : Shape := ⟨6, ![3, 8, 4, 64, 11, 64]⟩
abbrev S3x1x4x64x11x64 : Shape := ⟨6, ![3, 1, 4, 64, 11, 64]⟩
abbrev S3x8x256x704 : Shape := ⟨4, ![3, 8, 256, 704]⟩
abbrev S65536x512 : Shape := ⟨2, ![65536, 512]⟩
abbrev S256x512 : Shape := ⟨2, ![256, 512]⟩
abbrev S2048x512 : Shape := ⟨2, ![2048, 512]⟩
abbrev S2048x1024 : Shape := ⟨2, ![2048, 1024]⟩
abbrev S256x1024 : Shape := ⟨2, ![256, 1024]⟩
abbrev S1x8x256x704 : Shape := ⟨4, ![1, 8, 256, 704]⟩
abbrev S256x64 : Shape := ⟨2, ![256, 64]⟩
abbrev S704x64 : Shape := ⟨2, ![704, 64]⟩
abbrev S256x704 : Shape := ⟨2, ![256, 704]⟩
abbrev S1x1x256x704 : Shape := ⟨4, ![1, 1, 256, 704]⟩
abbrev S256x256 : Shape := ⟨2, ![256, 256]⟩
abbrev S704x128 : Shape := ⟨2, ![704, 128]⟩
abbrev S256x128 : Shape := ⟨2, ![256, 128]⟩
abbrev S256 : Shape := ⟨1, ![256]⟩
abbrev S256x1 : Shape := ⟨2, ![256, 1]⟩

abbrev nBuf : Space → Nat
  | .hbm => 170
  | .vmem => 14
  | .smem => 0
  | _ => 0

abbrev hbmTy0_0 (i : Nat) : BufTy := match i % 128 with
  | 0 => ⟨S65536x2048, .bf16⟩
  | 1 => ⟨S8192x2048, .bf16⟩
  | 2 => ⟨S8x15x31, .f32⟩
  | 3 => ⟨S64, .i32⟩
  | 4 => ⟨S_, .i32⟩
  | 5 => ⟨S64, .i32⟩
  | 6 => ⟨S64, .i32⟩
  | 7 => ⟨S_, .i32⟩
  | 8 => ⟨S_, .i32⟩
  | 9 => ⟨S_, .i32⟩
  | 10 => ⟨S64, .i32⟩
  | 11 => ⟨S64, .i32⟩
  | 12 => ⟨S_, .i32⟩
  | 13 => ⟨S64, .i32⟩
  | 14 => ⟨S64, .i32⟩
  | 15 => ⟨S1x64, .i32⟩
  | 16 => ⟨S64x1, .i32⟩
  | 17 => ⟨S64x64, .i32⟩
  | 18 => ⟨S64x64, .i32⟩
  | 19 => ⟨S64x64, .i1⟩
  | 20 => ⟨S1x64, .i32⟩
  | 21 => ⟨S64x1, .i32⟩
  | 22 => ⟨S_, .i32⟩
  | 23 => ⟨S64x1, .i32⟩
  | 24 => ⟨S64x1, .i32⟩
  | 25 => ⟨S64x64, .i32⟩
  | 26 => ⟨S64x64, .i32⟩
  | 27 => ⟨S64x64, .i1⟩
  | 28 => ⟨S64x64, .i1⟩
  | 29 => ⟨S1x64, .i32⟩
  | 30 => ⟨S64x1, .i32⟩
  | 31 => ⟨S64x64, .i32⟩
  | 32 => ⟨S64x64, .i32⟩
  | 33 => ⟨S64x64, .i32⟩
  | 34 => ⟨S_, .i32⟩
  | 35 => ⟨S_, .i32⟩
  | 36 => ⟨S_, .i32⟩
  | 37 => ⟨S64x64, .i32⟩
  | 38 => ⟨S64x64, .i32⟩
  | 39 => ⟨S_, .i32⟩
  | 40 => ⟨S64x64, .i32⟩
  | 41 => ⟨S64x64, .i32⟩
  | 42 => ⟨S_, .i32⟩
  | 43 => ⟨S64x64, .i32⟩
  | 44 => ⟨S64x64, .i32⟩
  | 45 => ⟨S_, .i32⟩
  | 46 => ⟨S64x64, .i32⟩
  | 47 => ⟨S64x64, .i32⟩
  | 48 => ⟨S3, .i32⟩
  | 49 => ⟨S_, .i32⟩
  | 50 => ⟨S3, .i32⟩
  | 51 => ⟨S3, .i1⟩
  | 52 => ⟨S_, .i32⟩
  | 53 => ⟨S_, .i32⟩
  | 54 => ⟨S3, .i32⟩
  | 55 => ⟨S3, .i32⟩
  | 56 => ⟨S3x1, .i32⟩
  | 57 => ⟨S_, .i32⟩
  | 58 => ⟨S3x1, .i32⟩
  | 59 => ⟨S3x1, .i32⟩
  | 60 => ⟨S4, .i32⟩
  | 61 => ⟨S1x4, .i32⟩
  | 62 => ⟨S3x4, .i32⟩
  | 63 => ⟨S3x4, .i32⟩
  | 64 => ⟨S3x4, .i32⟩
  | 65 => ⟨S_, .i32⟩
  | 66 => ⟨S3, .i32⟩
  | 67 => ⟨S3, .i32⟩
  | 68 => ⟨S_, .i32⟩
  | 69 => ⟨S3, .i32⟩
  | 70 => ⟨S3, .i32⟩
  | 71 => ⟨S_, .i32⟩
  | 72 => ⟨S_, .i32⟩
  | 73 => ⟨S_, .i32⟩
  | 74 => ⟨S3, .i32⟩
  | 75 => ⟨S3, .i32⟩
  | 76 => ⟨S_, .i32⟩
  | 77 => ⟨S3, .i32⟩
  | 78 => ⟨S3, .i32⟩
  | 79 => ⟨S3x1, .i32⟩
  | 80 => ⟨S11, .i32⟩
  | 81 => ⟨S1x11, .i32⟩
  | 82 => ⟨S3x11, .i32⟩
  | 83 => ⟨S3x11, .i32⟩
  | 84 => ⟨S3x11, .i32⟩
  | 85 => ⟨S_, .i32⟩
  | 86 => ⟨S3x4, .i32⟩
  | 87 => ⟨S3x4, .i32⟩
  | 88 => ⟨S_, .i32⟩
  | 89 => ⟨S_, .i32⟩
  | 90 => ⟨S_, .i32⟩
  | 91 => ⟨S3x4, .i32⟩
  | 92 => ⟨S3x4, .i32⟩
  | 93 => ⟨S_, .i32⟩
  | 94 => ⟨S3x4, .i32⟩
  | 95 => ⟨S3x4, .i32⟩
  | 96 => ⟨S3x1x11, .i32⟩
  | 97 => ⟨S3x4x1, .i32⟩
  | 98 => ⟨S3x4x11, .i32⟩
  | 99 => ⟨S3x4x11, .i32⟩
  | 100 => ⟨S3x4x11, .i1⟩
  | 101 => ⟨S3x1x11, .i32⟩
  | 102 => ⟨S3x4x1, .i32⟩
  | 103 => ⟨S_, .i32⟩
  | 104 => ⟨S3x4x1, .i32⟩
  | 105 => ⟨S3x4x1, .i32⟩
  | 106 => ⟨S3x4x11, .i32⟩
  | 107 => ⟨S3x4x11, .i32⟩
  | 108 => ⟨S3x4x11, .i1⟩
  | 109 => ⟨S3x4x11, .i1⟩
  | 110 => ⟨S3x1x11, .i32⟩
  | 111 => ⟨S3x4x1, .i32⟩
  | 112 => ⟨S3x4x11, .i32⟩
  | 113 => ⟨S3x4x11, .i32⟩
  | 114 => ⟨S3x4x11, .i32⟩
  | 115 => ⟨S_, .i32⟩
  | 116 => ⟨S3x4x11, .i32⟩
  | 117 => ⟨S3x4x11, .i32⟩
  | 118 => ⟨S_, .i32⟩
  | 119 => ⟨S3x4x11, .i32⟩
  | 120 => ⟨S3x4x11, .i32⟩
  | 121 => ⟨S3x4x11x1, .i1⟩
  | 122 => ⟨S3x4x11x1, .i32⟩
  | 123 => ⟨S15, .i32⟩
  | 124 => ⟨S1x1x1x15, .i32⟩
  | 125 => ⟨S3x4x11x15, .i32⟩
  | 126 => ⟨S3x4x11x15, .i32⟩
  | 127 => ⟨S3x4x11x15, .i1⟩
  | _ => ⟨S65536x2048, .bf16⟩

abbrev hbmTy0_1 (i : Nat) : BufTy := match i % 128 with
  | 0 => ⟨S3x4x11x15, .i1⟩
  | 1 => ⟨S3x4x11x15, .i1⟩
  | 2 => ⟨S3x4x11x15, .f32⟩
  | 3 => ⟨S3x4x1x11x1, .i1⟩
  | 4 => ⟨S1x1x64x1x64, .i1⟩
  | 5 => ⟨S3x4x64x11x64, .i1⟩
  | 6 => ⟨S3x4x64x11x64, .i1⟩
  | 7 => ⟨S3x4x64x11x64, .i1⟩
  | 8 => ⟨S1x64x64, .i32⟩
  | 9 => ⟨S31, .i32⟩
  | 10 => ⟨S31x1x1, .i32⟩
  | 11 => ⟨S31x64x64, .i32⟩
  | 12 => ⟨S31x64x64, .i32⟩
  | 13 => ⟨S31x64x64, .i1⟩
  | 14 => ⟨S31x64x64, .f32⟩
  | 15 => ⟨S8x15x31x1x1, .f32⟩
  | 16 => ⟨S1x1x31x64x64, .f32⟩
  | 17 => ⟨S8x15x31x64x64, .f32⟩
  | 18 => ⟨S8x15x31x64x64, .f32⟩
  | 19 => ⟨S8x15x31x64x64, .f32⟩
  | 20 => ⟨S_, .f32⟩
  | 21 => ⟨S8x15x64x64, .f32⟩
  | 22 => ⟨S3x1x4x1x11x1x15, .f32⟩
  | 23 => ⟨S8x64x64x15, .f32⟩
  | 24 => ⟨S1x8x1x64x1x64x15, .f32⟩
  | 25 => ⟨S3x8x4x64x11x64x15, .f32⟩
  | 26 => ⟨S3x8x4x64x11x64x15, .f32⟩
  | 27 => ⟨S3x8x4x64x11x64x15, .f32⟩
  | 28 => ⟨S_, .f32⟩
  | 29 => ⟨S3x8x4x64x11x64, .f32⟩
  | 30 => ⟨S3x1x4x64x11x64, .i1⟩
  | 31 => ⟨S_, .f32⟩
  | 32 => ⟨S_, .f32⟩
  | 33 => ⟨S3x8x4x64x11x64, .f32⟩
  | 34 => ⟨S3x8x4x64x11x64, .f32⟩
  | 35 => ⟨S_, .f32⟩
  | 36 => ⟨S_, .f32⟩
  | 37 => ⟨S3x8x4x64x11x64, .i1⟩
  | 38 => ⟨S3x8x4x64x11x64, .f32⟩
  | 39 => ⟨S3x8x4x64x11x64, .f32⟩
  | 40 => ⟨S3x8x256x704, .f32⟩
  | 41 => ⟨S65536x512, .bf16⟩
  | _ => ⟨S65536x2048, .bf16⟩

abbrev hbmTy (i : Nat) : BufTy := match i / 128 with
  | 0 => hbmTy0_0 i
  | 1 => hbmTy0_1 i
  | _ => ⟨S65536x2048, .bf16⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S256x512, .bf16⟩
  | .local _ .vmem, ⟨7, _⟩ => ⟨S256x512, .bf16⟩
  | .local _ .vmem, ⟨8, _⟩ => ⟨S256x1024, .bf16⟩
  | .local _ .vmem, ⟨9, _⟩ => ⟨S256x1024, .bf16⟩
  | .local _ .vmem, ⟨10, _⟩ => ⟨S1x8x256x704, .f32⟩
  | .local _ .vmem, ⟨11, _⟩ => ⟨S1x8x256x704, .f32⟩
  | .local _ .vmem, ⟨12, _⟩ => ⟨S256x512, .bf16⟩
  | .local _ .vmem, ⟨13, _⟩ => ⟨S256x512, .bf16⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_call2_v0 : Ref sig .tc := ⟨.hbm, 53, rfl⟩
abbrev main_call2_v1 : Ref sig .tc := ⟨.hbm, 54, rfl⟩
abbrev main_v30 : Ref sig .tc := ⟨.hbm, 55, rfl⟩
abbrev main_v31 : Ref sig .tc := ⟨.hbm, 56, rfl⟩
abbrev main_c_9 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_c_11 : Ref sig .tc := ⟨.hbm, 68, rfl⟩
abbrev main_v41 : Ref sig .tc := ⟨.hbm, 69, rfl⟩
abbrev main_v42 : Ref sig .tc := ⟨.hbm, 70, rfl⟩
abbrev main_c_12 : Ref sig .tc := ⟨.hbm, 71, rfl⟩
abbrev main_c_13 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_14 : Ref sig .tc := ⟨.hbm, 85, rfl⟩
abbrev main_v50 : Ref sig .tc := ⟨.hbm, 86, rfl⟩
abbrev main_v51 : Ref sig .tc := ⟨.hbm, 87, rfl⟩
abbrev main_c_15 : Ref sig .tc := ⟨.hbm, 88, rfl⟩
abbrev main_c_16 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_17 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_18 : Ref sig .tc := ⟨.hbm, 115, rfl⟩
abbrev main_v71 : Ref sig .tc := ⟨.hbm, 116, rfl⟩
abbrev main_v72 : Ref sig .tc := ⟨.hbm, 117, rfl⟩
abbrev main_c_19 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_20 : Ref sig .tc := ⟨.hbm, 156, rfl⟩
abbrev main_v109 : Ref sig .tc := ⟨.hbm, 157, rfl⟩
abbrev main_v110 : Ref sig .tc := ⟨.hbm, 158, rfl⟩
abbrev main_cst_21 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_22 : Ref sig .tc := ⟨.hbm, 163, rfl⟩
abbrev main_call5_v0 : Ref sig .tc := ⟨.hbm, 164, rfl⟩
abbrev main_call5_v1 : Ref sig .tc := ⟨.hbm, 165, rfl⟩
abbrev main_call5_v2 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  v4
def k0_off1 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v7 : Index := Scalar.indexCast v5
  let c0_2 : Index := 0#32
  ![v7.toNat, 0]
def k0_off2 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v16 : Index := Scalar.indexCast v5
  let c64_11 : Index := 64#32
  ![v16.toNat, 64]
def k0_off3 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v24 : Index := Scalar.indexCast v5
  let c0_19 : Index := 0#32
  ![v24.toNat, 0]
def k0_off4 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v50 : Index := Scalar.indexCast v5
  let c128_29 : Index := 128#32
  ![v50.toNat, 128]
def k0_off5 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v58 : Index := Scalar.indexCast v5
  let c128_37 : Index := 128#32
  ![v58.toNat, 128]
def k0_off6 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v84 : Index := Scalar.indexCast v5
  let c192_47 : Index := 192#32
  ![v84.toNat, 192]
def k0_off7 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v92 : Index := Scalar.indexCast v5
  let c256 : Index := 256#32
  ![v92.toNat, 256]
def k0_off8 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v118 : Index := Scalar.indexCast v5
  let c256_65 : Index := 256#32
  ![v118.toNat, 256]
def k0_off9 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v126 : Index := Scalar.indexCast v5
  let c384 : Index := 384#32
  ![v126.toNat, 384]
def k0_off10 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v152 : Index := Scalar.indexCast v5
  let c320_82 : Index := 320#32
  ![v152.toNat, 320]
def k0_off11 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v160 : Index := Scalar.indexCast v5
  let c512 : Index := 512#32
  ![v160.toNat, 512]
def k0_off12 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v186 : Index := Scalar.indexCast v5
  let c384_100 : Index := 384#32
  ![v186.toNat, 384]
def k0_off13 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v194 : Index := Scalar.indexCast v5
  let c640 : Index := 640#32
  ![v194.toNat, 640]
def k0_off14 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v220 : Index := Scalar.indexCast v5
  let c448_117 : Index := 448#32
  ![v220.toNat, 448]
def k0_off15 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v228 : Index := Scalar.indexCast v5
  let c768 : Index := 768#32
  ![v228.toNat, 768]
def k0_off16 (i : grid0.Coords) : Fin 2 → Nat :=
  let c21_i32 : BitVec 32 := 21#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v253 : Index := Scalar.indexCast v5
  let c896 : Index := 896#32
  ![v253.toNat, 896]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c7_i32 : BitVec 32 := 7#32
  let v1 : BitVec 1 := Scalar.cmpi .eq arg1 c7_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S65536x2048 : Shape := ⟨2, ![65536, 2048]⟩
abbrev S8192x2048 : Shape := ⟨2, ![8192, 2048]⟩
abbrev S8x15x31 : Shape := ⟨3, ![8, 15, 31]⟩
abbrev S65536x512 : Shape := ⟨2, ![65536, 512]⟩
abbrev S_ : Shape := ⟨0, ![]⟩
abbrev S32x32x64x8x64 : Shape := ⟨5, ![32, 32, 64, 8, 64]⟩
abbrev S65536x1024 : Shape := ⟨2, ![65536, 1024]⟩
abbrev S32x32x64x8x128 : Shape := ⟨5, ![32, 32, 64, 8, 128]⟩
abbrev S8192x512 : Shape := ⟨2, ![8192, 512]⟩
abbrev S32x256x8x64 : Shape := ⟨4, ![32, 256, 8, 64]⟩
abbrev S8192x1024 : Shape := ⟨2, ![8192, 1024]⟩
abbrev S32x256x8x128 : Shape := ⟨4, ![32, 256, 8, 128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S32x32x8x64x8x64 : Shape := ⟨6, ![32, 32, 8, 64, 8, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S8x32x64x8x64 : Shape := ⟨5, ![8, 32, 64, 8, 64]⟩
abbrev S32x8x32x64x8x64 : Shape := ⟨6, ![32, 8, 32, 64, 8, 64]⟩
abbrev S1x8x32x64x8x64 : Shape := ⟨6, ![1, 8, 32, 64, 8, 64]⟩
abbrev S1x1x1x64x1x64 : Shape := ⟨6, ![1, 1, 1, 64, 1, 64]⟩
abbrev S32x8x32x64x512 : Shape := ⟨5, ![32, 8, 32, 64, 512]⟩
abbrev S32x8x32x64x256 : Shape := ⟨5, ![32, 8, 32, 64, 256]⟩
abbrev S32x8x32x64x768 : Shape := ⟨5, ![32, 8, 32, 64, 768]⟩
abbrev S32x8x32x64 : Shape := ⟨4, ![32, 8, 32, 64]⟩
abbrev S32x8x32x64x1 : Shape := ⟨5, ![32, 8, 32, 64, 1]⟩
abbrev S32x32x8x64x64 : Shape := ⟨5, ![32, 32, 8, 64, 64]⟩
abbrev S32x8x64x32x64 : Shape := ⟨5, ![32, 8, 64, 32, 64]⟩

abbrev nBuf : Space → Nat
  | .hbm => 178
  | .vmem => 0
  | .smem => 0
  | _ => 0

abbrev hbmTy0_0 (i : Nat) : BufTy := match i % 128 with
  | 0 => ⟨S65536x2048, .bf16⟩
  | 1 => ⟨S8192x2048, .bf16⟩
  | 2 => ⟨S8x15x31, .f32⟩
  | 3 => ⟨S65536x2048, .f32⟩
  | 4 => ⟨S8192x2048, .f32⟩
  | 5 => ⟨S65536x512, .f32⟩
  | 6 => ⟨S_, .f32⟩
  | 7 => ⟨S_, .f32⟩
  | 8 => ⟨S_, .f32⟩
  | 9 => ⟨S_, .f32⟩
  | 10 => ⟨S65536x512, .f32⟩
  | 11 => ⟨S65536x512, .f32⟩
  | 12 => ⟨S32x32x64x8x64, .f32⟩
  | 13 => ⟨S65536x512, .f32⟩
  | 14 => ⟨S32x32x64x8x64, .f32⟩
  | 15 => ⟨S65536x1024, .f32⟩
  | 16 => ⟨S32x32x64x8x128, .f32⟩
  | 17 => ⟨S32x32x64x8x64, .f32⟩
  | 18 => ⟨S8192x512, .f32⟩
  | 19 => ⟨S32x256x8x64, .f32⟩
  | 20 => ⟨S8192x1024, .f32⟩
  | 21 => ⟨S32x256x8x128, .f32⟩
  | 22 => ⟨S32x256x8x64, .f32⟩
  | 23 => ⟨S64, .i32⟩
  | 24 => ⟨S_, .i32⟩
  | 25 => ⟨S64, .i32⟩
  | 26 => ⟨S64, .i32⟩
  | 27 => ⟨S_, .i32⟩
  | 28 => ⟨S_, .i32⟩
  | 29 => ⟨S_, .i32⟩
  | 30 => ⟨S64, .i32⟩
  | 31 => ⟨S64, .i32⟩
  | 32 => ⟨S_, .i32⟩
  | 33 => ⟨S64, .i32⟩
  | 34 => ⟨S64, .i32⟩
  | 35 => ⟨S1x64, .i32⟩
  | 36 => ⟨S64x1, .i32⟩
  | 37 => ⟨S64x64, .i32⟩
  | 38 => ⟨S64x64, .i32⟩
  | 39 => ⟨S64x64, .i1⟩
  | 40 => ⟨S1x64, .i32⟩
  | 41 => ⟨S64x1, .i32⟩
  | 42 => ⟨S_, .i32⟩
  | 43 => ⟨S64x1, .i32⟩
  | 44 => ⟨S64x1, .i32⟩
  | 45 => ⟨S64x64, .i32⟩
  | 46 => ⟨S64x64, .i32⟩
  | 47 => ⟨S64x64, .i1⟩
  | 48 => ⟨S64x64, .i1⟩
  | 49 => ⟨S1x64, .i32⟩
  | 50 => ⟨S64x1, .i32⟩
  | 51 => ⟨S64x64, .i32⟩
  | 52 => ⟨S64x64, .i32⟩
  | 53 => ⟨S64x64, .i32⟩
  | 54 => ⟨S_, .i32⟩
  | 55 => ⟨S_, .i32⟩
  | 56 => ⟨S_, .i32⟩
  | 57 => ⟨S64x64, .i32⟩
  | 58 => ⟨S64x64, .i32⟩
  | 59 => ⟨S_, .i32⟩
  | 60 => ⟨S64x64, .i32⟩
  | 61 => ⟨S64x64, .i32⟩
  | 62 => ⟨S_, .i32⟩
  | 63 => ⟨S64x64, .i32⟩
  | 64 => ⟨S64x64, .i32⟩
  | 65 => ⟨S_, .i32⟩
  | 66 => ⟨S64x64, .i32⟩
  | 67 => ⟨S64x64, .i32⟩
  | 68 => ⟨S32, .i32⟩
  | 69 => ⟨S_, .i32⟩
  | 70 => ⟨S32, .i32⟩
  | 71 => ⟨S32, .i32⟩
  | 72 => ⟨S_, .i32⟩
  | 73 => ⟨S_, .i32⟩
  | 74 => ⟨S_, .i32⟩
  | 75 => ⟨S32, .i32⟩
  | 76 => ⟨S32, .i32⟩
  | 77 => ⟨S_, .i32⟩
  | 78 => ⟨S32, .i32⟩
  | 79 => ⟨S32, .i32⟩
  | 80 => ⟨S32x1, .i32⟩
  | 81 => ⟨S8, .i32⟩
  | 82 => ⟨S1x8, .i32⟩
  | 83 => ⟨S32x8, .i32⟩
  | 84 => ⟨S32x8, .i32⟩
  | 85 => ⟨S32x8, .i32⟩
  | 86 => ⟨S32x1, .i32⟩
  | 87 => ⟨S32x8, .i32⟩
  | 88 => ⟨S32x8, .i32⟩
  | 89 => ⟨S_, .i32⟩
  | 90 => ⟨S32x8, .i32⟩
  | 91 => ⟨S32x8, .i32⟩
  | 92 => ⟨S_, .i32⟩
  | 93 => ⟨S32x8, .i32⟩
  | 94 => ⟨S32x8, .i32⟩
  | 95 => ⟨S_, .i32⟩
  | 96 => ⟨S32x8, .i32⟩
  | 97 => ⟨S32x8, .i1⟩
  | 98 => ⟨S_, .i32⟩
  | 99 => ⟨S32x8, .i32⟩
  | 100 => ⟨S32x8, .i32⟩
  | 101 => ⟨S32x8, .i32⟩
  | 102 => ⟨S32x8x1, .i32⟩
  | 103 => ⟨S32x32x8x64x8x64, .f32⟩
  | 104 => ⟨S_, .i32⟩
  | 105 => ⟨S32x8, .i32⟩
  | 106 => ⟨S32x8, .i1⟩
  | 107 => ⟨S_, .i32⟩
  | 108 => ⟨S32x8, .i32⟩
  | 109 => ⟨S32x8, .i32⟩
  | 110 => ⟨S32x8, .i32⟩
  | 111 => ⟨S32x8x1, .i32⟩
  | 112 => ⟨S32x32x8x64x8x64, .f32⟩
  | 113 => ⟨S32x1x8x1, .i32⟩
  | 114 => ⟨S1x64x1x64, .i32⟩
  | 115 => ⟨S_, .i32⟩
  | 116 => ⟨S32x1x8x1, .i32⟩
  | 117 => ⟨S32x1x8x1, .i1⟩
  | 118 => ⟨S_, .i32⟩
  | 119 => ⟨S32x1x8x1, .i32⟩
  | 120 => ⟨S32x1x8x1, .i32⟩
  | 121 => ⟨S32x1x8x1, .i32⟩
  | 122 => ⟨S_, .i32⟩
  | 123 => ⟨S1x64x1x64, .i32⟩
  | 124 => ⟨S1x64x1x64, .i1⟩
  | 125 => ⟨S_, .i32⟩
  | 126 => ⟨S1x64x1x64, .i32⟩
  | 127 => ⟨S1x64x1x64, .i32⟩
  | _ => ⟨S65536x2048, .bf16⟩

abbrev hbmTy0_1 (i : Nat) : BufTy := match i % 128 with
  | 0 => ⟨S1x64x1x64, .i32⟩
  | 1 => ⟨S32x64x8x64, .i32⟩
  | 2 => ⟨S32x64x8x64, .i32⟩
  | 3 => ⟨S32x64x8x64x1, .i32⟩
  | 4 => ⟨S32x64x8x64x1, .i32⟩
  | 5 => ⟨S32x64x8x64x2, .i32⟩
  | 6 => ⟨S8x32x64x8x64, .f32⟩
  | 7 => ⟨S32x8x32x64x8x64, .f32⟩
  | 8 => ⟨S_, .f32⟩
  | 9 => ⟨S32x8x32x64x8x64, .f32⟩
  | 10 => ⟨S32x8x32x64x8x64, .f32⟩
  | 11 => ⟨S1x8x32x64x8x64, .f32⟩
  | 12 => ⟨S32x8x32x64x8x64, .f32⟩
  | 13 => ⟨S32x8x32x64x8x64, .f32⟩
  | 14 => ⟨S1x1x1x64x1x64, .i1⟩
  | 15 => ⟨S_, .f32⟩
  | 16 => ⟨S_, .f32⟩
  | 17 => ⟨S32x8x32x64x8x64, .i1⟩
  | 18 => ⟨S32x8x32x64x8x64, .f32⟩
  | 19 => ⟨S32x8x32x64x8x64, .f32⟩
  | 20 => ⟨S32x8x32x64x512, .f32⟩
  | 21 => ⟨S32x8x32x64x256, .f32⟩
  | 22 => ⟨S_, .f32⟩
  | 23 => ⟨S32x8x32x64x256, .f32⟩
  | 24 => ⟨S32x8x32x64x256, .f32⟩
  | 25 => ⟨S32x8x32x64x768, .f32⟩
  | 26 => ⟨S_, .f32⟩
  | 27 => ⟨S32x8x32x64, .f32⟩
  | 28 => ⟨S_, .f32⟩
  | 29 => ⟨S32x8x32x64, .f32⟩
  | 30 => ⟨S32x8x32x64, .f32⟩
  | 31 => ⟨S32x8x32x64x1, .f32⟩
  | 32 => ⟨S32x8x32x64x768, .f32⟩
  | 33 => ⟨S32x8x32x64x768, .f32⟩
  | 34 => ⟨S32x8x32x64x768, .f32⟩
  | 35 => ⟨S_, .f32⟩
  | 36 => ⟨S32x8x32x64, .f32⟩
  | 37 => ⟨S32x8x32x64x1, .f32⟩
  | 38 => ⟨S32x8x32x64x768, .f32⟩
  | 39 => ⟨S32x8x32x64x768, .f32⟩
  | 40 => ⟨S32x8x32x64x512, .f32⟩
  | 41 => ⟨S32x8x32x64x8x64, .f32⟩
  | 42 => ⟨S32x32x8x64x64, .f32⟩
  | 43 => ⟨S32x32x64x8x64, .f32⟩
  | 44 => ⟨S32x8x32x64x256, .f32⟩
  | 45 => ⟨S32x8x64x32x64, .f32⟩
  | 46 => ⟨S32x32x64x8x64, .f32⟩
  | 47 => ⟨S32x32x64x8x64, .f32⟩
  | 48 => ⟨S65536x512, .f32⟩
  | 49 => ⟨S65536x512, .bf16⟩
  | _ => ⟨S65536x2048, .bf16⟩

abbrev hbmTy (i : Nat) : BufTy := match i / 128 with
  | 0 => hbmTy0_0 i
  | 1 => hbmTy0_1 i
  | _ => ⟨S65536x2048, .bf16⟩

abbrev bufTy : (tb : Table) → Fin (tcTables nBuf tb) → BufTy
  | .hbm, ⟨i, _⟩ => hbmTy i
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_c_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_4 : Ref sig .tc := ⟨.hbm, 54, rfl⟩
abbrev main_c_5 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_c_10 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_c_12 : Ref sig .tc := ⟨.hbm, 92, rfl⟩
abbrev main_v60 : Ref sig .tc := ⟨.hbm, 93, rfl⟩
abbrev main_v61 : Ref sig .tc := ⟨.hbm, 94, rfl⟩
abbrev main_c_13 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_15 : Ref sig .tc := ⟨.hbm, 104, rfl⟩
abbrev main_v69 : Ref sig .tc := ⟨.hbm, 105, rfl⟩
abbrev main_v70 : Ref sig .tc := ⟨.hbm, 106, rfl⟩
abbrev main_c_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_17 : Ref sig .tc := ⟨.hbm, 115, rfl⟩
abbrev main_v78 : Ref sig .tc := ⟨.hbm, 116, rfl⟩
abbrev main_v79 : Ref sig .tc := ⟨.hbm, 117, rfl⟩
abbrev main_c_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_19 : Ref sig .tc := ⟨.hbm, 122, rfl⟩
abbrev main_v83 : Ref sig .tc := ⟨.hbm, 123, rfl⟩
abbrev main_v84 : Ref sig .tc := ⟨.hbm, 124, rfl⟩
abbrev main_c_20 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_21 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_22 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_24 : Ref sig .tc := ⟨.hbm, 154, rfl⟩
abbrev main_v107 : Ref sig .tc := ⟨.hbm, 155, rfl⟩
abbrev main_cst_25 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_26 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩

abbrev nD : Nat := 1
abbrev τ : Topo := Topo.v7x

variable {F : FTy → Type} [FloatOps F]
-- ==== Kernel2.lean ====
abbrev S65536x1024 : Shape := ⟨2, ![65536, 1024]⟩
abbrev S1x1024 : Shape := ⟨2, ![1, 1024]⟩
abbrev S32x1x1024 : Shape := ⟨3, ![32, 1, 1024]⟩
abbrev S1024x2816 : Shape := ⟨2, ![1024, 2816]⟩
abbrev S65536x2048 : Shape := ⟨2, ![65536, 2048]⟩
abbrev S65536x768 : Shape := ⟨2, ![65536, 768]⟩
abbrev S65536x512 : Shape := ⟨2, ![65536, 512]⟩
abbrev S512x1024 : Shape := ⟨2, ![512, 1024]⟩
abbrev S1x1x1024 : Shape := ⟨3, ![1, 1, 1024]⟩
abbrev S512x2048 : Shape := ⟨2, ![512, 2048]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S512x64 : Shape := ⟨2, ![512, 64]⟩
abbrev S1024x768 : Shape := ⟨2, ![1024, 768]⟩

abbrev nBuf : Space → Nat
  | .hbm => 8
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S32x1x1024, .f32⟩
  | .hbm, ⟨3, _⟩ => ⟨S32x1x1024, .f32⟩
  | .hbm, ⟨4, _⟩ => ⟨S1024x2816, .bf16⟩
  | .hbm, ⟨5, _⟩ => ⟨S65536x2048, .bf16⟩
  | .hbm, ⟨6, _⟩ => ⟨S65536x768, .f32⟩
  | .hbm, ⟨7, _⟩ => ⟨S65536x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2816, .bf16⟩
  | .local _ .vmem, ⟨8, _⟩ => ⟨S512x2048, .bf16⟩
  | .local _ .vmem, ⟨9, _⟩ => ⟨S512x2048, .bf16⟩
  | .local _ .vmem, ⟨10, _⟩ => ⟨S512x768, .f32⟩
  | .local _ .vmem, ⟨11, _⟩ => ⟨S512x768, .f32⟩
  | .local _ .vmem, ⟨12, _⟩ => ⟨S512x512, .f32⟩
  | .local _ .vmem, ⟨13, _⟩ => ⟨S512x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S65536x1024 : Shape := ⟨2, ![65536, 1024]⟩
abbrev S1x1024 : Shape := ⟨2, ![1, 1024]⟩
abbrev S32x1x1024 : Shape := ⟨3, ![32, 1, 1024]⟩
abbrev S1024x2816 : Shape := ⟨2, ![1024, 2816]⟩
abbrev S32x2048x1024 : Shape := ⟨3, ![32, 2048, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S65536x2816 : Shape := ⟨2, ![65536, 2816]⟩
abbrev S65536x512 : Shape := ⟨2, ![65536, 512]⟩
abbrev S65536x768 : Shape := ⟨2, ![65536, 768]⟩
abbrev S65536x8x1 : Shape := ⟨3, ![65536, 8, 1]⟩
abbrev S65536x8x63 : Shape := ⟨3, ![65536, 8, 63]⟩
abbrev S65536x8x64 : Shape := ⟨3, ![65536, 8, 64]⟩
abbrev S65536x8x128 : Shape := ⟨3, ![65536, 8, 128]⟩
abbrev S65536x2048 : Shape := ⟨2, ![65536, 2048]⟩

abbrev nBuf : Space → Nat
  | .hbm => 50
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S32x1x1024, .f32⟩
  | .hbm, ⟨3, _⟩ => ⟨S32x1x1024, .f32⟩
  | .hbm, ⟨4, _⟩ => ⟨S1024x2816, .bf16⟩
  | .hbm, ⟨5, _⟩ => ⟨S32x2048x1024, .f32⟩
  | .hbm, ⟨6, _⟩ => ⟨S1024, .f32⟩
  | .hbm, ⟨7, _⟩ => ⟨S32x2048x1024, .f32⟩
  | .hbm, ⟨8, _⟩ => ⟨S_, .f32⟩
  | .hbm, ⟨9, _⟩ => ⟨S32x2048, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S1x1x1024, .f32⟩
  | .hbm, ⟨21, _⟩ => ⟨S32x2048x1024, .f32⟩
  | .hbm, ⟨22, _⟩ => ⟨S32x2048x1024, .f32⟩
  | .hbm, ⟨23, _⟩ => ⟨S_, .f32⟩
  | .hbm, ⟨24, _⟩ => ⟨S32x1x1024, .f32⟩
  | .hbm, ⟨25, _⟩ => ⟨S32x1x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S1024x2816, .f32⟩
  | .hbm, ⟨31, _⟩ => ⟨S32x2048x2816, .f32⟩
  | .hbm, ⟨32, _⟩ => ⟨S65536x2816, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S65536x768, .f32⟩
  | .hbm, ⟨37, _⟩ => ⟨S65536x512, .f32⟩
  | .hbm, ⟨38, _⟩ => ⟨S_, .f32⟩
  | .hbm, ⟨39, _⟩ => ⟨S65536x8x1, .f32⟩
  | .hbm, ⟨40, _⟩ => ⟨S_, .f32⟩
  | .hbm, ⟨41, _⟩ => ⟨S65536x8x63, .f32⟩
  | .hbm, ⟨42, _⟩ => ⟨S65536x8x64, .f32⟩
  | .hbm, ⟨43, _⟩ => ⟨S65536x8x128, .f32⟩
  | .hbm, ⟨44, _⟩ => ⟨S65536x1024, .f32⟩
  | .hbm, ⟨45, _⟩ => ⟨S_, .f32⟩
  | .hbm, ⟨46, _⟩ => ⟨S65536x512, .f32⟩
  | .hbm, ⟨47, _⟩ => ⟨S65536x512, .f32⟩
  | .hbm, ⟨48, _⟩ => ⟨S65536x2048, .f32⟩
  | .hbm, ⟨49, _⟩ => ⟨S65536x2048, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel3.lean ====
abbrev S65536x512 : Shape := ⟨2, ![65536, 512]⟩
abbrev S16x32x256x128 : Shape := ⟨4, ![16, 32, 256, 128]⟩
abbrev S65536x256 : Shape := ⟨2, ![65536, 256]⟩
abbrev S65536x1024 : Shape := ⟨2, ![65536, 1024]⟩
abbrev S32x1x1024 : Shape := ⟨3, ![32, 1, 1024]⟩
abbrev S1024x1024 : Shape := ⟨2, ![1024, 1024]⟩
abbrev S1x1024 : Shape := ⟨2, ![1, 1024]⟩
abbrev S16x1024 : Shape := ⟨2, ![16, 1024]⟩
abbrev S32x16x2048 : Shape := ⟨3, ![32, 16, 2048]⟩
abbrev S512x512 : Shape := ⟨2, ![512, 512]⟩
abbrev S4x1x256x128 : Shape := ⟨4, ![4, 1, 256, 128]⟩
abbrev S512x256 : Shape := ⟨2, ![512, 256]⟩
abbrev S512x1024 : Shape := ⟨2, ![512, 1024]⟩
abbrev S1x1x1024 : Shape := ⟨3, ![1, 1, 1024]⟩
abbrev S1x16x512 : Shape := ⟨3, ![1, 16, 512]⟩
abbrev S1x1x256x128 : Shape := ⟨4, ![1, 1, 256, 128]⟩
abbrev S256x128 : Shape := ⟨2, ![256, 128]⟩
abbrev S128x256 : Shape := ⟨2, ![128, 256]⟩
abbrev S256x1024 : Shape := ⟨2, ![256, 1024]⟩
abbrev S512 : Shape := ⟨1, ![512]⟩
abbrev S512x1 : Shape := ⟨2, ![512, 1]⟩
abbrev S16x512 : Shape := ⟨2, ![16, 512]⟩

abbrev nBuf : Space → Nat
  | .hbm => 13
  | .vmem => 23
  | .smem => 0
  | _ => 0

abbrev bufTy : (tb : Table) → Fin (tcTables nBuf tb) → BufTy
  | .hbm, ⟨0, _⟩ => ⟨S65536x512, .bf16⟩
  | .hbm, ⟨1, _⟩ => ⟨S16x32x256x128, .f32⟩
  | .hbm, ⟨2, _⟩ => ⟨S65536x256, .bf16⟩
  | .hbm, ⟨3, _⟩ => ⟨S65536x1024, .f32⟩
  | .hbm, ⟨4, _⟩ => ⟨S32x1x1024, .f32⟩
  | .hbm, ⟨5, _⟩ => ⟨S1024x1024, .bf16⟩
  | .hbm, ⟨6, _⟩ => ⟨S1x1024, .f32⟩
  | .hbm, ⟨7, _⟩ => ⟨S32x1x1024, .f32⟩
  | .hbm, ⟨8, _⟩ => ⟨S32x1x1024, .f32⟩
  | .hbm, ⟨9, _⟩ => ⟨S16x1024, .bf16⟩
  | .hbm, ⟨10, _⟩ => ⟨S65536x1024, .f32⟩
  | .hbm, ⟨11, _⟩ => ⟨S65536x1024, .bf16⟩
  | .hbm, ⟨12, _⟩ => ⟨S32x16x2048, .f32⟩
  | .local _ .vmem, ⟨0, _⟩ => ⟨S512x512, .bf16⟩
  | .local _ .vmem, ⟨1, _⟩ => ⟨S512x512, .bf16⟩
  | .local _ .vmem, ⟨2, _⟩ => ⟨S4x1x256x128, .f32⟩
  | .local _ .vmem, ⟨3, _⟩ => ⟨S4x1x256x128, .f32⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S16x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1x16x512, .f32⟩
  | .local _ .vmem, ⟨22, _⟩ => ⟨S1x16x512, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S65536x512 : Shape := ⟨2, ![65536, 512]⟩
abbrev S16x32x256x128 : Shape := ⟨4, ![16, 32, 256, 128]⟩
abbrev S65536x256 : Shape := ⟨2, ![65536, 256]⟩
abbrev S65536x1024 : Shape := ⟨2, ![65536, 1024]⟩
abbrev S32x1x1024 : Shape := ⟨3, ![32, 1, 1024]⟩
abbrev S1024x1024 : Shape := ⟨2, ![1024, 1024]⟩
abbrev S1x1024 : Shape := ⟨2, ![1, 1024]⟩
abbrev S16x1024 : Shape := ⟨2, ![16, 1024]⟩
abbrev S32x16x128x256 : Shape := ⟨4, ![32, 16, 128, 256]⟩
abbrev S32x2048x256 : Shape := ⟨3, ![32, 2048, 256]⟩
abbrev S32x2048x512 : Shape := ⟨3, ![32, 2048, 512]⟩
abbrev S32x2048x1024 : Shape := ⟨3, ![32, 2048, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x16 : Shape := ⟨2, ![1024, 16]⟩
abbrev S32x2048x16 : Shape := ⟨3, ![32, 2048, 16]⟩
abbrev S32x16x2048 : Shape := ⟨3, ![32, 16, 2048]⟩

abbrev nBuf : Space → Nat
  | .hbm => 54
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S16x32x256x128, .f32⟩
  | .hbm, ⟨2, _⟩ => ⟨S65536x256, .bf16⟩
  | .hbm, ⟨3, _⟩ => ⟨S65536x1024, .f32⟩
  | .hbm, ⟨4, _⟩ => ⟨S32x1x1024, .f32⟩
  | .hbm, ⟨5, _⟩ => ⟨S1024x1024, .bf16⟩
  | .hbm, ⟨6, _⟩ => ⟨S1x1024, .f32⟩
  | .hbm, ⟨7, _⟩ => ⟨S32x1x1024, .f32⟩
  | .hbm, ⟨8, _⟩ => ⟨S32x1x1024, .f32⟩
  | .hbm, ⟨9, _⟩ => ⟨S16x1024, .bf16⟩
  | .hbm, ⟨10, _⟩ => ⟨S32x16x128x256, .f32⟩
  | .hbm, ⟨11, _⟩ => ⟨S32x2048x256, .f32⟩
  | .hbm, ⟨12, _⟩ => ⟨S65536x512, .f32⟩
  | .hbm, ⟨13, _⟩ => ⟨S32x2048x512, .f32⟩
  | .hbm, ⟨14, _⟩ => ⟨S65536x256, .f32⟩
  | .hbm, ⟨15, _⟩ => ⟨S32x2048x256, .f32⟩
  | .hbm, ⟨16, _⟩ => ⟨S32x2048x1024, .f32⟩
  | .hbm, ⟨17, _⟩ => ⟨S32x2048x1024, .f32⟩
  | .hbm, ⟨18, _⟩ => ⟨S1024x1024, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S1024, .f32⟩
  | .hbm, ⟨24, _⟩ => ⟨S32x2048x1024, .f32⟩
  | .hbm, ⟨25, _⟩ => ⟨S_, .f32⟩
  | .hbm, ⟨26, _⟩ => ⟨S32x2048, .f32⟩
  | .hbm, ⟨27, _⟩ => ⟨S32x2048x1, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S_, .f32⟩
  | .hbm, ⟨32, _⟩ => ⟨S32x2048x1, .f32⟩
  | .hbm, ⟨33, _⟩ => ⟨S32x2048x1, .f32⟩
  | .hbm, ⟨34, _⟩ => ⟨S32x2048x1, .f32⟩
  | .hbm, ⟨35, _⟩ => ⟨S32x2048x1024, .f32⟩
  | .hbm, ⟨36, _⟩ => ⟨S32x2048x1024, .f32⟩
  | .hbm, ⟨37, _⟩ => ⟨S1x1x1024, .f32⟩
  | .hbm, ⟨38, _⟩ => ⟨S32x2048x1024, .f32⟩
  | .hbm, ⟨39, _⟩ => ⟨S32x2048x1024, .f32⟩
  | .hbm, ⟨40, _⟩ => ⟨S_, .f32⟩
  | .hbm, ⟨41, _⟩ => ⟨S32x1x1024, .f32⟩
  | .hbm, ⟨42, _⟩ => ⟨S32x1x1024, .f32⟩
  | .hbm, ⟨43, _⟩ => ⟨S32x2048x1024, .f32⟩
  | .hbm, ⟨44, _⟩ => ⟨S32x2048x1024, .f32⟩
  | .hbm, ⟨45, _⟩ => ⟨S32x2048x1024, .f32⟩
  | .hbm, ⟨46, _⟩ => ⟨S32x2048x1024, .f32⟩
  | .hbm, ⟨47, _⟩ => ⟨S16x1024, .f32⟩
  | .hbm, ⟨48, _⟩ => ⟨S1024x16, .f32⟩
  | .hbm, ⟨49, _⟩ => ⟨S32x2048x16, .f32⟩
  | .hbm, ⟨50, _⟩ => ⟨S32x16x2048, .f32⟩
  | .hbm, ⟨51, _⟩ => ⟨S65536x1024, .f32⟩
  | .hbm, ⟨52, _⟩ => ⟨S65536x1024, .f32⟩
  | .hbm, ⟨53, _⟩ => ⟨S65536x1024, .bf16⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S32x4096x1024 : Shape := ⟨3, ![32, 4096, 1024]⟩
abbrev S2x16x1024x2048 : Shape := ⟨4, ![2, 16, 1024, 2048]⟩
abbrev S2x16x2048x1024 : Shape := ⟨4, ![2, 16, 2048, 1024]⟩
abbrev S2x256x1024 : Shape := ⟨3, ![2, 256, 1024]⟩
abbrev S2x1024x2048 : Shape := ⟨3, ![2, 1024, 2048]⟩
abbrev S2x2048x1024 : Shape := ⟨3, ![2, 2048, 1024]⟩
abbrev S2x64x2048 : Shape := ⟨3, ![2, 64, 2048]⟩
abbrev S2x128x1024 : Shape := ⟨3, ![2, 128, 1024]⟩
abbrev S2x3 : Shape := ⟨2, ![2, 3]⟩
abbrev S1x1 : Shape := ⟨2, ![1, 1]⟩
abbrev S_ : Shape := ⟨0, ![]⟩
abbrev S1x64x2048 : Shape := ⟨3, ![1, 64, 2048]⟩
abbrev S64x2048 : Shape := ⟨2, ![64, 2048]⟩
abbrev S1x1x64x2048 : Shape := ⟨4, ![1, 1, 64, 2048]⟩
abbrev S1x128x1024 : Shape := ⟨3, ![1, 128, 1024]⟩
abbrev S128x1024 : Shape := ⟨2, ![128, 1024]⟩
abbrev S1x1x128x1024 : Shape := ⟨4, ![1, 1, 128, 1024]⟩
abbrev S512x1024 : Shape := ⟨2, ![512, 1024]⟩
abbrev S1x1024x2048 : Shape := ⟨3, ![1, 1024, 2048]⟩
abbrev S1024x2048 : Shape := ⟨2, ![1024, 2048]⟩
abbrev S512x2048 : Shape := ⟨2, ![512, 2048]⟩
abbrev S1x2048x1024 : Shape := ⟨3, ![1, 2048, 1024]⟩
abbrev S2048x1024 : Shape := ⟨2, ![2048, 1024]⟩

abbrev nBuf : Space → Nat
  | .hbm => 5
  | .vmem => 10
  | .smem => 0
  | _ => 0

abbrev bufTy : (tb : Table) → Fin (tcTables nBuf tb) → BufTy
  | .hbm, ⟨0, _⟩ => ⟨S32x4096x1024, .bf16⟩
  | .hbm, ⟨1, _⟩ => ⟨S2x16x1024x2048, .f32⟩
  | .hbm, ⟨2, _⟩ => ⟨S2x16x1024x2048, .f32⟩
  | .hbm, ⟨3, _⟩ => ⟨S2x16x2048x1024, .f32⟩
  | .hbm, ⟨4, _⟩ => ⟨S32x4096x1024, .bf16⟩
  | .local _ .vmem, ⟨0, _⟩ => ⟨S2x256x1024, .bf16⟩
  | .local _ .vmem, ⟨1, _⟩ => ⟨S2x256x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S2x1024x2048, .bf16⟩
  | .local _ .vmem, ⟨5, _⟩ => ⟨S2x1024x2048, .bf16⟩
  | .local _ .vmem, ⟨6, _⟩ => ⟨S2x2048x1024, .bf16⟩
  | .local _ .vmem, ⟨7, _⟩ => ⟨S2x64x2048, .f32⟩
  | .local _ .vmem, ⟨8, _⟩ => ⟨S2x64x2048, .f32⟩
  | .local _ .vmem, ⟨9, _⟩ => ⟨S2x128x1024, .f32⟩
  | _, _ => ⟨S32x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_87 : BitVec 32 := 0#32
  c0_i32_87
def k0_mult2 : BitVec 32 :=
  let c0_i32_88 : BitVec 32 := 0#32
  c0_i32_88
def k0_mult3 : BitVec 32 :=
  let c64_i32_113 : BitVec 32 := 64#32
  c64_i32_113
def k0_mult4 : BitVec 32 :=
  let c128_i32_114 : BitVec 32 := 128#32
  c128_i32_114
def k0_mult5 : BitVec 32 :=
  let c0_i32_139 : BitVec 32 := 0#32
  c0_i32_139
def k0_mult6 : BitVec 32 :=
  let c0_i32_140 : BitVec 32 := 0#32
  c0_i32_140
def k0_mult7 : BitVec 32 :=
  let c0_i32_165 : BitVec 32 := 0#32
  c0_i32_165
def k0_mult8 : BitVec 32 :=
  let c0_i32_166 : BitVec 32 := 0#32
  c0_i32_166
def k0_mult9 : BitVec 32 :=
  let c128_i32_182 : BitVec 32 := 128#32
  c128_i32_182
def k0_mult10 : BitVec 32 :=
  let c256_i32 : BitVec 32 := 256#32
  c256_i32
def k0_mult11 : BitVec 32 :=
  let c64_i32_207 : BitVec 32 := 64#32
  c64_i32_207
def k0_mult12 : BitVec 32 :=
  let c128_i32_208 : BitVec 32 := 128#32
  c128_i32_208
def k0_mult13 : BitVec 32 :=
  let c64_i32_233 : BitVec 32 := 64#32
  c64_i32_233
def k0_mult14 : BitVec 32 :=
  let c128_i32_234 : BitVec 32 := 128#32
  c128_i32_234
def k0_mult15 : BitVec 32 :=
  let c192_i32 : BitVec 32 := 192#32
  c192_i32
def k0_mult16 : BitVec 32 :=
  let c384_i32 : BitVec 32 := 384#32
  c384_i32
def k0_mult17 : BitVec 32 :=
  let c128_i32_273 : BitVec 32 := 128#32
  c128_i32_273
def k0_mult18 : BitVec 32 :=
  let c256_i32_274 : BitVec 32 := 256#32
  c256_i32_274
def k0_mult19 : BitVec 32 :=
  let c128_i32_299 : BitVec 32 := 128#32
  c128_i32_299
def k0_mult20 : BitVec 32 :=
  let c256_i32_300 : BitVec 32 := 256#32
  c256_i32_300
def k0_mult21 : BitVec 32 :=
  let c256_i32_316 : BitVec 32 := 256#32
  c256_i32_316
def k0_mult22 : BitVec 32 :=
  let c512_i32 : BitVec 32 := 512#32
  c512_i32
def k0_mult23 : BitVec 32 :=
  let c192_i32_341 : BitVec 32 := 192#32
  c192_i32_341
def k0_mult24 : BitVec 32 :=
  let c384_i32_342 : BitVec 32 := 384#32
  c384_i32_342
def k0_mult25 : BitVec 32 :=
  let c192_i32_367 : BitVec 32 := 192#32
  c192_i32_367
def k0_mult26 : BitVec 32 :=
  let c384_i32_368 : BitVec 32 := 384#32
  c384_i32_368
def k0_mult27 : BitVec 32 :=
  let c320_i32 : BitVec 32 := 320#32
  c320_i32
def k0_mult28 : BitVec 32 :=
  let c640_i32 : BitVec 32 := 640#32
  c640_i32
def k0_mult29 : BitVec 32 :=
  let c256_i32_408 : BitVec 32 := 256#32
  c256_i32_408
def k0_mult30 : BitVec 32 :=
  let c512_i32_409 : BitVec 32 := 512#32
  c512_i32_409
def k0_mult31 : BitVec 32 :=
  let c256_i32_434 : BitVec 32 := 256#32
  c256_i32_434
def k0_mult32 : BitVec 32 :=
  let c512_i32_435 : BitVec 32 := 512#32
  c512_i32_435
def k0_mult33 : BitVec 32 :=
  let c384_i32_451 : BitVec 32 := 384#32
  c384_i32_451
def k0_mult34 : BitVec 32 :=
  let c768_i32 : BitVec 32 := 768#32
  c768_i32
def k0_mult35 : BitVec 32 :=
  let c320_i32_476 : BitVec 32 := 320#32
  c320_i32_476
def k0_mult36 : BitVec 32 :=
  let c640_i32_477 : BitVec 32 := 640#32
  c640_i32_477
def k0_mult37 : BitVec 32 :=
  let c320_i32_502 : BitVec 32 := 320#32
  c320_i32_502
def k0_mult38 : BitVec 32 :=
  let c640_i32_503 : BitVec 32 := 640#32
  c640_i32_503
def k0_mult39 : BitVec 32 :=
  let c448_i32 : BitVec 32 := 448#32
  c448_i32
def k0_mult40 : BitVec 32 :=
  let c896_i32 : BitVec 32 := 896#32
  c896_i32
def k0_mult41 : BitVec 32 :=
  let c384_i32_543 : BitVec 32 := 384#32
  c384_i32_543
def k0_mult42 : BitVec 32 :=
  let c768_i32_544 : BitVec 32 := 768#32
  c768_i32_544
def k0_mult43 : BitVec 32 :=
  let c384_i32_569 : BitVec 32 := 384#32
  c384_i32_569
def k0_mult44 : BitVec 32 :=
  let c768_i32_570 : BitVec 32 := 768#32
  c768_i32_570
def k0_mult45 : BitVec 32 :=
  let c512_i32_586 : BitVec 32 := 512#32
  c512_i32_586
def k0_mult46 : BitVec 32 :=
  let c1024_i32 : BitVec 32 := 1024#32
  c1024_i32
def k0_mult47 : BitVec 32 :=
  let c448_i32_611 : BitVec 32 := 448#32
  c448_i32_611
def k0_mult48 : BitVec 32 :=
  let c896_i32_612 : BitVec 32 := 896#32
  c896_i32_612
def k0_mult49 : BitVec 32 :=
  let c448_i32_637 : BitVec 32 := 448#32
  c448_i32_637
def k0_mult50 : BitVec 32 :=
  let c896_i32_638 : BitVec 32 := 896#32
  c896_i32_638
def k0_mult51 : BitVec 32 :=
  let c576_i32 : BitVec 32 := 576#32
  c576_i32
def k0_mult52 : BitVec 32 :=
  let c1152_i32 : BitVec 32 := 1152#32
  c1152_i32
def k0_mult53 : BitVec 32 :=
  let c512_i32_678 : BitVec 32 := 512#32
  c512_i32_678
def k0_mult54 : BitVec 32 :=
  let c1024_i32_679 : BitVec 32 := 1024#32
  c1024_i32_679
def k0_mult55 : BitVec 32 :=
  let c512_i32_704 : BitVec 32 := 512#32
  c512_i32_704
def k0_mult56 : BitVec 32 :=
  let c1024_i32_705 : BitVec 32 := 1024#32
  c1024_i32_705
def k0_mult57 : BitVec 32 :=
  let c640_i32_721 : BitVec 32 := 640#32
  c640_i32_721
def k0_mult58 : BitVec 32 :=
  let c1280_i32 : BitVec 32 := 1280#32
  c1280_i32
def k0_mult59 : BitVec 32 :=
  let c576_i32_746 : BitVec 32 := 576#32
  c576_i32_746
def k0_mult60 : BitVec 32 :=
  let c1152_i32_747 : BitVec 32 := 1152#32
  c1152_i32_747
def k0_mult61 : BitVec 32 :=
  let c576_i32_772 : BitVec 32 := 576#32
  c576_i32_772
def k0_mult62 : BitVec 32 :=
  let c1152_i32_773 : BitVec 32 := 1152#32
  c1152_i32_773
def k0_mult63 : BitVec 32 :=
  let c704_i32 : BitVec 32 := 704#32
  c704_i32
def k0_mult64 : BitVec 32 :=
  let c1408_i32 : BitVec 32 := 1408#32
  c1408_i32
def k0_mult65 : BitVec 32 :=
  let c640_i32_813 : BitVec 32 := 640#32
  c640_i32_813
def k0_mult66 : BitVec 32 :=
  let c1280_i32_814 : BitVec 32 := 1280#32
  c1280_i32_814
def k0_mult67 : BitVec 32 :=
  let c640_i32_839 : BitVec 32 := 640#32
  c640_i32_839
def k0_mult68 : BitVec 32 :=
  let c1280_i32_840 : BitVec 32 := 1280#32
  c1280_i32_840
def k0_mult69 : BitVec 32 :=
  let c768_i32_856 : BitVec 32 := 768#32
  c768_i32_856
def k0_mult70 : BitVec 32 :=
  let c1536_i32 : BitVec 32 := 1536#32
  c1536_i32
def k0_mult71 : BitVec 32 :=
  let c704_i32_881 : BitVec 32 := 704#32
  c704_i32_881
def k0_mult72 : BitVec 32 :=
  let c1408_i32_882 : BitVec 32 := 1408#32
  c1408_i32_882
def k0_mult73 : BitVec 32 :=
  let c704_i32_907 : BitVec 32 := 704#32
  c704_i32_907
def k0_mult74 : BitVec 32 :=
  let c1408_i32_908 : BitVec 32 := 1408#32
  c1408_i32_908
def k0_mult75 : BitVec 32 :=
  let c832_i32 : BitVec 32 := 832#32
  c832_i32
def k0_mult76 : BitVec 32 :=
  let c1664_i32 : BitVec 32 := 1664#32
  c1664_i32
def k0_mult77 : BitVec 32 :=
  let c768_i32_948 : BitVec 32 := 768#32
  c768_i32_948
def k0_mult78 : BitVec 32 :=
  let c1536_i32_949 : BitVec 32 := 1536#32
  c1536_i32_949
def k0_mult79 : BitVec 32 :=
  let c768_i32_974 : BitVec 32 := 768#32
  c768_i32_974
def k0_mult80 : BitVec 32 :=
  let c1536_i32_975 : BitVec 32 := 1536#32
  c1536_i32_975
def k0_mult81 : BitVec 32 :=
  let c896_i32_991 : BitVec 32 := 896#32
  c896_i32_991
def k0_mult82 : BitVec 32 :=
  let c1792_i32 : BitVec 32 := 1792#32
  c1792_i32
def k0_mult83 : BitVec 32 :=
  let c832_i32_1016 : BitVec 32 := 832#32
  c832_i32_1016
def k0_mult84 : BitVec 32 :=
  let c1664_i32_1017 : BitVec 32 := 1664#32
  c1664_i32_1017
def k0_mult85 : BitVec 32 :=
  let c832_i32_1042 : BitVec 32 := 832#32
  c832_i32_1042
def k0_mult86 : BitVec 32 :=
  let c1664_i32_1043 : BitVec 32 := 1664#32
  c1664_i32_1043
def k0_mult87 : BitVec 32 :=
  let c960_i32 : BitVec 32 := 960#32
  c960_i32
def k0_mult88 : BitVec 32 :=
  let c1920_i32 : BitVec 32 := 1920#32
  c1920_i32
def k0_mult89 : BitVec 32 :=
  let c896_i32_1083 : BitVec 32 := 896#32
  c896_i32_1083
def k0_mult90 : BitVec 32 :=
  let c1792_i32_1084 : BitVec 32 := 1792#32
  c1792_i32_1084
def k0_mult91 : BitVec 32 :=
  let c896_i32_1109 : BitVec 32 := 896#32
  c896_i32_1109
def k0_mult92 : BitVec 32 :=
  let c1792_i32_1110 : BitVec 32 := 1792#32
  c1792_i32_1110
def k0_mult93 : BitVec 32 :=
  let c960_i32_1126 : BitVec 32 := 960#32
  c960_i32_1126
def k0_mult94 : BitVec 32 :=
  let c1920_i32_1127 : BitVec 32 := 1920#32
  c1920_i32_1127
def k0_mult95 : BitVec 32 :=
  let c960_i32_1152 : BitVec 32 := 960#32
  c960_i32_1152
def k0_mult96 : BitVec 32 :=
  let c1920_i32_1153 : BitVec 32 := 1920#32
  c1920_i32_1153
def k0_mult97 : BitVec 32 :=
  let c0_i32_1171 : BitVec 32 := 0#32
  c0_i32_1171
def k0_mult98 : BitVec 32 :=
  let c0_i32_1172 : BitVec 32 := 0#32
  c0_i32_1172
def k0_off1 : Fin 4 → Nat :=
  let c1_i32_1173 : BitVec 32 := 1#32
  let c1_i32_1169 : BitVec 32 := 1#32
  let c15_i32_1170 : BitVec 32 := 15#32
  let v1158 : BitVec 32 := Scalar.minsi c1_i32_1169 c15_i32_1170
  let c0_i32_1171 : BitVec 32 := 0#32
  let v1159 : BitVec 32 := c0_i32_1171
  let c0_i32_1179 : BitVec 32 := 0#32
  ![1, v1158.toNat, 0, 0]
def k0_off2 : Fin 4 → Nat :=
  let c1_i32_1187 : BitVec 32 := 1#32
  let c1_i32_1169 : BitVec 32 := 1#32
  let c15_i32_1170 : BitVec 32 := 15#32
  let v1158 : BitVec 32 := Scalar.minsi c1_i32_1169 c15_i32_1170
  let c0_i32_1172 : BitVec 32 := 0#32
  let v1160 : BitVec 32 := c0_i32_1172
  let c0_i32_1193 : BitVec 32 := 0#32
  ![1, v1158.toNat, 0, 0]
def k0_mult99 (i : grid0.Coords) : BitVec 32 :=
  let arg1 : BitVec 32 := BitVec.ofNat 32 (i 1).val
  let c64_i32 : BitVec 32 := 64#32
  let v19 : BitVec 32 := Scalar.muli arg1 c64_i32
  v19
def k0_mult100 (i : grid0.Coords) : BitVec 32 :=
  let arg1 : BitVec 32 := BitVec.ofNat 32 (i 1).val
  let c128_i32 : BitVec 32 := 128#32
  let v21 : BitVec 32 := Scalar.muli arg1 c128_i32
  v21
def k0_off3 (i : grid0.Coords) : Fin 2 → Nat :=
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_8 : BitVec 32 := 0#32
  ![v16.toNat, 0]
def k0_off4 (i : grid0.Coords) : Fin 3 → Nat :=
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_9 : BitVec 32 := 0#32
  let c0_i32_10 : BitVec 32 := 0#32
  ![v16.toNat, 0, 0]
def k0_off5 (i : grid0.Coords) : Fin 4 → Nat :=
  let c1_i32_7 : BitVec 32 := 1#32
  let arg0 : BitVec 32 := BitVec.ofNat 32 (i 0).val
  let c1_i32_6 : BitVec 32 := 1#32
  let v17 : BitVec 32 := Scalar.addi arg0 c1_i32_6
  let c15_i32 : BitVec 32 := 15#32
  let v18 : BitVec 32 := Scalar.minsi v17 c15_i32
  let arg1 : BitVec 32 := BitVec.ofNat 32 (i 1).val
  let c64_i32 : BitVec 32 := 64#32
  let v19 : BitVec 32 := Scalar.muli arg1 c64_i32
  let v20 : BitVec 32 := v19
  let c0_i32_11 : BitVec 32 := 0#32
  ![1, v18.toNat, v20.toNat, 0]
def k0_off6 (i : grid0.Coords) : Fin 2 → Nat :=
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_13 : BitVec 32 := 1#32
  ![v16.toNat, 1]
def k0_off7 (i : grid0.Coords) : Fin 2 → Nat :=
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_18 : BitVec 32 := 2#32
  ![v16.toNat, 2]
def k0_off8 (i : grid0.Coords) : Fin 3 → Nat :=
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_19 : BitVec 32 := 0#32
  let c0_i32_20 : BitVec 32 := 0#32
  ![v16.toNat, 0, 0]
def k0_off9 (i : grid0.Coords) : Fin 4 → Nat :=
  let c1_i32_17 : BitVec 32 := 1#32
  let arg0 : BitVec 32 := BitVec.ofNat 32 (i 0).val
  let c1_i32_6 : BitVec 32 := 1#32
  let v17 : BitVec 32 := Scalar.addi arg0 c1_i32_6
  let c15_i32 : BitVec 32 := 15#32
  let v18 : BitVec 32 := Scalar.minsi v17 c15_i32
  let arg1 : BitVec 32 := BitVec.ofNat 32 (i 1).val
  let c128_i32 : BitVec 32 := 128#32
  let v21 : BitVec 32 := Scalar.muli arg1 c128_i32
  let v22 : BitVec 32 := v21
  let c0_i32_21 : BitVec 32 := 0#32
  ![1, v18.toNat, v22.toNat, 0]
def k0_mult101 (i : grid0.Coords) : BitVec 32 :=
  let arg1 : BitVec 32 := BitVec.ofNat 32 (i 1).val
  let c1_i32_22 : BitVec 32 := 1#32
  let v41 : BitVec 32 := Scalar.addi arg1 c1_i32_22
  let c16_i32_23 : BitVec 32 := 16#32
  let v42 : BitVec 1 := Scalar.cmpi .eq v41 c16_i32_23
  let c0_i32_27 : BitVec 32 := 0#32
  let c1_i32_26 : BitVec 32 := 1#32
  let v46 : BitVec 32 := Scalar.addi arg1 c1_i32_26
  let v47 : BitVec 32 := Scalar.select v42 c0_i32_27 v46
  let c64_i32_31 : BitVec 32 := 64#32
  let v51 : BitVec 32 := Scalar.muli v47 c64_i32_31
  v51
def k0_mult102 (i : grid0.Coords) : BitVec 32 :=
  let arg1 : BitVec 32 := BitVec.ofNat 32 (i 1).val
  let c1_i32_22 : BitVec 32 := 1#32
  let v41 : BitVec 32 := Scalar.addi arg1 c1_i32_22
  let c16_i32_23 : BitVec 32 := 16#32
  let v42 : BitVec 1 := Scalar.cmpi .eq v41 c16_i32_23
  let c0_i32_27 : BitVec 32 := 0#32
  let c1_i32_26 : BitVec 32 := 1#32
  let v46 : BitVec 32 := Scalar.addi arg1 c1_i32_26
  let v47 : BitVec 32 := Scalar.select v42 c0_i32_27 v46
  let c128_i32_32 : BitVec 32 := 128#32
  let v53 : BitVec 32 := Scalar.muli v47 c128_i32_32
  v53
def k0_off10 (i : grid0.Coords) : Fin 2 → Nat :=
  let c1_i32_30 : BitVec 32 := 1#32
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v50 : BitVec 32 := Scalar.subi c1_i32_30 v16
  let c0_i32_34 : BitVec 32 := 0#32
  ![v50.toNat, 0]
def k0_off11 (i : grid0.Coords) : Fin 3 → Nat :=
  let c1_i32_30 : BitVec 32 := 1#32
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v50 : BitVec 32 := Scalar.subi c1_i32_30 v16
  let c0_i32_35 : BitVec 32 := 0#32
  let c0_i32_36 : BitVec 32 := 0#32
  ![v50.toNat, 0, 0]
def k0_off12 (i : grid0.Coords) : Fin 4 → Nat :=
  let c1_i32_33 : BitVec 32 := 1#32
  let arg1 : BitVec 32 := BitVec.ofNat 32 (i 1).val
  let c1_i32_22 : BitVec 32 := 1#32
  let v41 : BitVec 32 := Scalar.addi arg1 c1_i32_22
  let c16_i32_23 : BitVec 32 := 16#32
  let v42 : BitVec 1 := Scalar.cmpi .eq v41 c16_i32_23
  let arg0 : BitVec 32 := BitVec.ofNat 32 (i 0).val
  let c1_i32_24 : BitVec 32 := 1#32
  let v43 : BitVec 32 := Scalar.addi arg0 c1_i32_24
  let v44 : BitVec 32 := Scalar.select v42 v43 arg0
  let c15_i32_25 : BitVec 32 := 15#32
  let v45 : BitVec 32 := Scalar.minsi v44 c15_i32_25
  let c1_i32_28 : BitVec 32 := 1#32
  let v48 : BitVec 32 := Scalar.addi v45 c1_i32_28
  let c15_i32_29 : BitVec 32 := 15#32
  let v49 : BitVec 32 := Scalar.minsi v48 c15_i32_29
  let c0_i32_27 : BitVec 32 := 0#32
  let c1_i32_26 : BitVec 32 := 1#32
  let v46 : BitVec 32 := Scalar.addi arg1 c1_i32_26
  let v47 : BitVec 32 := Scalar.select v42 c0_i32_27 v46
  let c64_i32_31 : BitVec 32 := 64#32
  let v51 : BitVec 32 := Scalar.muli v47 c64_i32_31
  let v52 : BitVec 32 := v51
  let c0_i32_37 : BitVec 32 := 0#32
  ![1, v49.toNat, v52.toNat, 0]
def k0_off13 (i : grid0.Coords) : Fin 2 → Nat :=
  let c1_i32_30 : BitVec 32 := 1#32
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v50 : BitVec 32 := Scalar.subi c1_i32_30 v16
  let c1_i32_39 : BitVec 32 := 1#32
  ![v50.toNat, 1]
def k0_off14 (i : grid0.Coords) : Fin 2 → Nat :=
  let c1_i32_30 : BitVec 32 := 1#32
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v50 : BitVec 32 := Scalar.subi c1_i32_30 v16
  let c2_i32_44 : BitVec 32 := 2#32
  ![v50.toNat, 2]
def k0_off15 (i : grid0.Coords) : Fin 3 → Nat :=
  let c1_i32_30 : BitVec 32 := 1#32
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v50 : BitVec 32 := Scalar.subi c1_i32_30 v16
  let c0_i32_45 : BitVec 32 := 0#32
  let c0_i32_46 : BitVec 32 := 0#32
  ![v50.toNat, 0, 0]
def k0_off16 (i : grid0.Coords) : Fin 4 → Nat :=
  let c1_i32_43 : BitVec 32 := 1#32
  let arg1 : BitVec 32 := BitVec.ofNat 32 (i 1).val
  let c1_i32_22 : BitVec 32 := 1#32
  let v41 : BitVec 32 := Scalar.addi arg1 c1_i32_22
  let c16_i32_23 : BitVec 32 := 16#32
  let v42 : BitVec 1 := Scalar.cmpi .eq v41 c16_i32_23
  let arg0 : BitVec 32 := BitVec.ofNat 32 (i 0).val
  let c1_i32_24 : BitVec 32 := 1#32
  let v43 : BitVec 32 := Scalar.addi arg0 c1_i32_24
  let v44 : BitVec 32 := Scalar.select v42 v43 arg0
  let c15_i32_25 : BitVec 32 := 15#32
  let v45 : BitVec 32 := Scalar.minsi v44 c15_i32_25
  let c1_i32_28 : BitVec 32 := 1#32
  let v48 : BitVec 32 := Scalar.addi v45 c1_i32_28
  let c15_i32_29 : BitVec 32 := 15#32
  let v49 : BitVec 32 := Scalar.minsi v48 c15_i32_29
  let c0_i32_27 : BitVec 32 := 0#32
  let c1_i32_26 : BitVec 32 := 1#32
  let v46 : BitVec 32 := Scalar.addi arg1 c1_i32_26
  let v47 : BitVec 32 := Scalar.select v42 c0_i32_27 v46
  let c128_i32_32 : BitVec 32 := 128#32
  let v53 : BitVec 32 := Scalar.muli v47 c128_i32_32
  let v54 : BitVec 32 := v53
  let c0_i32_47 : BitVec 32 := 0#32
  ![1, v49.toNat, v54.toNat, 0]
def k0_mult103 (i : grid0.Coords) : BitVec 32 :=
  let arg1 : BitVec 32 := BitVec.ofNat 32 (i 1).val
  let c64_i32_55 : BitVec 32 := 64#32
  let v84 : BitVec 32 := Scalar.muli arg1 c64_i32_55
  v84
def k0_mult104 (i : grid0.Coords) : BitVec 32 :=
  let arg1 : BitVec 32 := BitVec.ofNat 32 (i 1).val
  let c128_i32_56 : BitVec 32 := 128#32
  let v86 : BitVec 32 := Scalar.muli arg1 c128_i32_56
  v86
def k0_off17 (i : grid0.Coords) : Fin 3 → Nat :=
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v88 : Index := Scalar.indexCast v16
  let c0 : Index := 0#32
  let c0_57 : Index := 0#32
  ![v88.toNat, 0, 0]
def k0_off18 (i : grid0.Coords) : Fin 3 → Nat :=
  let arg0 : BitVec 32 := BitVec.ofNat 32 (i 0).val
  let c1_i32_48 : BitVec 32 := 1#32
  let v73 : BitVec 32 := Scalar.addi arg0 c1_i32_48
  let c2_i32_49 : BitVec 32 := 2#32
  let c0_i32_50 : BitVec 32 := 0#32
  let v74 : BitVec 1 := Scalar.cmpi .eq c2_i32_49 c0_i32_50
  let c1_i32_51 : BitVec 32 := 1#32
  let v75 : BitVec 32 := Scalar.select v74 c1_i32_51 c2_i32_49
  let v76 : BitVec 32 := Scalar.remsi v73 v75
  let c0_i32_53 : BitVec 32 := 0#32
  let v78 : BitVec 1 := Scalar.cmpi .slt v76 c0_i32_53
  let c0_i32_54 : BitVec 32 := 0#32
  let v79 : BitVec 1 := Scalar.cmpi .slt v75 c0_i32_54
  let v80 : BitVec 1 := Scalar.xori v78 v79
  let c0_i32_52 : BitVec 32 := 0#32
  let v77 : BitVec 1 := Scalar.cmpi .ne v76 c0_i32_52
  let v81 : BitVec 1 := Scalar.andi v80 v77
  let v82 : BitVec 32 := Scalar.addi v76 v75
  let v83 : BitVec 32 := Scalar.select v81 v82 v76
  let v92 : Index := Scalar.indexCast v83
  let arg1 : BitVec 32 := BitVec.ofNat 32 (i 1).val
  let c64_i32_55 : BitVec 32 := 64#32
  let v84 : BitVec 32 := Scalar.muli arg1 c64_i32_55
  let v85 : BitVec 32 := v84
  let v93 : Index := Scalar.indexCast v85
  let c0_58 : Index := 0#32
  ![v92.toNat, v93.toNat, 0]
def k0_off19 (i : grid0.Coords) : Fin 3 → Nat :=
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v106 : Index := Scalar.indexCast v16
  let c0_62 : Index := 0#32
  let c0_63 : Index := 0#32
  ![v106.toNat, 0, 0]
def k0_off20 (i : grid0.Coords) : Fin 3 → Nat :=
  let arg0 : BitVec 32 := BitVec.ofNat 32 (i 0).val
  let c1_i32_48 : BitVec 32 := 1#32
  let v73 : BitVec 32 := Scalar.addi arg0 c1_i32_48
  let c2_i32_49 : BitVec 32 := 2#32
  let c0_i32_50 : BitVec 32 := 0#32
  let v74 : BitVec 1 := Scalar.cmpi .eq c2_i32_49 c0_i32_50
  let c1_i32_51 : BitVec 32 := 1#32
  let v75 : BitVec 32 := Scalar.select v74 c1_i32_51 c2_i32_49
  let v76 : BitVec 32 := Scalar.remsi v73 v75
  let c0_i32_53 : BitVec 32 := 0#32
  let v78 : BitVec 1 := Scalar.cmpi .slt v76 c0_i32_53
  let c0_i32_54 : BitVec 32 := 0#32
  let v79 : BitVec 1 := Scalar.cmpi .slt v75 c0_i32_54
  let v80 : BitVec 1 := Scalar.xori v78 v79
  let c0_i32_52 : BitVec 32 := 0#32
  let v77 : BitVec 1 := Scalar.cmpi .ne v76 c0_i32_52
  let v81 : BitVec 1 := Scalar.andi v80 v77
  let v82 : BitVec 32 := Scalar.addi v76 v75
  let v83 : BitVec 32 := Scalar.select v81 v82 v76
  let v110 : Index := Scalar.indexCast v83
  let arg1 : BitVec 32 := BitVec.ofNat 32 (i 1).val
  let c128_i32_56 : BitVec 32 := 128#32
  let v86 : BitVec 32 := Scalar.muli arg1 c128_i32_56
  let v87 : BitVec 32 := v86
  let v111 : Index := Scalar.indexCast v87
  let c0_64 : Index := 0#32
  ![v110.toNat, v111.toNat, 0]
def k0_off21 (i : grid0.Coords) : Fin 3 → Nat :=
  let arg0 : BitVec 32 := BitVec.ofNat 32 (i 0).val
  let c2_i32_65 : BitVec 32 := 2#32
  let c0_i32_66 : BitVec 32 := 0#32
  let v115 : BitVec 1 := Scalar.cmpi .eq c2_i32_65 c0_i32_66
  let c1_i32_67 : BitVec 32 := 1#32
  let v116 : BitVec 32 := Scalar.select v115 c1_i32_67 c2_i32_65
  let v117 : BitVec 32 := Scalar.remsi arg0 v116
  let c0_i32_69 : BitVec 32 := 0#32
  let v119 : BitVec 1 := Scalar.cmpi .slt v117 c0_i32_69
  let c0_i32_70 : BitVec 32 := 0#32
  let v120 : BitVec 1 := Scalar.cmpi .slt v116 c0_i32_70
  let v121 : BitVec 1 := Scalar.xori v119 v120
  let c0_i32_68 : BitVec 32 := 0#32
  let v118 : BitVec 1 := Scalar.cmpi .ne v117 c0_i32_68
  let v122 : BitVec 1 := Scalar.andi v121 v118
  let v123 : BitVec 32 := Scalar.addi v117 v116
  let v124 : BitVec 32 := Scalar.select v122 v123 v117
  let v127 : Index := Scalar.indexCast v124
  let c0_74 : Index := 0#32
  let c0_75 : Index := 0#32
  ![v127.toNat, 0, 0]
def k0_off22 (i : grid0.Coords) : Fin 3 → Nat :=
  let arg0 : BitVec 32 := BitVec.ofNat 32 (i 0).val
  let c2_i32_65 : BitVec 32 := 2#32
  let c0_i32_66 : BitVec 32 := 0#32
  let v115 : BitVec 1 := Scalar.cmpi .eq c2_i32_65 c0_i32_66
  let c1_i32_67 : BitVec 32 := 1#32
  let v116 : BitVec 32 := Scalar.select v115 c1_i32_67 c2_i32_65
  let v117 : BitVec 32 := Scalar.remsi arg0 v116
  let c0_i32_69 : BitVec 32 := 0#32
  let v119 : BitVec 1 := Scalar.cmpi .slt v117 c0_i32_69
  let c0_i32_70 : BitVec 32 := 0#32
  let v120 : BitVec 1 := Scalar.cmpi .slt v116 c0_i32_70
  let v121 : BitVec 1 := Scalar.xori v119 v120
  let c0_i32_68 : BitVec 32 := 0#32
  let v118 : BitVec 1 := Scalar.cmpi .ne v117 c0_i32_68
  let v122 : BitVec 1 := Scalar.andi v121 v118
  let v123 : BitVec 32 := Scalar.addi v117 v116
  let v124 : BitVec 32 := Scalar.select v122 v123 v117
  let v139 : Index := Scalar.indexCast v124
  let c0_79 : Index := 0#32
  let c0_80 : Index := 0#32
  ![v139.toNat, 0, 0]
def k0_cond2 (i : grid0.Coords) : BitVec 1 :=
  let arg0 : BitVec 32 := BitVec.ofNat 32 (i 0).val
  let c15_i32_85 : BitVec 32 := 15#32
  let v146 : BitVec 1 := Scalar.cmpi .eq arg0 c15_i32_85
  let arg1 : BitVec 32 := BitVec.ofNat 32 (i 1).val
  let c1_i32_22 : BitVec 32 := 1#32
  let v41 : BitVec 32 := Scalar.addi arg1 c1_i32_22
  let c16_i32_23 : BitVec 32 := 16#32
  let v42 : BitVec 1 := Scalar.cmpi .eq v41 c16_i32_23
  let v147 : BitVec 1 := Scalar.andi v146 v42
  let v148 : BitVec 32 := Scalar.extui v147
  let c0_i32_86 : BitVec 32 := 0#32
  let v149 : BitVec 1 := Scalar.cmpi .ne v148 c0_i32_86
  v149

def k0_mult105 (i : grid0.Coords) : BitVec 32 :=
  let arg1 : BitVec 32 := BitVec.ofNat 32 (i 1).val
  let c1_i32_22 : BitVec 32 := 1#32
  let v41 : BitVec 32 := Scalar.addi arg1 c1_i32_22
  let c16_i32_23 : BitVec 32 := 16#32
  let v42 : BitVec 1 := Scalar.cmpi .eq v41 c16_i32_23
  let c0_i32_27 : BitVec 32 := 0#32
  let c1_i32_26 : BitVec 32 := 1#32
  let v46 : BitVec 32 := Scalar.addi arg1 c1_i32_26
  let v47 : BitVec 32 := Scalar.select v42 c0_i32_27 v46
  let c64_i32_90 : BitVec 32 := 64#32
  let v153 : BitVec 32 := Scalar.muli v47 c64_i32_90
  v153
def k0_mult106 (i : grid0.Coords) : BitVec 32 :=
  let arg1 : BitVec 32 := BitVec.ofNat 32 (i 1).val
  let c1_i32_22 : BitVec 32 := 1#32
  let v41 : BitVec 32 := Scalar.addi arg1 c1_i32_22
  let c16_i32_23 : BitVec 32 := 16#32
  let v42 : BitVec 1 := Scalar.cmpi .eq v41 c16_i32_23
  let c0_i32_27 : BitVec 32 := 0#32
  let c1_i32_26 : BitVec 32 := 1#32
  let v46 : BitVec 32 := Scalar.addi arg1 c1_i32_26
  let v47 : BitVec 32 := Scalar.select v42 c0_i32_27 v46
  let c128_i32_91 : BitVec 32 := 128#32
  let v155 : BitVec 32 := Scalar.muli v47 c128_i32_91
  v155
def k0_off23 (i : grid0.Coords) : Fin 2 → Nat :=
  let c1_i32_89 : BitVec 32 := 1#32
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v152 : BitVec 32 := Scalar.subi c1_i32_89 v16
  let c0_i32_93 : BitVec 32 := 0#32
  ![v152.toNat, 0]
def k0_off24 (i : grid0.Coords) : Fin 3 → Nat :=
  let c1_i32_89 : BitVec 32 := 1#32
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v152 : BitVec 32 := Scalar.subi c1_i32_89 v16
  let c0_i32_94 : BitVec 32 := 0#32
  let c0_i32_95 : BitVec 32 := 0#32
  ![v152.toNat, 0, 0]
def k0_off25 (i : grid0.Coords) : Fin 4 → Nat :=
  let c1_i32_92 : BitVec 32 := 1#32
  let arg1 : BitVec 32 := BitVec.ofNat 32 (i 1).val
  let c1_i32_22 : BitVec 32 := 1#32
  let v41 : BitVec 32 := Scalar.addi arg1 c1_i32_22
  let c16_i32_23 : BitVec 32 := 16#32
  let v42 : BitVec 1 := Scalar.cmpi .eq v41 c16_i32_23
  let arg0 : BitVec 32 := BitVec.ofNat 32 (i 0).val
  let c1_i32_24 : BitVec 32 := 1#32
  let v43 : BitVec 32 := Scalar.addi arg0 c1_i32_24
  let v44 : BitVec 32 := Scalar.select v42 v43 arg0
  let c15_i32_25 : BitVec 32 := 15#32
  let v45 : BitVec 32 := Scalar.minsi v44 c15_i32_25
  let c1_i32_87 : BitVec 32 := 1#32
  let v150 : BitVec 32 := Scalar.addi v45 c1_i32_87
  let c15_i32_88 : BitVec 32 := 15#32
  let v151 : BitVec 32 := Scalar.minsi v150 c15_i32_88
  let c0_i32_27 : BitVec 32 := 0#32
  let c1_i32_26 : BitVec 32 := 1#32
  let v46 : BitVec 32 := Scalar.addi arg1 c1_i32_26
  let v47 : BitVec 32 := Scalar.select v42 c0_i32_27 v46
  let c64_i32_90 : BitVec 32 := 64#32
  let v153 : BitVec 32 := Scalar.muli v47 c64_i32_90
  let v154 : BitVec 32 := v153
  let c0_i32_96 : BitVec 32 := 0#32
  ![1, v151.toNat, v154.toNat, 0]
def k0_off26 (i : grid0.Coords) : Fin 2 → Nat :=
  let c1_i32_89 : BitVec 32 := 1#32
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v152 : BitVec 32 := Scalar.subi c1_i32_89 v16
  let c1_i32_98 : BitVec 32 := 1#32
  ![v152.toNat, 1]
def k0_off27 (i : grid0.Coords) : Fin 2 → Nat :=
  let c1_i32_89 : BitVec 32 := 1#32
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v152 : BitVec 32 := Scalar.subi c1_i32_89 v16
  let c2_i32_103 : BitVec 32 := 2#32
  ![v152.toNat, 2]
def k0_off28 (i : grid0.Coords) : Fin 3 → Nat :=
  let c1_i32_89 : BitVec 32 := 1#32
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v152 : BitVec 32 := Scalar.subi c1_i32_89 v16
  let c0_i32_104 : BitVec 32 := 0#32
  let c0_i32_105 : BitVec 32 := 0#32
  ![v152.toNat, 0, 0]
def k0_off29 (i : grid0.Coords) : Fin 4 → Nat :=
  let c1_i32_102 : BitVec 32 := 1#32
  let arg1 : BitVec 32 := BitVec.ofNat 32 (i 1).val
  let c1_i32_22 : BitVec 32 := 1#32
  let v41 : BitVec 32 := Scalar.addi arg1 c1_i32_22
  let c16_i32_23 : BitVec 32 := 16#32
  let v42 : BitVec 1 := Scalar.cmpi .eq v41 c16_i32_23
  let arg0 : BitVec 32 := BitVec.ofNat 32 (i 0).val
  let c1_i32_24 : BitVec 32 := 1#32
  let v43 : BitVec 32 := Scalar.addi arg0 c1_i32_24
  let v44 : BitVec 32 := Scalar.select v42 v43 arg0
  let c15_i32_25 : BitVec 32 := 15#32
  let v45 : BitVec 32 := Scalar.minsi v44 c15_i32_25
  let c1_i32_87 : BitVec 32 := 1#32
  let v150 : BitVec 32 := Scalar.addi v45 c1_i32_87
  let c15_i32_88 : BitVec 32 := 15#32
  let v151 : BitVec 32 := Scalar.minsi v150 c15_i32_88
  let c0_i32_27 : BitVec 32 := 0#32
  let c1_i32_26 : BitVec 32 := 1#32
  let v46 : BitVec 32 := Scalar.addi arg1 c1_i32_26
  let v47 : BitVec 32 := Scalar.select v42 c0_i32_27 v46
  let c128_i32_91 : BitVec 32 := 128#32
  let v155 : BitVec 32 := Scalar.muli v47 c128_i32_91
  let v156 : BitVec 32 := v155
  let c0_i32_106 : BitVec 32 := 0#32
  ![1, v151.toNat, v156.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference4Ideal.lean ====
abbrev S32x4096x1024 : Shape := ⟨3, ![32, 4096, 1024]⟩
abbrev S2x16x1024x2048 : Shape := ⟨4, ![2, 16, 1024, 2048]⟩
abbrev S2x16x2048x1024 : Shape := ⟨4, ![2, 16, 2048, 1024]⟩
abbrev S32x16x256x1024 : Shape := ⟨4, ![32, 16, 256, 1024]⟩
abbrev S1x16x1024x2048 : Shape := ⟨4, ![1, 16, 1024, 2048]⟩
abbrev S16x1024x2048 : Shape := ⟨3, ![16, 1024, 2048]⟩
abbrev S16x2048x32x256 : Shape := ⟨4, ![16, 2048, 32, 256]⟩
abbrev S32x16x256x2048 : Shape := ⟨4, ![32, 16, 256, 2048]⟩
abbrev S_ : Shape := ⟨0, ![]⟩
abbrev S1x16x2048x1024 : Shape := ⟨4, ![1, 16, 2048, 1024]⟩
abbrev S16x2048x1024 : Shape := ⟨3, ![16, 2048, 1024]⟩
abbrev S16x1024x32x256 : Shape := ⟨4, ![16, 1024, 32, 256]⟩

abbrev nBuf : Space → Nat
  | .hbm => 30
  | .vmem => 0
  | .smem => 0
  | _ => 0

abbrev bufTy : (tb : Table) → Fin (tcTables nBuf tb) → BufTy
  | .hbm, ⟨0, _⟩ => ⟨S32x4096x1024, .bf16⟩
  | .hbm, ⟨1, _⟩ => ⟨S2x16x1024x2048, .f32⟩
  | .hbm, ⟨2, _⟩ => ⟨S2x16x1024x2048, .f32⟩
  | .hbm, ⟨3, _⟩ => ⟨S2x16x2048x1024, .f32⟩
  | .hbm, ⟨4, _⟩ => ⟨S32x4096x1024, .f32⟩
  | .hbm, ⟨5, _⟩ => ⟨S32x16x256x1024, .f32⟩
  | .hbm, ⟨6, _⟩ => ⟨S1x16x1024x2048, .f32⟩
  | .hbm, ⟨7, _⟩ => ⟨S16x1024x2048, .f32⟩
  | .hbm, ⟨8, _⟩ => ⟨S16x2048x32x256, .f32⟩
  | .hbm, ⟨9, _⟩ => ⟨S32x16x256x2048, .f32⟩
  | .hbm, ⟨10, _⟩ => ⟨S1x16x1024x2048, .f32⟩
  | .hbm, ⟨11, _⟩ => ⟨S16x1024x2048, .f32⟩
  | .hbm, ⟨12, _⟩ => ⟨S16x2048x32x256, .f32⟩
  | .hbm, ⟨13, _⟩ => ⟨S32x16x256x2048, .f32⟩
  | .hbm, ⟨14, _⟩ => ⟨S32x16x256x2048, .f32⟩
  | .hbm, ⟨15, _⟩ => ⟨S32x16x256x2048, .f32⟩
  | .hbm, ⟨16, _⟩ => ⟨S_, .f32⟩
  | .hbm, ⟨17, _⟩ => ⟨S32x16x256x2048, .f32⟩
  | .hbm, ⟨18, _⟩ => ⟨S32x16x256x2048, .f32⟩
  | .hbm, ⟨19, _⟩ => ⟨S_, .f32⟩
  | .hbm, ⟨20, _⟩ => ⟨S32x16x256x2048, .f32⟩
  | .hbm, ⟨21, _⟩ => ⟨S32x16x256x2048, .f32⟩
  | .hbm, ⟨22, _⟩ => ⟨S32x16x256x2048, .f32⟩
  | .hbm, ⟨23, _⟩ => ⟨S32x16x256x2048, .f32⟩
  | .hbm, ⟨24, _⟩ => ⟨S1x16x2048x1024, .f32⟩
  | .hbm, ⟨25, _⟩ => ⟨S16x2048x1024, .f32⟩
  | .hbm, ⟨26, _⟩ => ⟨S16x1024x32x256, .f32⟩
  | .hbm, ⟨27, _⟩ => ⟨S32x16x256x1024, .f32⟩
  | .hbm, ⟨28, _⟩ => ⟨S32x4096x1024, .f32⟩
  | .hbm, ⟨29, _⟩ => ⟨S32x4096x1024, .bf16⟩
  | _, _ => ⟨S32x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Proof.Softmax.lean ====
/- Softmax attention over the extended reals: the two-base form a kernel uses and the plain form agree. -/
module

public import Idealize.ShloMosaic.PureOps.Ideal
public import Idealize.ShloMosaic.Lib.Pointwise

@[expose] public section

set_option maxRecDepth 16384

noncomputable section

namespace Cert.Attn

open Idealize.ShloMosaic

/-- The greatest score over a row's window keys and context keys, from minus infinity. -/
def rowMax {A B : ℕ} (s : Fin A → EReal) (u : Fin B → EReal) : EReal :=
  max (Finset.univ.fold max ⊥ s) (Finset.univ.fold max ⊥ u)

/-- The base-two weighted sum over window and context, with weights `2 ^ (score - maximum)`. -/
def attend {A B : ℕ} (s : Fin A → EReal) (u : Fin B → EReal) (v : Fin A → EReal) (w : Fin B → EReal) : EReal :=
  (∑ x, Ideal.exp2 (s x - rowMax s u) * v x) + ∑ x, Ideal.exp2 (u x - rowMax s u) * w x

/-- The greatest of a row's scores, from minus infinity. -/
def topScore {N : ℕ} (t : Fin N → EReal) : EReal := max ⊥ (Finset.univ.fold max ⊥ t)

/-- The plain softmax weight of one key of a row. -/
def weight {N : ℕ} (t : Fin N → EReal) (k : Fin N) : EReal :=
  Ideal.div (Ideal.exp (t k - topScore t)) (0 + ∑ j, Ideal.exp (t j - topScore t))

/-- A nonnegative real factor distributes over a finite sum, infinite terms included. -/
theorem mul_sum_real {ι : Type*} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top _) _ _

/-- A finite sum of reals is the real sum. -/
theorem coe_sum {ι : Type*} (S : Finset ι) (f : ι → ℝ) :
    ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The base-two exponential of a score that is real or minus infinity, less a real, is the exponential of the scaled
    difference, and it is a nonnegative real. -/
theorem exp_scaled (s : EReal) (hs : s ≠ ⊤) (μ : ℝ) :
    Ideal.exp (s * (Real.log 2 : ℝ) - ((μ * Real.log 2 : ℝ) : EReal)) = Ideal.exp2 (s - (μ : EReal)) := by
  have h2 : (0 : ℝ) < Real.log 2 := Real.log_pos (by norm_num)
  induction s using EReal.rec with
  | top => exact absurd rfl hs
  | bot =>
    rw [EReal.bot_mul_coe_of_pos h2, EReal.bot_sub, EReal.bot_sub]
    rfl
  | coe r =>
    rw [← EReal.coe_mul, ← EReal.coe_sub, ← EReal.coe_sub, Ideal.exp_coe, Ideal.exp2_coe]
    congr 1
    show _ = (2 : ℝ) ^ (r - μ)
    rw [Real.rpow_def_of_pos (by norm_num)]
    congr 1
    ring

/-- … a nonnegative real, -/
theorem exp2_real (s : EReal) (hs : s ≠ ⊤) (μ : ℝ) : ∃ p : ℝ, 0 ≤ p ∧ Ideal.exp2 (s - (μ : EReal)) = p := by
  induction s using EReal.rec with
  | top => exact absurd rfl hs
  | bot => exact ⟨0, le_rfl, by rw [EReal.bot_sub]; rfl⟩
  | coe r => exact ⟨(2 : ℝ) ^ (r - μ), by positivity, by rw [← EReal.coe_sub, Ideal.exp2_coe]; rfl⟩

/-- … and positive at a real score. -/
theorem exp2_pos (r μ : ℝ) : ∃ p : ℝ, 0 < p ∧ Ideal.exp2 ((r : EReal) - (μ : EReal)) = p :=
  ⟨(2 : ℝ) ^ (r - μ), by positivity, by rw [← EReal.coe_sub, Ideal.exp2_coe]; rfl⟩

/-- A row maximum over scores that are never plus infinity, one of them real, is a real. -/
theorem rowMax_real {A B : ℕ} (s : Fin A → EReal) (u : Fin B → EReal) (hs : ∀ i, s i ≠ ⊤) (hu : ∀ k, u k ≠ ⊤)
    (k : Fin B) (hk : u k ≠ ⊥) : ∃ μ : ℝ, rowMax s u = μ := by
  have htop : rowMax s u < ⊤ := by
    unfold rowMax
    rw [max_lt_iff, Finset.fold_max_lt, Finset.fold_max_lt]
    exact ⟨⟨bot_lt_top, fun i _ => lt_top_iff_ne_top.2 (hs i)⟩, ⟨bot_lt_top, fun i _ => lt_top_iff_ne_top.2 (hu i)⟩⟩
  have hbot : ⊥ < rowMax s u := by
    unfold rowMax
    rw [lt_max_iff, Finset.lt_fold_max, Finset.lt_fold_max]
    exact Or.inr (Or.inr ⟨k, Finset.mem_univ _, bot_lt_iff_ne_bot.2 hk⟩)
  exact ⟨(rowMax s u).toReal, (EReal.coe_toReal htop.ne hbot.ne').symm⟩

/-- Scaling by a positive real keeps the order of the extended reals. -/
theorem mul_le_mul_real (a b : EReal) (c : ℝ) (hc : 0 < c) (h : a ≤ b) : a * (c : EReal) ≤ b * (c : EReal) :=
  mul_le_mul_of_nonneg_right h (by exact_mod_cast hc.le)

/-- SOFTMAX IN BASE TWO IS SOFTMAX. A row's base-two scores `s` (window) and `u` (context), against natural scores `t`
    over the shorter list of 512 window keys (placed among the 704 by `e`) and 256 context keys, `t` being the
    base-two score times `log 2`; window keys outside `e` are masked. -/
theorem softmax_eq (s : Fin 704 → EReal) (u : Fin 256 → EReal) (t : Fin 768 → EReal) (e : Fin 512 → Fin 704)
    (he : Function.Injective e) (hs : ∀ i, s i ≠ ⊤) (hu : ∀ k, u k ≠ ⊤) (hub : ∀ k, u k ≠ ⊥)
    (hout : ∀ i, (∀ x, e x ≠ i) → s i = ⊥)
    (hin : ∀ x : Fin 512, t ⟨x.val, by omega⟩ = s (e x) * (Real.log 2 : ℝ))
    (hctx : ∀ k : Fin 256, t ⟨512 + k.val, by omega⟩ = u k * (Real.log 2 : ℝ))
    (v : Fin 704 → EReal) (w : Fin 256 → EReal) :
    Ideal.div (attend s u v w) (attend s u (fun _ => 1) (fun _ => 1))
      = (∑ x : Fin 512, weight t ⟨x.val, by omega⟩ * v (e x)) + ∑ k : Fin 256, weight t ⟨512 + k.val, by omega⟩ * w k := by
  have h2 : (0 : ℝ) < Real.log 2 := Real.log_pos (by norm_num)
  obtain ⟨μ, hμ⟩ := rowMax_real s u hs hu 0 (hub 0)
  have hle : ∀ i, s i ≤ (μ : EReal) := fun i => by
    rw [← hμ]; exact le_max_of_le_left ((Finset.le_fold_max _).2 (Or.inr ⟨i, Finset.mem_univ _, le_rfl⟩))
  have hleu : ∀ i, u i ≤ (μ : EReal) := fun i => by
    rw [← hμ]; exact le_max_of_le_right ((Finset.le_fold_max _).2 (Or.inr ⟨i, Finset.mem_univ _, le_rfl⟩))
  -- the natural maximum
  have hM : topScore t = ((μ * Real.log 2 : ℝ) : EReal) := by
    unfold topScore
    rw [max_eq_right bot_le]
    apply le_antisymm
    · rw [Finset.fold_max_le]
      refine ⟨bot_le, fun j _ => ?_⟩
      rw [EReal.coe_mul]
      by_cases hj : j.val < 512
      · have := hin ⟨j.val, hj⟩
        rw [show j = ⟨(⟨j.val, hj⟩ : Fin 512).val, by omega⟩ from rfl, this]
        exact mul_le_mul_real _ _ _ h2 (hle _)
      · have := hctx ⟨j.val - 512, by omega⟩
        rw [show j = ⟨512 + (⟨j.val - 512, by omega⟩ : Fin 256).val, by dsimp only; omega⟩ from
          Fin.ext (by dsimp only; omega), this]
        exact mul_le_mul_real _ _ _ h2 (hleu _)
    · rw [EReal.coe_mul, Finset.le_fold_max]
      right
      have hatt : (μ : EReal) ≤ rowMax s u := hμ.ge
      unfold rowMax at hatt
      rw [le_max_iff, Finset.le_fold_max, Finset.le_fold_max] at hatt
      have hnb : ¬ (μ : EReal) ≤ ⊥ := not_le.2 (EReal.bot_lt_coe μ)
      rcases hatt with (h | ⟨i, _, h⟩) | (h | ⟨k, _, h⟩)
      · exact absurd h hnb
      · have : ∃ x, e x = i := by
          by_contra hc
          push Not at hc
          rw [hout i hc] at h
          exact hnb h
        obtain ⟨x, rfl⟩ := this
        exact ⟨⟨x.val, by omega⟩, Finset.mem_univ _, by rw [hin x]; exact mul_le_mul_real _ _ _ h2 h⟩
      · exact absurd h hnb
      · exact ⟨⟨512 + k.val, by omega⟩, Finset.mem_univ _, by rw [hctx k]; exact mul_le_mul_real _ _ _ h2 h⟩
  -- the weights before normalisation
  choose p hp0 hp using fun i => exp2_real (s i) (hs i) μ
  choose q hq0 hq using fun k => exp2_real (u k) (hu k) μ
  have hqpos : 0 < q 0 := by
    have hr : u 0 = ((u 0).toReal : EReal) := (EReal.coe_toReal (hu 0) (hub 0)).symm
    obtain ⟨p', hp', hpe⟩ := exp2_pos (u 0).toReal μ
    rw [← hr, hq 0] at hpe
    rw [EReal.coe_eq_coe_iff.1 hpe]; exact hp'
  have hpout : ∀ i, (∀ x, e x ≠ i) → p i = 0 := fun i h => by
    have := hp i
    rw [hout i h, EReal.bot_sub] at this
    exact (EReal.coe_eq_coe_iff.1 (this.symm.trans EReal.coe_zero.symm))
  have hin' : ∀ x : Fin 512, Ideal.exp (t ⟨x.val, by omega⟩ - topScore t) = p (e x) := fun x => by
    rw [hM, hin, exp_scaled _ (hs _), hp]
  have hctx' : ∀ k : Fin 256, Ideal.exp (t ⟨512 + k.val, by omega⟩ - topScore t) = q k := fun k => by
    rw [hM, hctx, exp_scaled _ (hu _), hq]
  have hwin : ∀ f : Fin 704 → EReal, ∑ i, (p i : EReal) * f i = ∑ x, (p (e x) : EReal) * f (e x) := fun f =>
    (Fintype.sum_of_injective e he _ _ (fun i hi => by
      rw [hpout i (fun x hx => hi ⟨x, hx⟩), EReal.coe_zero, zero_mul]) (fun x => rfl)).symm
  set ℓ : ℝ := (∑ x, p (e x)) + ∑ k, q k with hℓ
  have hℓpos : 0 < ℓ := by
    have h1 : 0 ≤ ∑ x, p (e x) := Finset.sum_nonneg fun x _ => hp0 _
    have h3 : q 0 ≤ ∑ k, q k := Finset.single_le_sum (fun k _ => hq0 k) (Finset.mem_univ 0)
    linarith
  have hL : (0 + ∑ j, Ideal.exp (t j - topScore t)) = (ℓ : EReal) := by
    rw [zero_add, show (∑ j : Fin 768, Ideal.exp (t j - topScore t))
        = ∑ j : Fin (512 + 256), Ideal.exp (t (j : Fin 768) - topScore t) from rfl, Fin.sum_univ_add]
    rw [hℓ, EReal.coe_add, ← coe_sum, ← coe_sum]
    exact congrArg₂ (· + ·) (Finset.sum_congr rfl fun x _ => hin' x) (Finset.sum_congr rfl fun k _ => hctx' k)
  have hD : attend s u (fun _ => 1) (fun _ => 1) = (ℓ : EReal) := by
    unfold attend
    rw [hμ, hℓ, EReal.coe_add, ← coe_sum, ← coe_sum]
    simp only [hp, hq]
    rw [hwin (fun _ => 1)]
    simp only [mul_one]
  have hne : ℓ ≠ 0 := hℓpos.ne'
  have hinv : (0 : ℝ) ≤ 1 / ℓ := by positivity
  unfold weight
  rw [hL, hD, Ideal.div_coe hne]
  simp only [Ideal.div_coe hne]
  unfold attend
  rw [hμ]
  simp only [hp, hq]
  rw [hwin v, mul_comm, EReal.left_distrib_of_nonneg_of_ne_top (by exact_mod_cast hinv) (EReal.coe_ne_top _),
    mul_sum_real _ hinv, mul_sum_real _ hinv]
  refine congrArg₂ (· + ·) (Finset.sum_congr rfl fun x _ => ?_) (Finset.sum_congr rfl fun k _ => ?_)
  · rw [hin', mul_left_comm, mul_assoc]
  · rw [hctx', mul_left_comm, mul_assoc]

end Cert.Attn

end
-- ==== Proof.Payload.lean ====
/- The attention kernel's stored values, read at an index over the extended reals. -/
module

public import proofs.«01_k».proof.Proof.Gen.KernelIdeal.Frame
public import proofs.«01_k».proof.Proof.Softmax
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.Attn

/-- The score of one query row against one window key: the product over the head's lanes, plus the tile's bias. -/
theorem score_window (q : Vec Ideal S256x64 .bf16) (k : Vec Ideal S704x64 .bf16) (b : Vec Ideal S1x1x256x704 .f32)
    (r : Fin 256) (l : Fin 704) :
    k0_pay2 (F := Ideal) q k b (ix2 r l) = (∑ e : Fin 64, q (ix2 r e) * k (ix2 l e)) + b (ix4 0 0 r l) := by
  pointwise [k0_pay2]

/-- The score of one query row against one context key. -/
theorem score_context (q : Vec Ideal S256x64 .bf16) (k : Vec Ideal S256x64 .bf16) (r l : Fin 256) :
    k0_pay3 (F := Ideal) q k (ix2 r l) = ∑ e : Fin 64, q (ix2 r e) * k (ix2 l e) := by
  pointwise [k0_pay3]

/-- The pattern of minus infinity. -/
theorem ofBits_bot : Ideal.ofBits .f32 4286578688#32 = ⊥ := by
  simp [Ideal.ofBits, Ideal.ieee]

/-- A head's output at one lane: the weighted sum of the values over the weighted sum of the unit lane. -/
theorem head_out (s : FVec Ideal S256x704 .f32) (u : FVec Ideal S256x256 .f32) (v : Vec Ideal S704x128 .bf16)
    (w : Vec Ideal S256x128 .bf16) (r : Fin 256) (d : Fin 64) :
    k0_pay6 (F := Ideal) s u v w (ix2 r d)
      = Ideal.div (attend (fun l => s (ix2 r l)) (fun l => u (ix2 r l)) (fun l => v (ix2 l ⟨d.val, by omega⟩))
          (fun l => w (ix2 l ⟨d.val, by omega⟩)))
        (attend (fun l => s (ix2 r l)) (fun l => u (ix2 r l)) (fun l => v (ix2 l 64)) (fun l => w (ix2 l 64))) := by
  pointwise [k0_pay6]
  unfold attend rowMax
  simp only [ofBits_bot]
  rfl

/-- One head of one block as the body computes it from its loads. -/
abbrev headPay (q : Vec Ideal S256x64 .bf16) (k : Vec Ideal S704x64 .bf16) (kc : Vec Ideal S256x64 .bf16)
    (b : Vec Ideal S1x1x256x704 .f32) (v : Vec Ideal S704x128 .bf16) (w : Vec Ideal S256x128 .bf16) : FVec Ideal S256x64 .bf16 :=
  k0_pay6 (F := Ideal) (k0_pay2 q k b) (k0_pay3 q kc) v w

/-- The first key row of a tile of four query rows: four rows before the tile, kept inside the grid of 32 rows. -/
def firstRow (t : Fin 256) : ℕ := min 21 (4 * (t.val % 8) - 4)

theorem firstRow_le (t : Fin 256) : firstRow t ≤ 21 := min_le_left _ _

/-- Which of the three bias tiles a tile of query rows takes: the first, an inner one, the last. -/
def variant (t : Fin 256) : Fin 3 := ⟨if t.val % 8 = 0 then 0 else if t.val % 8 = 7 then 2 else 1, by split_ifs <;> omega⟩

/-- Query row `r` of tile `t` in the projected array. -/
def qRow (t : Fin 256) (r : Fin 256) : Fin 65536 := ⟨t.val * 256 + r.val, by omega⟩

/-- Window key `l` of tile `t` in the projected array. -/
def kRow (t : Fin 256) (l : Fin 704) : Fin 65536 :=
  ⟨t.val / 8 * 2048 + (64 * firstRow t + l.val), by have := firstRow_le t; omega⟩

/-- Context key `l` of tile `t`. -/
def cRow (t : Fin 256) (l : Fin 256) : Fin 8192 := ⟨t.val / 8 * 256 + l.val, by omega⟩

/-- The kernel's score of a window key. -/
def kScore (X : FVec Ideal S65536x2048 .bf16) (T : FVec Ideal S3x8x256x704 .f32) (t : Fin 256) (h : Fin 8) (r : Fin 256)
    (l : Fin 704) : EReal :=
  (∑ e : Fin 64, X (ix2 (qRow t r) ⟨64 * h.val + e.val, by omega⟩) * X (ix2 (kRow t l) ⟨512 + (64 * h.val + e.val), by omega⟩))
    + T (ix4 (variant t) h r l)

/-- The kernel's score of a context key. -/
def cScore (X : FVec Ideal S65536x2048 .bf16) (C : FVec Ideal S8192x2048 .bf16) (t : Fin 256) (h : Fin 8) (r : Fin 256)
    (l : Fin 256) : EReal :=
  ∑ e : Fin 64, X (ix2 (qRow t r) ⟨64 * h.val + e.val, by omega⟩) * C (ix2 (cRow t l) ⟨512 + (64 * h.val + e.val), by omega⟩)

/-- The kernel's weighted sum over lane `z` of head `h`'s value slot. -/
def kAttend (X : FVec Ideal S65536x2048 .bf16) (C : FVec Ideal S8192x2048 .bf16) (T : FVec Ideal S3x8x256x704 .f32)
    (t : Fin 256) (h : Fin 8) (r : Fin 256) (z : Fin 128) : EReal :=
  attend (kScore X T t h r) (cScore X C t h r) (fun l => X (ix2 (kRow t l) ⟨1024 + (128 * h.val + z.val), by omega⟩))
    (fun l => C (ix2 (cRow t l) ⟨1024 + (128 * h.val + z.val), by omega⟩))

/-- The kernel's output for query row `r` of tile `t`, lane `d` of head `h`. -/
def kOut (X : FVec Ideal S65536x2048 .bf16) (C : FVec Ideal S8192x2048 .bf16) (T : FVec Ideal S3x8x256x704 .f32)
    (t : Fin 256) (h : Fin 8) (r : Fin 256) (d : Fin 64) : EReal :=
  Ideal.div (kAttend X C T t h r ⟨d.val, by omega⟩) (kAttend X C T t h r 64)

/-- A head of a block, from loads that are the arrays' rows and lanes. -/
theorem head_at (X : FVec Ideal S65536x2048 .bf16) (C : FVec Ideal S8192x2048 .bf16) (T : FVec Ideal S3x8x256x704 .f32)
    (t : Fin 256) (h : Fin 8) (q : Vec Ideal S256x64 .bf16) (k : Vec Ideal S704x64 .bf16) (kc : Vec Ideal S256x64 .bf16)
    (b : Vec Ideal S1x1x256x704 .f32) (v : Vec Ideal S704x128 .bf16) (w : Vec Ideal S256x128 .bf16)
    (hq : ∀ (r : Fin 256) (e : Fin 64), q (ix2 r e) = X (ix2 (qRow t r) ⟨64 * h.val + e.val, by omega⟩))
    (hk : ∀ (l : Fin 704) (e : Fin 64), k (ix2 l e) = X (ix2 (kRow t l) ⟨512 + (64 * h.val + e.val), by omega⟩))
    (hkc : ∀ (l : Fin 256) (e : Fin 64), kc (ix2 l e) = C (ix2 (cRow t l) ⟨512 + (64 * h.val + e.val), by omega⟩))
    (hb : ∀ (r : Fin 256) (l : Fin 704), b (ix4 0 0 r l) = T (ix4 (variant t) h r l))
    (hv : ∀ (l : Fin 704) (z : Fin 128), v (ix2 l z) = X (ix2 (kRow t l) ⟨1024 + (128 * h.val + z.val), by omega⟩))
    (hw : ∀ (l : Fin 256) (z : Fin 128), w (ix2 l z) = C (ix2 (cRow t l) ⟨1024 + (128 * h.val + z.val), by omega⟩))
    (r : Fin 256) (d : Fin 64) : headPay q k kc b v w (ix2 r d) = kOut X C T t h r d := by
  unfold headPay
  rw [head_out]
  simp only [score_window, score_context, hq, hk, hkc, hb, hv, hw]
  rfl

/-- Where the body's loads of keys start at each point of the grid. -/
theorem offsK : ∀ t : Fin cfg0.N, k0_off1 (grid0.coords t) = ![64 * min 21 (4 * (t.val % 8) - 4), 0]
    ∧ k0_off2 (grid0.coords t) = ![64 * min 21 (4 * (t.val % 8) - 4), 64]
    ∧ k0_off4 (grid0.coords t) = ![64 * min 21 (4 * (t.val % 8) - 4), 128]
    ∧ k0_off6 (grid0.coords t) = ![64 * min 21 (4 * (t.val % 8) - 4), 192]
    ∧ k0_off8 (grid0.coords t) = ![64 * min 21 (4 * (t.val % 8) - 4), 256]
    ∧ k0_off10 (grid0.coords t) = ![64 * min 21 (4 * (t.val % 8) - 4), 320]
    ∧ k0_off12 (grid0.coords t) = ![64 * min 21 (4 * (t.val % 8) - 4), 384]
    ∧ k0_off14 (grid0.coords t) = ![64 * min 21 (4 * (t.val % 8) - 4), 448] :=
  (by decide +kernel : ∀ t : Fin grid0.N, _)

/-- Where the body's loads of values start at each point of the grid. -/
theorem offsV : ∀ t : Fin cfg0.N, k0_off3 (grid0.coords t) = ![64 * min 21 (4 * (t.val % 8) - 4), 0]
    ∧ k0_off5 (grid0.coords t) = ![64 * min 21 (4 * (t.val % 8) - 4), 128]
    ∧ k0_off7 (grid0.coords t) = ![64 * min 21 (4 * (t.val % 8) - 4), 256]
    ∧ k0_off9 (grid0.coords t) = ![64 * min 21 (4 * (t.val % 8) - 4), 384]
    ∧ k0_off11 (grid0.coords t) = ![64 * min 21 (4 * (t.val % 8) - 4), 512]
    ∧ k0_off13 (grid0.coords t) = ![64 * min 21 (4 * (t.val % 8) - 4), 640]
    ∧ k0_off15 (grid0.coords t) = ![64 * min 21 (4 * (t.val % 8) - 4), 768]
    ∧ k0_off16 (grid0.coords t) = ![64 * min 21 (4 * (t.val % 8) - 4), 896] :=
  (by decide +kernel : ∀ t : Fin grid0.N, _)

/-- The blocks' positions at each point of the grid. -/
theorem idx : ∀ t : Fin cfg0.N, win0_0.index t = ![t.val, 0] ∧ win0_1.index t = ![t.val / 8, 1] ∧ win0_2.index t = ![t.val / 8, 1]
    ∧ win0_3.index t = ![t.val / 8, 1] ∧ win0_4.index t = ![t.val / 8, 1] ∧ win0_6.index t = ![t.val, 0]
    ∧ win0_5.index t = ![if t.val % 8 = 0 then 0 else if t.val % 8 = 7 then 2 else 1, 0, 0, 0] :=
  (by decide +kernel : ∀ t : Fin grid0.N, _)

variable (m : (ℓ : Loc nD τ sig) → Buf (Elt Ideal) ℓ)

/-- Head `h`'s queries, as a point loads them. -/
theorem load_q (c : Dev nD) (t : Fin cfg0.N) (t' : Fin 256) (ht : t.val = t'.val) (h : Fin 8) (o : ℕ) (ho : o = 64 * h.val)
    (inb : ∀ a, ![0, o] a + S256x64.size a ≤ S256x512.size a) (r : Fin 256) (e : Fin 64) :
    View.ld (iblk m c 0 t) (Rect.unit (s := S256x512) ![0, o] S256x64.size inb) (ix2 r e)
      = m ((c : Thread nD τ).loc main_arg0) (ix2 (qRow t' r) ⟨64 * h.val + e.val, by omega⟩) := by
  pointwise
  blk_ext [iblk, V, idx t, qRow]

/-- Head `h`'s window keys, as a point loads them. -/
theorem load_k (c : Dev nD) (t : Fin cfg0.N) (t' : Fin 256) (ht : t.val = t'.val) (h : Fin 8) (off : Fin 2 → ℕ)
    (h0 : off 0 = 64 * firstRow t') (h1 : off 1 = 64 * h.val)
    (inb : ∀ a, off a + S704x64.size a ≤ S2048x512.size a) (l : Fin 704) (e : Fin 64) :
    View.ld (iblk m c 1 t) (Rect.unit (s := S2048x512) off S704x64.size inb) (ix2 l e)
      = m ((c : Thread nD τ).loc main_arg0) (ix2 (kRow t' l) ⟨512 + (64 * h.val + e.val), by omega⟩) := by
  pointwise
  blk_ext [iblk, V, idx t, kRow]

/-- Head `h`'s context keys, as a point loads them. -/
theorem load_kc (c : Dev nD) (t : Fin cfg0.N) (t' : Fin 256) (ht : t.val = t'.val) (h : Fin 8) (o : ℕ) (ho : o = 64 * h.val)
    (inb : ∀ a, ![0, o] a + S256x64.size a ≤ S256x512.size a) (l : Fin 256) (e : Fin 64) :
    View.ld (iblk m c 3 t) (Rect.unit (s := S256x512) ![0, o] S256x64.size inb) (ix2 l e)
      = m ((c : Thread nD τ).loc main_arg1) (ix2 (cRow t' l) ⟨512 + (64 * h.val + e.val), by omega⟩) := by
  pointwise
  blk_ext [iblk, V, idx t, cRow]

/-- Head `h`'s bias tile, as a point loads it. -/
theorem load_b (c : Dev nD) (t : Fin cfg0.N) (t' : Fin 256) (ht : t.val = t'.val) (h : Fin 8) (o : ℕ) (ho : o = h.val)
    (inb : ∀ a, ![0, o, 0, 0] a + S1x1x256x704.size a ≤ S1x8x256x704.size a) (r : Fin 256) (l : Fin 704) :
    View.ld (iblk m c 5 t) (Rect.unit (s := S1x8x256x704) ![0, o, 0, 0] S1x1x256x704.size inb) (ix4 0 0 r l)
      = V m c main_v115 (ix4 (variant t') h r l) := by
  pointwise
  blk_ext [iblk, idx t, variant, ht]

/-- Head `h`'s window value slot, as a point loads it. -/
theorem load_v (c : Dev nD) (t : Fin cfg0.N) (t' : Fin 256) (ht : t.val = t'.val) (h : Fin 8) (off : Fin 2 → ℕ)
    (h0 : off 0 = 64 * firstRow t') (h1 : off 1 = 128 * h.val)
    (inb : ∀ a, off a + S704x128.size a ≤ S2048x1024.size a) (l : Fin 704) (e : Fin 128) :
    View.ld (iblk m c 2 t) (Rect.unit (s := S2048x1024) off S704x128.size inb) (ix2 l e)
      = m ((c : Thread nD τ).loc main_arg0) (ix2 (kRow t' l) ⟨1024 + (128 * h.val + e.val), by omega⟩) := by
  pointwise
  blk_ext [iblk, V, idx t, kRow]

/-- Head `h`'s context value slot, as a point loads it. -/
theorem load_w (c : Dev nD) (t : Fin cfg0.N) (t' : Fin 256) (ht : t.val = t'.val) (h : Fin 8) (o : ℕ) (ho : o = 128 * h.val)
    (inb : ∀ a, ![0, o] a + S256x128.size a ≤ S256x1024.size a) (l : Fin 256) (e : Fin 128) :
    View.ld (iblk m c 4 t) (Rect.unit (s := S256x1024) ![0, o] S256x128.size inb) (ix2 l e)
      = m ((c : Thread nD τ).loc main_arg1) (ix2 (cRow t' l) ⟨1024 + (128 * h.val + e.val), by omega⟩) := by
  pointwise
  blk_ext [iblk, V, idx t, cRow]

/-- WHAT A POINT STORES: each lane of the block is the head's output over the arrays. -/
theorem block_out (c : Dev nD) (t : Fin cfg0.N) (t' : Fin 256) (ht : t.val = t'.val) (z : S256x512.Idx) (h' : Fin 8)
    (r' : Fin 256) (d' : Fin 64) (hr' : (z 0).val = r'.val) (hz : (z 1).val = 64 * h'.val + d'.val) :
    outsAt0 m c t z
      = kOut (m ((c : Thread nD τ).loc main_arg0)) (m ((c : Thread nD τ).loc main_arg1)) (V m c main_v115) t' h' r' d' := by
  have hK := offsK t
  have hV := offsV t
  unfold outsAt0
  frame_out
  canon_tiles z h
  all_goals
    idx_vars z
    obtain rfl : r' = z0 := Fin.ext (by omega)
    obtain rfl : d' = z1 := Fin.ext (by omega)
    refine Eq.trans (show _ = headPay _ _ _ _ _ _ _ from rfl) ?_
    refine head_at (m ((c : Thread nD τ).loc main_arg0)) (m ((c : Thread nD τ).loc main_arg1)) (V m c main_v115) t' h'
      _ _ _ _ _ _ (load_q m c t t' ht h' _ (by omega) _) (load_k m c t t' ht h' _ ?_ ?_ _)
      (load_kc m c t t' ht h' _ (by omega) _) (load_b m c t t' ht h' _ (by omega) _)
      (load_v m c t t' ht h' _ ?_ ?_ _) (load_w m c t t' ht h' _ (by omega) _) _ _
    all_goals
      simp only [hK, hV, firstRow, ht, Matrix.cons_val_zero, Matrix.cons_val_one]
      try omega

end Cert.KernelIdeal.Attn

end
-- ==== Proof.Final.lean ====
/- The result array over the kernel's arrays, once every point has stored its block. -/
module

public import proofs.«01_k».proof.Proof.Gen.KernelIdeal.Value
public import proofs.«01_k».proof.Proof.Payload

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.Attn

variable (m : (ℓ : Loc nD τ sig) → Buf (Elt Ideal) ℓ)

/-- The kernel's result over the arrays. -/
def kRes (X : FVec Ideal S65536x2048 .bf16) (C : FVec Ideal S8192x2048 .bf16) (T : FVec Ideal S3x8x256x704 .f32) :
    FVec Ideal S65536x512 .bf16 := fun y =>
  kOut X C T ⟨(y 0).val / 256, by idx_bounds y; omega⟩ ⟨(y 1).val / 64, by idx_bounds y; omega⟩
    ⟨(y 0).val % 256, by omega⟩ ⟨(y 1).val % 64, by omega⟩

/-- The result at a position of a tile. -/
theorem kRes_at (X : FVec Ideal S65536x2048 .bf16) (C : FVec Ideal S8192x2048 .bf16) (T : FVec Ideal S3x8x256x704 .f32)
    (y : S65536x512.Idx) (t : Fin 256) (h : Fin 8) (r : Fin 256) (d : Fin 64) (h0 : (y 0).val = t.val * 256 + r.val)
    (h1 : (y 1).val = 64 * h.val + d.val) : kRes X C T y = kOut X C T t h r d := by
  unfold kRes
  congr 1 <;> apply Fin.ext <;> dsimp only <;> omega

/-- The result array once every point has stored its block. -/
theorem final (c : Dev nD) : (dats m 0 c).arrAt 6 cfg0.N
    = kRes (m ((c : Thread nD τ).loc main_arg0)) (m ((c : Thread nD τ).loc main_arg1)) (V m c main_v115) := by
  refine (dats m 0 c).arrAt_eq_of_covers 6 _ (by decide +kernel) fun t hf y => ?_
  blk_simp
  rw [after0_6]
  have hi := (idx t).2.2.2.2.2.1
  idx_bounds y
  refine (block_out m c t ⟨t.val, t.isLt⟩ rfl y ⟨(y 1).val / 64, by omega⟩ ⟨(y 0).val, by omega⟩ ⟨(y 1).val % 64, by omega⟩ rfl ?_).trans
    (kRes_at _ _ _ _ _ _ _ _ ?_ ?_).symm
  · dsimp only; omega
  · blk_simp
    rw [hi]
    rfl
  · blk_simp
    rw [hi]
    show 0 * 512 + (y 1).val = 64 * ((y 1).val / 64) + (y 1).val % 64
    omega

end Cert.KernelIdeal.Attn

end
-- ==== Proof.BiasTable.lean ====
/- The integer tables the host makes for the bias tiles, and the tile it makes of them, as the program computes them. -/
module

public import proofs.«01_k».proof.Proof.Gen.KernelIdeal.Value
public import Idealize.ShloMosaic.Lib.Pipeline.ValueKit
public import Idealize.ShloMosaic.Lib.StableHlo.RunRead

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

/-- The first key column of each query column's window. -/
def colStart : IVec S64 32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- A vector over the columns, down the rows of a square. -/
def downCols (x : IVec S64 32) : IVec S64x64 32 :=
  broadcastInDim S64x64 ![0, 1] bcast_S64x1_S64x64_0_1 (broadcastInDim S64x1 ![0] bcast_S64_S64x1_0 x)

/-- A vector over the columns, along the rows of a square. -/
def alongCols (x : IVec S64 32) : IVec S64x64 32 :=
  broadcastInDim S64x64 ![0, 1] bcast_S1x64_S64x64_0_1 (broadcastInDim S1x64 ![1] bcast_S64_S1x64_1 x)

/-- Whether a key column lies in a query column's window. -/
def colOk : IVec S64x64 1 :=
  andi (cmpi .sge (alongCols (iotaInDim S64 32 0)) (downCols colStart))
    (cmpi .slt (alongCols (iotaInDim S64 32 0))
      (broadcastInDim S64x64 ![0, 1] bcast_S64x1_S64x64_0_1 (addi (broadcastInDim S64x1 ![0] bcast_S64_S64x1_0 colStart)
        (broadcastInDim S64x1 ![] bcast_S_S64x1 (constantI S_ 32 16#32)))))

/-- The second place in the bias table: the key column's distance from the query column, from 0. -/
def colDiff : IVec S64x64 32 :=
  subi (addi (minsi (broadcastInDim S64x64 ![] bcast_S_S64x64 (constantI S_ 32 15#32))
      (maxsi (broadcastInDim S64x64 ![] bcast_S_S64x64 (constantI S_ 32 4294967281#32))
        (subi (alongCols (iotaInDim S64 32 0)) (downCols (iotaInDim S64 32 0)))))
    (broadcastInDim S64x64 ![] bcast_S_S64x64 (constantI S_ 32 16#32)))
    (broadcastInDim S64x64 ![] bcast_S_S64x64 (constantI S_ 32 1#32))

/-- The tile of query rows each variant stands for. -/
def group : IVec S3 32 :=
  select (cmpi .eq (iotaInDim S3 32 0) (broadcastInDim S3 ![] bcast_S_S3 (constantI S_ 32 2#32)))
    (broadcastInDim S3 ![] bcast_S_S3 (constantI S_ 32 7#32)) (iotaInDim S3 32 0)

/-- The query rows of each variant. -/
def queryRow : IVec S3x4 32 :=
  addi (broadcastInDim S3x4 ![0, 1] bcast_S3x1_S3x4_0_1 (muli (broadcastInDim S3x1 ![0] bcast_S3_S3x1_0 group)
      (broadcastInDim S3x1 ![] bcast_S_S3x1 (constantI S_ 32 4#32))))
    (broadcastInDim S3x4 ![0, 1] bcast_S1x4_S3x4_0_1 (broadcastInDim S1x4 ![1] bcast_S4_S1x4_1 (iotaInDim S4 32 0)))

/-- The key rows of each variant. -/
def keyRow : IVec S3x11 32 :=
  addi (broadcastInDim S3x11 ![0, 1] bcast_S3x1_S3x11_0_1 (broadcastInDim S3x1 ![0] bcast_S3_S3x1_0
      (minsi (broadcastInDim S3 ![] bcast_S_S3 (constantI S_ 32 21#32))
        (maxsi (broadcastInDim S3 ![] bcast_S_S3 (constantI S_ 32 0#32))
          (subi (muli group (broadcastInDim S3 ![] bcast_S_S3 (constantI S_ 32 4#32)))
            (broadcastInDim S3 ![] bcast_S_S3 (constantI S_ 32 4#32)))))))
    (broadcastInDim S3x11 ![0, 1] bcast_S1x11_S3x11_0_1 (broadcastInDim S1x11 ![1] bcast_S11_S1x11_1 (iotaInDim S11 32 0)))

/-- The first key row of each query row's window. -/
def rowStart : IVec S3x4 32 :=
  minsi (broadcastInDim S3x4 ![] bcast_S_S3x4 (constantI S_ 32 24#32))
    (maxsi (broadcastInDim S3x4 ![] bcast_S_S3x4 (constantI S_ 32 0#32))
      (subi queryRow (broadcastInDim S3x4 ![] bcast_S_S3x4 (constantI S_ 32 4#32))))

/-- A table over the key rows, for each query row. -/
def alongRows (x : IVec S3x11 32) : IVec S3x4x11 32 :=
  broadcastInDim S3x4x11 ![0, 1, 2] bcast_S3x1x11_S3x4x11_0_1_2 (broadcastInDim S3x1x11 ![0, 2] bcast_S3x11_S3x1x11_0_2 x)

/-- A table over the query rows, for each key row. -/
def downRows (x : IVec S3x4 32) : IVec S3x4x11 32 :=
  broadcastInDim S3x4x11 ![0, 1, 2] bcast_S3x4x1_S3x4x11_0_1_2 (broadcastInDim S3x4x1 ![0, 1] bcast_S3x4_S3x4x1_0_1 x)

/-- Whether a key row lies in a query row's window. -/
def rowOk : IVec S3x4x11 1 :=
  andi (cmpi .sge (alongRows keyRow) (downRows rowStart))
    (cmpi .slt (alongRows keyRow) (broadcastInDim S3x4x11 ![0, 1, 2] bcast_S3x4x1_S3x4x11_0_1_2
      (addi (broadcastInDim S3x4x1 ![0, 1] bcast_S3x4_S3x4x1_0_1 rowStart)
        (broadcastInDim S3x4x1 ![] bcast_S_S3x4x1 (constantI S_ 32 8#32)))))

/-- The first place in the bias table: the key row's distance from the query row, from 0. -/
def rowDiff : IVec S3x4x11 32 :=
  subi (addi (subi (alongRows keyRow) (downRows queryRow)) (broadcastInDim S3x4x11 ![] bcast_S_S3x4x11 (constantI S_ 32 8#32)))
    (broadcastInDim S3x4x11 ![] bcast_S_S3x4x11 (constantI S_ 32 1#32))

/-- The choice of a row of the bias table, for each query row and key row in its window. -/
def rowHot : FVec Ideal S3x4x11x15 .f32 :=
  uitofp .f32 (andi
    (broadcastInDim S3x4x11x15 ![0, 1, 2, 3] bcast_S3x4x11x1_S3x4x11x15_0_1_2_3
      (broadcastInDim S3x4x11x1 ![0, 1, 2] bcast_S3x4x11_S3x4x11x1_0_1_2 rowOk))
    (cmpi .eq
      (broadcastInDim S3x4x11x15 ![0, 1, 2, 3] bcast_S3x4x11x1_S3x4x11x15_0_1_2_3
        (broadcastInDim S3x4x11x1 ![0, 1, 2] bcast_S3x4x11_S3x4x11x1_0_1_2 rowDiff))
      (broadcastInDim S3x4x11x15 ![0, 1, 2, 3] bcast_S1x1x1x15_S3x4x11x15_0_1_2_3
        (broadcastInDim S1x1x1x15 ![3] bcast_S15_S1x1x1x15_3 (iotaInDim S15 32 0)))))

/-- The choice of a column of the bias table, for each query column and key column. -/
def colHot : FVec Ideal S31x64x64 .f32 :=
  uitofp .f32 (cmpi .eq
    (broadcastInDim S31x64x64 ![0, 1, 2] bcast_S1x64x64_S31x64x64_0_1_2
      (broadcastInDim S1x64x64 ![1, 2] bcast_S64x64_S1x64x64_1_2 colDiff))
    (broadcastInDim S31x64x64 ![0, 1, 2] bcast_S31x1x1_S31x64x64_0_1_2
      (broadcastInDim S31x1x1 ![0] bcast_S31_S31x1x1_0 (iotaInDim S31 32 0))))

/-- The bias table with its columns chosen. -/
def colSum (B : FVec Ideal S8x15x31 .f32) : FVec Ideal S8x15x64x64 .f32 :=
  Host.reduceAdd (mulf
      (broadcastInDim S8x15x31x64x64 ![0, 1, 2, 3, 4] bcast_S8x15x31x1x1_S8x15x31x64x64_0_1_2_3_4
        (broadcastInDim S8x15x31x1x1 ![0, 1, 2] bcast_S8x15x31_S8x15x31x1x1_0_1_2 B))
      (broadcastInDim S8x15x31x64x64 ![0, 1, 2, 3, 4] bcast_S1x1x31x64x64_S8x15x31x64x64_0_1_2_3_4
        (broadcastInDim S1x1x31x64x64 ![2, 3, 4] bcast_S31x64x64_S1x1x31x64x64_2_3_4 colHot)))
    (constant S_ .f32 0x00000000#32) reducesTo_S8x15x31x64x64_S8x15x64x64_d2 h_S_

/-- The bias table with its rows and columns chosen. -/
def rowSum (B : FVec Ideal S8x15x31 .f32) : FVec Ideal S3x8x4x64x11x64 .f32 :=
  Host.reduceAdd (mulf
      (broadcastInDim S3x8x4x64x11x64x15 ![0, 1, 2, 3, 4, 5, 6] bcast_S3x1x4x1x11x1x15_S3x8x4x64x11x64x15_0_1_2_3_4_5_6
        (broadcastInDim S3x1x4x1x11x1x15 ![0, 2, 4, 6] bcast_S3x4x11x15_S3x1x4x1x11x1x15_0_2_4_6 rowHot))
      (broadcastInDim S3x8x4x64x11x64x15 ![0, 1, 2, 3, 4, 5, 6] bcast_S1x8x1x64x1x64x15_S3x8x4x64x11x64x15_0_1_2_3_4_5_6
        (broadcastInDim S1x8x1x64x1x64x15 ![1, 3, 5, 6] bcast_S8x64x64x15_S1x8x1x64x1x64x15_1_3_5_6
          (transpose S8x64x64x15 [0, 2, 3, 1] (colSum B) transposes_S8x15x64x64_S8x64x64x15_0_2_3_1))))
    (constant S_ .f32 0x00000000#32) reducesTo_S3x8x4x64x11x64x15_S3x8x4x64x11x64_d6 h_S_

/-- Whether a key lies in a query's window. -/
def pairOk : IVec S3x4x64x11x64 1 :=
  andi (broadcastInDim S3x4x64x11x64 ![0, 1, 2, 3, 4] bcast_S3x4x1x11x1_S3x4x64x11x64_0_1_2_3_4
      (broadcastInDim S3x4x1x11x1 ![0, 1, 3] bcast_S3x4x11_S3x4x1x11x1_0_1_3 rowOk))
    (broadcastInDim S3x4x64x11x64 ![0, 1, 2, 3, 4] bcast_S1x1x64x1x64_S3x4x64x11x64_0_1_2_3_4
      (broadcastInDim S1x1x64x1x64 ![2, 4] bcast_S64x64_S1x1x64x1x64_2_4 colOk))

/-- The bias tiles. -/
def biasTab (B : FVec Ideal S8x15x31 .f32) : FVec Ideal S3x8x4x64x11x64 .f32 :=
  select (broadcastInDim S3x8x4x64x11x64 ![0, 1, 2, 3, 4, 5] bcast_S3x1x4x64x11x64_S3x8x4x64x11x64_0_1_2_3_4_5
      (broadcastInDim S3x1x4x64x11x64 ![0, 2, 3, 4, 5] bcast_S3x4x64x11x64_S3x1x4x64x11x64_0_2_3_4_5 pairOk))
    (Host.divf (rowSum B) (broadcastInDim S3x8x4x64x11x64 ![] bcast_S_S3x8x4x64x11x64 (Host.log (constant S_ .f32 0x40000000#32))))
    (broadcastInDim S3x8x4x64x11x64 ![] bcast_S_S3x8x4x64x11x64 (constant S_ .f32 0xFF800000#32))

variable (m : (ℓ : Loc nD τ sig) → Buf (Elt Ideal) ℓ)

/-- The bias the kernel takes is the tile table over the launched bias parameters. -/
theorem bias_read (c : Dev nD) : V m c main_v115
    = shapeCast S3x8x256x704 (biasTab (m ((c : Thread nD τ).loc main_arg2))) shapeCasts_S3x8x4x64x11x64_S3x8x256x704 := by
  unfold_abbrev_sides
  after_reads_simp
  simp -implicitDefEqProofs only [StableHlo.TRef.toBuf, StableHlo.TRef.ofBuf, cast_cast, cast_eq]
  rfl

/-- A query row's window starts this many rows into the tile's key rows. -/
def shift (g : Fin 8) (row : Fin 4) : ℕ := min 24 (4 * g.val + row.val - 4) - min 21 (4 * g.val - 4)

/-- The first key column of a query column's window. -/
def c0 (c : Fin 64) : ℕ := min 48 (c.val - 8)

/-- The variant of a tile. -/
def variantOf (g : Fin 8) : Fin 3 := if g.val = 0 then 0 else if g.val = 7 then 2 else 1

/-- The column windows. -/
theorem colOk_at : ∀ c k : Fin 64, colOk (ix2 c k) = if c0 c ≤ k.val ∧ k.val < c0 c + 16 then 1#1 else 0#1 := by
  decide +kernel

/-- The columns' places in the bias table. -/
theorem colDiff_at : ∀ c k : Fin 64, c0 c ≤ k.val ∧ k.val < c0 c + 16 →
    colDiff (ix2 c k) = BitVec.ofNat 32 (k.val + 15 - c.val) := by
  decide +kernel

/-- The row windows. -/
theorem rowOk_at : ∀ (g : Fin 8) (row : Fin 4) (j : Fin 11), rowOk (ix3 (variantOf g) row j)
    = if shift g row ≤ j.val ∧ j.val < shift g row + 8 then 1#1 else 0#1 := by
  decide +kernel

/-- The rows' places in the bias table. -/
theorem rowDiff_at : ∀ (g : Fin 8) (row : Fin 4) (j : Fin 11), shift g row ≤ j.val ∧ j.val < shift g row + 8 →
    rowDiff (ix3 (variantOf g) row j) = BitVec.ofNat 32 (min 21 (4 * g.val - 4) + j.val + 7 - (4 * g.val + row.val)) := by
  decide +kernel

end Cert.KernelIdeal.Attn

end
-- ==== Proof.Bias.lean ====
/- The bias tiles read at an index: the parameter of a key in the window, over the logarithm of two; minus infinity out of it. -/
module

public import proofs.«01_k».proof.Proof.BiasTable

@[expose] public section

set_option maxRecDepth 16384

noncomputable section

namespace Cert.KernelIdeal.Attn

open Idealize.ShloMosaic Idealize.ShloMosaic.TcCoe Idealize.SL.Sem
open Cert.KernelIdeal Cert.KernelIdeal.Gen

/-- Small numbers with the same word are the same. -/
theorem word_inj {a b : ℕ} (ha : a < 256) (hb : b < 256) (h : BitVec.ofNat 32 a = BitVec.ofNat 32 b) : a = b := by
  have := congrArg BitVec.toNat h
  simp only [BitVec.toNat_ofNat] at this
  omega

/-- The number a comparison of small words for equality becomes. -/
theorem hot_eq {a b : ℕ} (ha : a < 256) (hb : b < 256) :
    (FloatOps.uitofp (F := Ideal) FTy.f32 (IntOp.cmpi CmpIPredicate.eq (BitVec.ofNat 32 a) (BitVec.ofNat 32 b)) : EReal)
      = if b = a then 1 else 0 := by
  by_cases h : b = a
  · subst h
    simp [FloatOps.uitofp, IntOp.cmpi]
  · have h' : ¬ BitVec.ofNat 32 a = BitVec.ofNat 32 b := fun e => h (word_inj ha hb e).symm
    simp [FloatOps.uitofp, IntOp.cmpi, h, h']

/-- A column is chosen where the key column's place is its number. -/
theorem colHot_at (c k : Fin 64) (n : Fin 31) (x : Fin 31) (h : colDiff (ix2 c k) = BitVec.ofNat 32 x.val) :
    colHot (ix3 n c k) = if n = x then 1 else 0 := by
  unfold colHot
  pointwise
  rw [h, hot_eq (by omega) (by omega)]
  simp only [Fin.ext_iff]

/-- A row is chosen where the key row's place is its number. -/
theorem rowHot_at (v : Fin 3) (row : Fin 4) (j : Fin 11) (n : Fin 15) (x : Fin 15) (ok : rowOk (ix3 v row j) = 1#1)
    (h : rowDiff (ix3 v row j) = BitVec.ofNat 32 x.val) :
    rowHot (ix4 v row j n) = if n = x then 1 else 0 := by
  unfold rowHot
  pointwise
  have h1 : ∀ b : BitVec 1, IntOp.andi 1#1 b = b := by decide
  rw [h, ok, h1, hot_eq (by omega) (by omega)]
  simp only [Fin.ext_iff]

/-- The columns' sum. -/
theorem colSum_at (B : FVec Ideal S8x15x31 .f32) (h : Fin 8) (n : Fin 15) (c k : Fin 64) :
    colSum B (ix4 h n c k) = ∑ x : Fin 31, B (ix3 h n x) * colHot (ix3 x c k) := by
  unfold colSum
  pointwise

/-- The rows' sum. -/
theorem rowSum_at (B : FVec Ideal S8x15x31 .f32) (v : Fin 3) (h : Fin 8) (row : Fin 4) (c : Fin 64) (j : Fin 11) (k : Fin 64) :
    rowSum B (ix6 v h row c j k) = ∑ n : Fin 15, rowHot (ix4 v row j n) * colSum B (ix4 h n c k) := by
  unfold rowSum
  refine (Ideal.hostReduceAdd_single reducesTo_S3x8x4x64x11x64x15_S3x8x4x64x11x64_d6 (by decide) _ _ _).trans ?_
  refine Eq.trans (congrArg₂ (· + ·) (show _ = (0 : EReal) from ?_) (Finset.sum_congr rfl fun (n : Fin 15) _ => ?_)) (zero_add _)
  · pointwise
  · refine (congrArg _ (show _ = ix7 v h row c j k n from ?_)).trans ?_
    · funext a
      fin_cases a <;> rfl
    · pointwise

/-- The tile. -/
theorem biasTab_at (B : FVec Ideal S8x15x31 .f32) (v : Fin 3) (h : Fin 8) (row : Fin 4) (c : Fin 64) (j : Fin 11) (k : Fin 64) :
    biasTab B (ix6 v h row c j k) = if rowOk (ix3 v row j) = 1#1 ∧ colOk (ix2 c k) = 1#1 then
      Ideal.div (rowSum B (ix6 v h row c j k)) ((Real.log 2 : ℝ) : EReal) else ⊥ := by
  unfold biasTab pairOk
  pointwise
  have h2 : Ideal.ofBits FTy.f32 1073741824#32 = ((2 : ℝ) : EReal) := by
    simp [Ideal.ofBits, Ideal.ieee]
    rw [← EReal.coe_mul]
    norm_num
  have h3 : Ideal.log ((2 : ℝ) : EReal) = ((Real.log 2 : ℝ) : EReal) := by
    show (if (2 : ℝ) ≤ 0 then ⊥ else ((Real.log 2 : ℝ) : EReal)) = _
    rw [if_neg (by norm_num)]
  have h4 : Ideal.ofBits FTy.f32 4286578688#32 = ⊥ := by simp [Ideal.ofBits, Ideal.ieee]
  have h5 : ∀ a b : BitVec 1, IntOp.andi a b = 1 ↔ a = 1#1 ∧ b = 1#1 := by decide
  rw [h2, h3, h4]
  simp only [Scalar.select, h5]

/-- The tile in the kernel's shape. -/
theorem flat_at (T : FVec Ideal S3x8x4x64x11x64 .f32) (v : Fin 3) (h : Fin 8) (r : Fin 256) (l : Fin 704) (row : Fin 4) (c : Fin 64) (j : Fin 11) (k : Fin 64)
    (hr : r.val = row.val * 64 + c.val) (hl : l.val = j.val * 64 + k.val) :
    shapeCast S3x8x256x704 T shapeCasts_S3x8x4x64x11x64_S3x8x256x704 (ix4 v h r l) = T (ix6 v h row c j k) := by
  pointwise
  congr 2 <;> apply Fin.ext <;> dsimp only <;> omega

/-- The tile at a key in the query's window. -/
theorem bias_in (B : FVec Ideal S8x15x31 .f32) (g h : Fin 8) (row : Fin 4) (c : Fin 64) (j : Fin 11) (k : Fin 64)
    (hj : shift g row ≤ j.val ∧ j.val < shift g row + 8) (hk : c0 c ≤ k.val ∧ k.val < c0 c + 16) (n : Fin 15) (x : Fin 31)
    (hn : n.val = min 21 (4 * g.val - 4) + j.val + 7 - (4 * g.val + row.val)) (hx : x.val = k.val + 15 - c.val) :
    biasTab B (ix6 (variantOf g) h row c j k) = Ideal.div (B (ix3 h n x)) ((Real.log 2 : ℝ) : EReal) := by
  have h1 : rowOk (ix3 (variantOf g) row j) = 1#1 := by rw [rowOk_at, if_pos hj]
  have h2 : colOk (ix2 c k) = 1#1 := by rw [colOk_at, if_pos hk]
  have h3 := rowDiff_at g row j hj
  have h4 := colDiff_at c k hk
  rw [← hn] at h3
  rw [← hx] at h4
  rw [biasTab_at, if_pos ⟨h1, h2⟩, rowSum_at]
  simp only [rowHot_at _ _ _ _ n h1 h3, colSum_at, colHot_at c k _ x h4, mul_ite, mul_one, mul_zero, ite_mul, one_mul, zero_mul,
    Finset.sum_ite_eq', Finset.mem_univ, if_true]

/-- The tile at a key out of the query's window. -/
theorem bias_out (B : FVec Ideal S8x15x31 .f32) (g h : Fin 8) (row : Fin 4) (c : Fin 64) (j : Fin 11) (k : Fin 64)
    (ho : ¬ ((shift g row ≤ j.val ∧ j.val < shift g row + 8) ∧ c0 c ≤ k.val ∧ k.val < c0 c + 16)) :
    biasTab B (ix6 (variantOf g) h row c j k) = ⊥ := by
  rw [biasTab_at, if_neg]
  rintro ⟨h1, h2⟩
  refine ho ⟨?_, ?_⟩
  · by_contra hn
    rw [rowOk_at, if_neg hn] at h1
    exact absurd h1 (by decide)
  · by_contra hn
    rw [colOk_at, if_neg hn] at h2
    exact absurd h2 (by decide)

end Cert.KernelIdeal.Attn

end
-- ==== Proof.RefTables.lean ====
/- The reference's integer tables and its gathers, read at an index. -/
module

public import proofs.«01_k».proof.Proof.Gen.ReferenceIdeal.Read
public import Idealize.ShloMosaic.Lib.Pipeline.ValueKit

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Read

/-- The first key column of a query column's window. -/
def c0 (c : Fin 64) : ℕ := min 48 (c.val - 8)

/-- The first key row of a query row's window. -/
def r0 (r : Fin 32) : ℕ := min 24 (r.val - 4)

theorem c0_le (c : Fin 64) : c0 c ≤ 48 := min_le_left _ _
theorem r0_le (r : Fin 32) : r0 r ≤ 24 := min_le_left _ _

/-- The mask of the columns. -/
theorem mask_at : ∀ c k : Fin 64, val_main_v34 (F := Ideal) (ix2 c k) = if c0 c ≤ k.val ∧ k.val < c0 c + 16 then 1#1 else 0#1 := by
  decide +kernel

/-- The row the keys are taken from. -/
theorem keyRow_at : ∀ (r : Fin 32) (w : Fin 8), val_main_v67 (F := Ideal) (ix3 r w 0) = BitVec.ofNat 32 (r0 r + w.val) := by
  decide +kernel

/-- The row the values are taken from. -/
theorem valRow_at : ∀ (r : Fin 32) (w : Fin 8), val_main_v74 (F := Ideal) (ix3 r w 0) = BitVec.ofNat 32 (r0 r + w.val) := by
  decide +kernel

/-- The row of the bias table. -/
theorem biasRow_at : ∀ (r : Fin 32) (w : Fin 8), val_main_v82 (F := Ideal) (ix4 r 0 w 0) = BitVec.ofNat 32 (r0 r + w.val + 7 - r.val) := by
  decide +kernel

/-- The column of the bias table. -/
theorem biasCol_at : ∀ c k : Fin 64, c0 c ≤ k.val ∧ k.val < c0 c + 16 →
    val_main_v87 (F := Ideal) (ix4 0 c 0 k) = BitVec.ofNat 32 (k.val + 15 - c.val) := by
  decide +kernel

/-- The two columns of the bias table's places. -/
theorem place0_at (r : Fin 32) (c : Fin 64) (w : Fin 8) (k : Fin 64) :
    val_main_v92 (F := Ideal) (ix5 r c w k 0) = val_main_v82 (F := Ideal) (ix4 r 0 w 0) := by
  unfold val_main_v92
  pointwise [val_main_v90, val_main_v88]

/-- The two columns of the bias table's places. -/
theorem place1_at (r : Fin 32) (c : Fin 64) (w : Fin 8) (k : Fin 64) :
    val_main_v92 (F := Ideal) (ix5 r c w k 1) = val_main_v87 (F := Ideal) (ix4 0 c 0 k) := by
  unfold val_main_v92
  pointwise [val_main_v91, val_main_v89]

/-- A word of a small number, read signed. -/
theorem word_small (n : ℕ) (h : n < 256) : (BitVec.ofNat 32 n).toInt.toNat = n := by
  rw [BitVec.toInt_eq_toNat_of_lt] <;> simp only [BitVec.toNat_ofNat] <;> omega

/-- The gather of rows of keys or values. -/
theorem rows_gather (x : FVec Ideal S32x32x64x8x64 .f32) (idx : IVec S32x8x1 32) (b : Fin 32) (r : Fin 32) (w : Fin 8) (k : Fin 64)
    (h : Fin 8) (e : Fin 64) (n : Fin 32) (hn : idx (ix3 r w 0) = BitVec.ofNat 32 n.val) :
    Host.gather gather_S32x32x64x8x64_S32x8x1_S32x32x8x64x8x64_0345_1_n_n_1_2_32164864 x idx (ix6 b r w k h e) = x (ix5 b n k h e) := by
  unfold Host.gather
  refine congrArg x ?_
  have hi : gather_S32x32x64x8x64_S32x8x1_S32x32x8x64x8x64_0345_1_n_n_1_2_32164864.siIdx (ix6 b r w k h e) ⟨0, by decide⟩ = ix3 r w 0 := by
    funext a
    apply Fin.ext
    fin_cases a <;> rfl
  funext a
  apply Fin.ext
  fin_cases a
  · show 0 + 0 + b.val = b.val
    omega
  · show min (idx (gather_S32x32x64x8x64_S32x8x1_S32x32x8x64x8x64_0345_1_n_n_1_2_32164864.siIdx (ix6 b r w k h e) ⟨0, by decide⟩)).toInt.toNat (32 - 1)
      + 0 + 0 = n.val
    rw [hi, hn, word_small _ (by omega)]
    omega
  · show 0 + 0 + k.val = k.val
    omega
  · show 0 + 0 + h.val = h.val
    omega
  · show 0 + 0 + e.val = e.val
    omega

/-- The gather of the bias table. -/
theorem bias_gather (x : FVec Ideal S8x15x31 .f32) (idx : IVec S32x64x8x64x2 32) (h : Fin 8) (r : Fin 32) (c : Fin 64) (w : Fin 8)
    (k : Fin 64) (n : Fin 15) (l : Fin 31) (hn : idx (ix5 r c w k 0) = BitVec.ofNat 32 n.val)
    (hl : idx (ix5 r c w k 1) = BitVec.ofNat 32 l.val) :
    Host.gather gather_S8x15x31_S32x64x8x64x2_S8x32x64x8x64_0_12_n_n_12_4_811 x idx (ix5 h r c w k) = x (ix3 h n l) := by
  unfold Host.gather
  refine congrArg x ?_
  have h0 : gather_S8x15x31_S32x64x8x64x2_S8x32x64x8x64_0_12_n_n_12_4_811.siIdx (ix5 h r c w k) ⟨0, by decide⟩ = ix5 r c w k 0 := by
    funext a
    apply Fin.ext
    fin_cases a <;> rfl
  have h1 : gather_S8x15x31_S32x64x8x64x2_S8x32x64x8x64_0_12_n_n_12_4_811.siIdx (ix5 h r c w k) ⟨1, by decide⟩ = ix5 r c w k 1 := by
    funext a
    apply Fin.ext
    fin_cases a <;> rfl
  funext a
  apply Fin.ext
  fin_cases a
  · show 0 + 0 + h.val = h.val
    omega
  · show min (idx (gather_S8x15x31_S32x64x8x64x2_S8x32x64x8x64_0_12_n_n_12_4_811.siIdx (ix5 h r c w k) ⟨0, by decide⟩)).toInt.toNat (15 - 1)
      + 0 + 0 = n.val
    rw [h0, hn, word_small _ (by omega)]
    omega
  · show min (idx (gather_S8x15x31_S32x64x8x64x2_S8x32x64x8x64_0_12_n_n_12_4_811.siIdx (ix5 h r c w k) ⟨1, by decide⟩)).toInt.toNat (31 - 1)
      + 0 + 0 = l.val
    rw [h1, hl, word_small _ (by omega)]
    omega

end Cert.ReferenceIdeal.Attn

end
-- ==== Proof.RefRead.lean ====
/- The reference's result read at an index. -/
module

public import proofs.«01_k».proof.Proof.RefTables
public import proofs.«01_k».proof.Proof.Softmax

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Read Cert.Attn

/-- The array row of a grid position. -/
def gRow (b r : Fin 32) (c : Fin 64) : Fin 65536 := ⟨b.val * 2048 + (r.val * 64 + c.val), by omega⟩

/-- The array row of a context position. -/
def xRow (b : Fin 32) (k : Fin 256) : Fin 8192 := ⟨b.val * 256 + k.val, by omega⟩

/-- Positions of a matrix agree where their coordinates do. -/
theorem ix2_ext {n m : ℕ} {a b : Fin n} {c d : Fin m} (h : a.val = b.val) (h' : c.val = d.val) : ix2 a c = ix2 b d := by
  rw [Fin.ext h, Fin.ext h']

/-- The scale of the heads. -/
theorem eighth : Ideal.ofBits FTy.f32 0x3E000000#32 = ((1 / 8 : ℝ) : EReal) := by
  simp [Ideal.ofBits, Ideal.ieee]
  rw [← EReal.coe_mul]
  norm_num

/-- The mask's score. -/
theorem bot_bits : Ideal.ofBits FTy.f32 0xFF800000#32 = ⊥ := by
  simp [Ideal.ofBits, Ideal.ieee]

/-- The logarithm of two. -/
theorem log_two : Ideal.log (Ideal.ofBits FTy.f32 0x40000000#32) = ((Real.log 2 : ℝ) : EReal) := by
  have h2 : Ideal.ofBits FTy.f32 0x40000000#32 = ((2 : ℝ) : EReal) := by
    simp [Ideal.ofBits, Ideal.ieee]
    rw [← EReal.coe_mul]
    norm_num
  rw [h2]
  show (if (2 : ℝ) ≤ 0 then ⊥ else ((Real.log 2 : ℝ) : EReal)) = _
  rw [if_neg (by norm_num)]

/-- A sum over the window's keys, by columns and rows. -/
theorem sum_window (f : Fin 512 → EReal) : ∑ x : Fin 512, f x = ∑ k : Fin 64, ∑ w : Fin 8, f ⟨w.val * 64 + k.val, by omega⟩ := by
  rw [Finset.sum_comm, ← Fintype.sum_prod_type' (f := fun (w : Fin 8) (k : Fin 64) => f ⟨w.val * 64 + k.val, by omega⟩)]
  refine (Fintype.sum_equiv (finProdFinEquiv (m := 8) (n := 64)) _ f fun p => congrArg f (Fin.ext ?_)).symm
  show p.1.val * 64 + p.2.val = p.2.val + 64 * p.1.val
  omega

variable (X : FVec Ideal S65536x2048 .bf16) (C : FVec Ideal S8192x2048 .bf16) (B : FVec Ideal S8x15x31 .f32)

/-- The queries, scaled. -/
theorem query_at (b r : Fin 32) (c : Fin 64) (h : Fin 8) (e : Fin 64) : val_main_v7 (F := Ideal) X (ix5 b r c h e)
    = X (ix2 (gRow b r c) ⟨64 * h.val + e.val, by omega⟩) * Ideal.div ((Real.log 2 : ℝ) : EReal) ((1 / 8 : ℝ) : EReal) := by
  unfold val_main_v7
  pointwise [val_main_v6, val_main_v2, val_main_v5, val_main_v4, val_main_v3, val_main_v0, val_main_cst, val_main_cst_0]
  rw [eighth, log_two]
  exact congrArg (· * _) (congrArg X (ix2_ext (by simp only [gRow]; omega) (by simp only []; omega)))

/-- The keys. -/
theorem key_at (b r : Fin 32) (c : Fin 64) (h : Fin 8) (e : Fin 64) : val_main_v9 (F := Ideal) X (ix5 b r c h e)
    = X (ix2 (gRow b r c) ⟨512 + (64 * h.val + e.val), by omega⟩) := by
  unfold val_main_v9
  pointwise [val_main_v8, val_main_v0]
  exact congrArg X (ix2_ext (by simp only [gRow]; omega) (by simp only []; omega))

/-- The values. -/
theorem value_at (b r : Fin 32) (c : Fin 64) (h : Fin 8) (e : Fin 64) : val_main_v12 (F := Ideal) X (ix5 b r c h e)
    = X (ix2 (gRow b r c) ⟨1024 + (128 * h.val + e.val), by omega⟩) := by
  unfold val_main_v12
  pointwise [val_main_v11, val_main_v10, val_main_v0]
  exact congrArg X (ix2_ext (by simp only [gRow]; omega) (by simp only []; omega))

/-- The context keys. -/
theorem ctxKey_at (b : Fin 32) (k : Fin 256) (h : Fin 8) (e : Fin 64) : val_main_v14 (F := Ideal) C (ix4 b k h e)
    = C (ix2 (xRow b k) ⟨512 + (64 * h.val + e.val), by omega⟩) := by
  unfold val_main_v14
  pointwise [val_main_v13, val_main_v1]
  exact congrArg C (ix2_ext (by simp only [xRow]; try omega) (by simp only []; omega))

/-- The context values. -/
theorem ctxValue_at (b : Fin 32) (k : Fin 256) (h : Fin 8) (e : Fin 64) : val_main_v17 (F := Ideal) C (ix4 b k h e)
    = C (ix2 (xRow b k) ⟨1024 + (128 * h.val + e.val), by omega⟩) := by
  unfold val_main_v17
  pointwise [val_main_v16, val_main_v15, val_main_v1]
  exact congrArg C (ix2_ext (by simp only [xRow]; try omega) (by simp only []; omega))

/-- The window's products. -/
theorem dot_at (b : Fin 32) (h : Fin 8) (r : Fin 32) (c : Fin 64) (w : Fin 8) (k : Fin 64) :
    val_main_v94 (F := Ideal) X (ix6 b h r c w k)
      = ∑ e : Fin 64, val_main_v7 (F := Ideal) X (ix5 b r c h e) * val_main_v68 (F := Ideal) X (ix6 b r w k h e) := by
  rw [val_main_v94_apply]
  refine Finset.sum_congr rfl fun e _ => ?_
  refine congrArg₂ (· * ·) (congrArg _ ?_) (congrArg _ ?_) <;> (funext a; fin_cases a <;> rfl)

/-- The context's products. -/
theorem ctxDot_at (b : Fin 32) (h : Fin 8) (r : Fin 32) (c : Fin 64) (k : Fin 256) :
    val_main_v103 (F := Ideal) X C (ix5 b h r c k)
      = ∑ e : Fin 64, val_main_v7 (F := Ideal) X (ix5 b r c h e) * val_main_v14 (F := Ideal) C (ix4 b k h e) := by
  rw [val_main_v103_apply]
  refine Finset.sum_congr rfl fun e _ => ?_
  refine congrArg₂ (· * ·) (congrArg _ ?_) (congrArg _ ?_) <;> (funext a; fin_cases a <;> rfl)

/-- The masked scores. -/
theorem masked_at (b : Fin 32) (h : Fin 8) (r : Fin 32) (c : Fin 64) (w : Fin 8) (k : Fin 64) :
    val_main_v101 (F := Ideal) X B (ix6 b h r c w k) = if val_main_v34 (F := Ideal) (ix2 c k) = 1#1 then
      val_main_v94 (F := Ideal) X (ix6 b h r c w k) * ((1 / 8 : ℝ) : EReal) + val_main_v93 (F := Ideal) B (ix5 h r c w k) else ⊥ := by
  unfold val_main_v101
  pointwise [val_main_v99, val_main_v96, val_main_v95, val_main_v98, val_main_v97, val_main_call3_v1, val_main_call3_v2, val_main_v100, val_main_call3_v0, val_main_cst_21, val_main_cst_22]
  rw [eighth]
  show Scalar.select _ _ (Ideal.ofBits FTy.f32 0xFF800000#32) = _
  rw [bot_bits]
  rfl

/-- All the scores of a query: the window's, then the context's. -/
theorem score_lo (b : Fin 32) (h : Fin 8) (r : Fin 32) (c : Fin 64) (x : Fin 512) :
    val_main_v106 (F := Ideal) X C B (ix5 b h r c ⟨x.val, by omega⟩)
      = val_main_v101 (F := Ideal) X B (ix6 b h r c ⟨x.val / 64, by omega⟩ ⟨x.val % 64, by omega⟩) := by
  unfold val_main_v106
  pointwise [val_main_v102]

/-- All the scores of a query: the window's, then the context's. -/
theorem score_hi (b : Fin 32) (h : Fin 8) (r : Fin 32) (c : Fin 64) (k : Fin 256) :
    val_main_v106 (F := Ideal) X C B (ix5 b h r c ⟨512 + k.val, by omega⟩)
      = val_main_v103 (F := Ideal) X C (ix5 b h r c k) * ((1 / 8 : ℝ) : EReal) := by
  unfold val_main_v106
  pointwise [val_main_v105, val_main_v104, val_main_cst_23]
  rw [eighth]

/-- The window's weighted values. -/
theorem out_window (b r : Fin 32) (h : Fin 8) (d c : Fin 64) : val_main_v120 (F := Ideal) X C B (ix5 b r h d c)
    = ∑ x : Fin 512, val_main_v117 (F := Ideal) X C B (ix5 b h r c ⟨x.val, by omega⟩)
      * val_main_v75 (F := Ideal) X (ix6 b r ⟨x.val / 64, by omega⟩ ⟨x.val % 64, by omega⟩ h d) := by
  unfold val_main_v120 val_main_v119 val_main_v118
  generalize val_main_v117 (F := Ideal) X C B = y
  generalize val_main_v75 (F := Ideal) X = z
  pointwise
  rw [sum_window]
  refine Finset.sum_congr rfl fun k _ => Finset.sum_congr rfl fun w _ => ?_
  rw [mul_comm]
  refine congrArg (_ * ·) (congrArg z ?_)
  have h1 : (⟨(w.val * 64 + k.val) / 64, by omega⟩ : Fin 8) = w := Fin.ext (by simp only []; omega)
  have h2 : (⟨(w.val * 64 + k.val) % 64, by omega⟩ : Fin 64) = k := Fin.ext (by simp only []; omega)
  simp only [h1, h2]

/-- The context's weighted values. -/
theorem out_context (b : Fin 32) (h : Fin 8) (d : Fin 64) (r : Fin 32) (c : Fin 64) : val_main_v123 (F := Ideal) X C B (ix5 b h d r c)
    = ∑ k : Fin 256, val_main_v17 (F := Ideal) C (ix4 b k h d) * val_main_v117 (F := Ideal) X C B (ix5 b h r c ⟨512 + k.val, by omega⟩) := by
  rw [val_main_v123_apply]
  refine Finset.sum_congr rfl fun e _ => ?_
  rw [val_main_v122_apply]
  refine congrArg₂ (· * ·) (congrArg _ ?_) (congrArg _ ?_) <;> (funext a; fin_cases a <;> rfl)

/-- The result. -/
theorem res_at (b r : Fin 32) (c : Fin 64) (h : Fin 8) (d : Fin 64) :
    val_main_v127 (F := Ideal) X C B (ix2 (gRow b r c) ⟨64 * h.val + d.val, by omega⟩)
      = val_main_v120 (F := Ideal) X C B (ix5 b r h d c) + val_main_v123 (F := Ideal) X C B (ix5 b h d r c) := by
  have h1 : (⟨(gRow b r c).val / 2048, by simp only [gRow]; omega⟩ : Fin 32) = b := Fin.ext (by simp only [gRow]; omega)
  have h2 : (⟨(gRow b r c).val / 64 % 32, by omega⟩ : Fin 32) = r := Fin.ext (by simp only [gRow]; omega)
  have h3 : (⟨(gRow b r c).val % 64, by omega⟩ : Fin 64) = c := Fin.ext (by simp only [gRow]; omega)
  unfold val_main_v127 val_main_v126 val_main_v125 val_main_v124 val_main_v121
  generalize val_main_v120 (F := Ideal) X C B = y
  generalize val_main_v123 (F := Ideal) X C B = z
  pointwise
  simp only [h1, h2, h3]

end Cert.ReferenceIdeal.Attn

end
-- ==== Proof.RefWeight.lean ====
/- The reference's weights read at an index. -/
module

public import proofs.«01_k».proof.Proof.RefTables
public import proofs.«01_k».proof.Proof.Softmax

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Read Cert.Attn

/-- The mask's score. -/
theorem neg_inf : Ideal.ofBits FTy.f32 0xFF800000#32 = ⊥ := by
  simp [Ideal.ofBits, Ideal.ieee]

/-- The greatest score of a row. -/
theorem max_at (y : FVec Ideal S32x8x32x64x768 .f32) (b : Fin 32) (h : Fin 8) (r : Fin 32) (c : Fin 64) :
    Host.reduce FloatOps.maximumf y (constant S_ .f32 0xFF800000#32) reducesTo_S32x8x32x64x768_S32x8x32x64_d4 h_S_ (ix4 b h r c)
      = Finset.univ.fold max ⊥ fun k => y (ix5 b h r c k) := by
  pointwise
  rw [neg_inf]

/-- The sum of a row. -/
theorem sum_at (y : FVec Ideal S32x8x32x64x768 .f32) (b : Fin 32) (h : Fin 8) (r : Fin 32) (c : Fin 64) :
    Host.reduceAdd y (constant S_ .f32 0x00000000#32) reducesTo_S32x8x32x64x768_S32x8x32x64_d4 h_S_ (ix4 b h r c)
      = 0 + ∑ k, y (ix5 b h r c k) := by
  pointwise

variable (X : FVec Ideal S65536x2048 .bf16) (C : FVec Ideal S8192x2048 .bf16) (B : FVec Ideal S8x15x31 .f32)

/-- The score the softmax subtracts. -/
theorem top_at (b : Fin 32) (h : Fin 8) (r : Fin 32) (c : Fin 64) : val_main_v109 (F := Ideal) X C B (ix4 b h r c)
    = topScore fun k => val_main_v106 (F := Ideal) X C B (ix5 b h r c k) := by
  rw [val_main_v109_apply, val_main_v108_apply]
  unfold val_main_v107
  generalize val_main_v106 (F := Ideal) X C B = y
  refine congrArg₂ max ?_ (max_at y b h r c)
  exact neg_inf

/-- The exponential of a key. -/
theorem exp_at (b : Fin 32) (h : Fin 8) (r : Fin 32) (c : Fin 64) (k : Fin 768) : val_main_v113 (F := Ideal) X C B (ix5 b h r c k)
    = Ideal.exp (val_main_v106 (F := Ideal) X C B (ix5 b h r c k)
        - topScore fun k => val_main_v106 (F := Ideal) X C B (ix5 b h r c k)) := by
  rw [val_main_v113_apply, val_main_v112_apply, val_main_v111_apply, val_main_v110_apply, ← top_at]
  have e : idx_main_v110 (idx_main_v111 (ix5 b h r c k)) = ix4 b h r c := by
    funext a
    fin_cases a <;> rfl
  rw [e]
  generalize val_main_v106 (F := Ideal) X C B (ix5 b h r c k) = y
  generalize val_main_v109 (F := Ideal) X C B (ix4 b h r c) = z
  rfl

/-- The sum of a row's exponentials. -/
theorem total_at (b : Fin 32) (h : Fin 8) (r : Fin 32) (c : Fin 64) (k : Fin 768) : val_main_v116 (F := Ideal) X C B (ix5 b h r c k)
    = 0 + ∑ k, val_main_v113 (F := Ideal) X C B (ix5 b h r c k) := by
  rw [val_main_v116_apply, val_main_v115_apply]
  have e : idx_main_v115 (idx_main_v116 (ix5 b h r c k)) = ix4 b h r c := by
    funext a
    fin_cases a <;> rfl
  rw [e]
  unfold val_main_v114
  generalize val_main_v113 (F := Ideal) X C B = y
  exact sum_at y b h r c

/-- The weights. -/
theorem weight_at (b : Fin 32) (h : Fin 8) (r : Fin 32) (c : Fin 64) (k : Fin 768) :
    val_main_v117 (F := Ideal) X C B (ix5 b h r c k) = weight (fun k => val_main_v106 (F := Ideal) X C B (ix5 b h r c k)) k := by
  rw [val_main_v117_apply, total_at]
  unfold weight
  simp only [exp_at]
  generalize val_main_v106 (F := Ideal) X C B = y
  rfl

end Cert.ReferenceIdeal.Attn

end
-- ==== Proof.Scores.lean ====
/- The arithmetic that relates the kernel's base-two scores to the natural ones. -/
module

public import proofs.«01_k».proof.Proof.Softmax

@[expose] public section

set_option maxRecDepth 16384

noncomputable section

namespace Cert.Attn

open Idealize.ShloMosaic

/-- Logarithm of two, as a divisor. -/
theorem log_two_ne : (Real.log 2 : ℝ) ≠ 0 := (Real.log_pos (by norm_num)).ne'

/-- A product of reals, summed, is a real. -/
theorem dot_real {n : ℕ} (q k : Fin n → EReal) (hq : ∀ e, ∃ a : ℝ, q e = a) (hk : ∀ e, ∃ a : ℝ, k e = a) :
    ∃ a : ℝ, ∑ e, q e * k e = a := by
  choose q' hq' using hq
  choose k' hk' using hk
  simp only [hq', hk', ← EReal.coe_mul, coe_sum]
  exact ⟨_, rfl⟩

/-- The queries scaled by `log 2 / (1 / 8)`, their products with the keys scaled by an eighth: the products times `log 2`. -/
theorem dot_scaled {n : ℕ} (q k : Fin n → EReal) (hq : ∀ e, ∃ a : ℝ, q e = a) (hk : ∀ e, ∃ a : ℝ, k e = a) :
    (∑ e, (q e * Ideal.div ((Real.log 2 : ℝ) : EReal) ((1 / 8 : ℝ) : EReal)) * k e) * ((1 / 8 : ℝ) : EReal)
      = (∑ e, q e * k e) * ((Real.log 2 : ℝ) : EReal) := by
  choose q' hq' using hq
  choose k' hk' using hk
  rw [Ideal.div_coe (by norm_num)]
  simp only [hq', hk', ← EReal.coe_mul, coe_sum]
  congr 1
  rw [Finset.sum_mul, Finset.sum_mul]
  refine Finset.sum_congr rfl fun e _ => ?_
  ring

/-- A biased score in base two, times `log 2`. -/
theorem biased_scaled (s b : EReal) (hs : ∃ a : ℝ, s = a) (hb : ∃ a : ℝ, b = a) :
    (s + Ideal.div b ((Real.log 2 : ℝ) : EReal)) * ((Real.log 2 : ℝ) : EReal) = s * ((Real.log 2 : ℝ) : EReal) + b := by
  obtain ⟨s, rfl⟩ := hs
  obtain ⟨b, rfl⟩ := hb
  rw [Ideal.div_coe log_two_ne]
  simp only [← EReal.coe_mul, ← EReal.coe_add]
  congr 1
  have := log_two_ne
  field_simp

/-- A masked score in base two, times `log 2`. -/
theorem masked_scaled (s : EReal) : (s + ⊥) * ((Real.log 2 : ℝ) : EReal) = ⊥ := by
  rw [EReal.add_bot, EReal.bot_mul_coe_of_pos (Real.log_pos (by norm_num))]

/-- A biased score is not plus infinity. -/
theorem biased_ne_top (s b : EReal) (hs : ∃ a : ℝ, s = a) (hb : ∃ a : ℝ, b = a) :
    s + Ideal.div b ((Real.log 2 : ℝ) : EReal) ≠ ⊤ := by
  obtain ⟨s, rfl⟩ := hs
  obtain ⟨b, rfl⟩ := hb
  rw [Ideal.div_coe log_two_ne, ← EReal.coe_mul, ← EReal.coe_add]
  exact EReal.coe_ne_top _

end Cert.Attn

end
-- ==== Proof.Join.lean ====
/- The kernel's result is the reference's. -/
module

public import proofs.«01_k».proof.Proof.Final
public import proofs.«01_k».proof.Proof.Bias
public import proofs.«01_k».proof.Proof.RefRead
public import proofs.«01_k».proof.Proof.RefWeight
public import proofs.«01_k».proof.Proof.Scores

@[expose] public section

set_option maxRecDepth 16384

noncomputable section

namespace Cert.Attn

open Idealize.ShloMosaic Idealize.ShloMosaic.TcCoe Idealize.SL.Sem
open Cert.KernelIdeal.Attn (kRes kRes_at kOut kAttend kScore cScore qRow kRow cRow firstRow variant variantOf shift biasTab bias_in bias_out flat_at)
open Cert.ReferenceIdeal.Attn (gRow xRow r0 ix2_ext)
open Cert.ReferenceIdeal.Read

/-- The tile of a grid position. -/
def tile (b r : Fin 32) : Fin 256 := ⟨b.val * 8 + r.val / 4, by omega⟩

/-- The row of a grid position within its tile. -/
def trow (r : Fin 32) (c : Fin 64) : Fin 256 := ⟨r.val % 4 * 64 + c.val, by omega⟩

/-- The tile's place in its image. -/
def grp (r : Fin 32) : Fin 8 := ⟨r.val / 4, by omega⟩

/-- The grid row's place in its tile. -/
def sub (r : Fin 32) : Fin 4 := ⟨r.val % 4, by omega⟩

/-- The first of a query's key rows, counted from the tile's first. -/
theorem shift_eq (r : Fin 32) : shift (grp r) (sub r) + min 21 (4 * (r.val / 4) - 4) = r0 r ∧ shift (grp r) (sub r) ≤ 3 := by
  unfold shift grp sub r0
  dsimp only
  omega

/-- The key of the tile that key `x` of a query's window is. -/
def place (r : Fin 32) (x : Fin 512) : Fin 704 := ⟨x.val + 64 * shift (grp r) (sub r), by have := (shift_eq r).2; omega⟩

theorem place_inj (r : Fin 32) : Function.Injective (place r) := by
  intro a b h
  have := congrArg Fin.val h
  simp only [place] at this
  exact Fin.ext (by omega)

/-- The key row of a query's window. -/
def wRow (r : Fin 32) (x : Fin 512) : Fin 32 := ⟨r0 r + x.val / 64, by unfold r0; omega⟩

/-- The key column. -/
def wCol (x : Fin 512) : Fin 64 := ⟨x.val % 64, by omega⟩

theorem qRow_eq (b r : Fin 32) (c : Fin 64) : qRow (tile b r) (trow r c) = gRow b r c := by
  apply Fin.ext
  simp only [qRow, gRow, tile, trow]
  omega

theorem kRow_eq (b r : Fin 32) (x : Fin 512) : kRow (tile b r) (place r x) = gRow b (wRow r x) (wCol x) := by
  have := (shift_eq r).1
  apply Fin.ext
  simp only [kRow, gRow, tile, place, wRow, wCol, firstRow]
  omega

theorem cRow_eq (b r : Fin 32) (k : Fin 256) : cRow (tile b r) k = xRow b k := by
  apply Fin.ext
  simp only [cRow, xRow, tile]
  omega

theorem variant_eq (b r : Fin 32) : variant (tile b r) = variantOf (grp r) := by
  have h : (b.val * 8 + r.val / 4) % 8 = r.val / 4 := by omega
  apply Fin.ext
  unfold variant variantOf tile grp
  simp only [h]
  split_ifs <;> rfl

variable (X : FVec Ideal Cert.KernelIdeal.S65536x2048 .bf16) (C : FVec Ideal Cert.KernelIdeal.S8192x2048 .bf16)
  (B : FVec Ideal Cert.KernelIdeal.S8x15x31 .f32)

/-- The bias tiles as the kernel takes them. -/
abbrev tab : FVec Ideal Cert.KernelIdeal.S3x8x256x704 .f32 :=
  shapeCast Cert.KernelIdeal.S3x8x256x704 (biasTab B) Cert.KernelIdeal.Gen.shapeCasts_S3x8x4x64x11x64_S3x8x256x704

/-- The products of a query with a key. -/
def prod (h : Fin 8) (q k : Fin 65536) : EReal :=
  ∑ e : Fin 64, X (ix2 q ⟨64 * h.val + e.val, by omega⟩) * X (ix2 k ⟨512 + (64 * h.val + e.val), by omega⟩)

/-- The kernel's tile at a key of a query. -/
theorem tab_at (b r : Fin 32) (h : Fin 8) (c : Fin 64) (l : Fin 704) : tab B (ix4 (variant (tile b r)) h (trow r c) l)
    = biasTab B (ix6 (variantOf (grp r)) h (sub r) c ⟨l.val / 64, by omega⟩ ⟨l.val % 64, by omega⟩) := by
  rw [variant_eq]
  exact flat_at _ _ _ _ _ _ _ _ _ (by simp only [trow, sub]) (by dsimp only; omega)

/-- The kernel's score of a key of the tile. -/
theorem kScore_eq (b r : Fin 32) (h : Fin 8) (c : Fin 64) (l : Fin 704) : kScore X (tab B) (tile b r) h (trow r c) l
    = prod X h (gRow b r c) (kRow (tile b r) l)
      + biasTab B (ix6 (variantOf (grp r)) h (sub r) c ⟨l.val / 64, by omega⟩ ⟨l.val % 64, by omega⟩) := by
  unfold kScore prod
  rw [tab_at, qRow_eq]

/-- The reference's products of a query with a key of its window, scaled. -/
theorem rDot_eq (b r : Fin 32) (h : Fin 8) (c : Fin 64) (x : Fin 512)
    (hX : ∀ (n : Fin 65536) (l : Fin 1024), ∃ a : ℝ, X (ix2 n ⟨l.val, by omega⟩) = a) :
    val_main_v94 (F := Ideal) X (ix6 b h r c ⟨x.val / 64, by omega⟩ ⟨x.val % 64, by omega⟩) * ((1 / 8 : ℝ) : EReal)
      = prod X h (gRow b r c) (gRow b (wRow r x) (wCol x)) * ((Real.log 2 : ℝ) : EReal) := by
  rw [Cert.ReferenceIdeal.Attn.dot_at]
  unfold prod
  rw [← dot_scaled (fun e : Fin 64 => X (ix2 (gRow b r c) ⟨64 * h.val + e.val, by omega⟩))
    (fun e : Fin 64 => X (ix2 (gRow b (wRow r x) (wCol x)) ⟨512 + (64 * h.val + e.val), by omega⟩))
    (fun e => hX _ ⟨64 * h.val + e.val, by omega⟩) (fun e => hX _ ⟨512 + (64 * h.val + e.val), by omega⟩)]
  refine congrArg (· * ((1 / 8 : ℝ) : EReal)) (Finset.sum_congr rfl fun e _ => ?_)
  rw [Cert.ReferenceIdeal.Attn.query_at]
  refine congrArg₂ (· * ·) rfl ?_
  unfold val_main_v68
  rw [Cert.ReferenceIdeal.Attn.rows_gather _ _ _ _ _ _ _ _ (wRow r x) (Cert.ReferenceIdeal.Attn.keyRow_at _ _),
    Cert.ReferenceIdeal.Attn.key_at]
  rfl

/-- The reference's bias at a key of a query's window. -/
theorem rBias_eq (r : Fin 32) (h : Fin 8) (c : Fin 64) (w : Fin 8) (k : Fin 64) (n : Fin 15) (l : Fin 31)
    (hk : Cert.ReferenceIdeal.Attn.c0 c ≤ k.val ∧ k.val < Cert.ReferenceIdeal.Attn.c0 c + 16)
    (hn : n.val = r0 r + w.val + 7 - r.val) (hl : l.val = k.val + 15 - c.val) :
    val_main_v93 (F := Ideal) B (ix5 h r c w k) = B (ix3 h n l) := by
  unfold val_main_v93
  refine Cert.ReferenceIdeal.Attn.bias_gather _ _ _ _ _ _ _ _ _ ?_ ?_
  · rw [Cert.ReferenceIdeal.Attn.place0_at, Cert.ReferenceIdeal.Attn.biasRow_at, hn]
  · rw [Cert.ReferenceIdeal.Attn.place1_at, Cert.ReferenceIdeal.Attn.biasCol_at _ _ hk, hl]

/-- A key of a query's window: the reference's score is the kernel's times `log 2`. -/
theorem score_window (b r : Fin 32) (h : Fin 8) (c : Fin 64) (x : Fin 512)
    (hX : ∀ (n : Fin 65536) (l : Fin 1024), ∃ a : ℝ, X (ix2 n ⟨l.val, by omega⟩) = a) (hB : ∀ i, ∃ a : ℝ, B i = a) :
    val_main_v106 (F := Ideal) X C B (ix5 b h r c ⟨x.val, by omega⟩)
      = kScore X (tab B) (tile b r) h (trow r c) (place r x) * ((Real.log 2 : ℝ) : EReal) := by
  have hs := shift_eq r
  have hd : ∃ a : ℝ, prod X h (gRow b r c) (gRow b (wRow r x) (wCol x)) = a :=
    dot_real _ _ (fun e => hX _ ⟨64 * h.val + e.val, by omega⟩) (fun e => hX _ ⟨512 + (64 * h.val + e.val), by omega⟩)
  have hcol : (place r x).val % 64 = x.val % 64 := by simp only [place]; omega
  have hrow : (place r x).val / 64 = x.val / 64 + shift (grp r) (sub r) := by simp only [place]; omega
  rw [Cert.ReferenceIdeal.Attn.score_lo, Cert.ReferenceIdeal.Attn.masked_at, Cert.ReferenceIdeal.Attn.mask_at, kScore_eq, kRow_eq]
  by_cases hk : Cert.ReferenceIdeal.Attn.c0 c ≤ x.val % 64 ∧ x.val % 64 < Cert.ReferenceIdeal.Attn.c0 c + 16
  · have hc : Cert.ReferenceIdeal.Attn.c0 c = min 48 (c.val - 8) := rfl
    have hr : r0 r = min 24 (r.val - 4) := rfl
    rw [if_pos hk, if_pos rfl, rDot_eq X b r h c x hX,
      rBias_eq B r h c _ _ ⟨r0 r + x.val / 64 + 7 - r.val, by omega⟩ ⟨x.val % 64 + 15 - c.val, by omega⟩ hk rfl rfl,
      bias_in B (grp r) h (sub r) c _ _ (by dsimp only; omega) (by dsimp only; rw [hcol]; exact hk)
        ⟨r0 r + x.val / 64 + 7 - r.val, by omega⟩ ⟨x.val % 64 + 15 - c.val, by omega⟩
        (by dsimp only [grp, sub] at hs hrow ⊢; omega) (by dsimp only; omega),
      biased_scaled _ _ hd (hB _)]
  · rw [if_neg hk, if_neg (by decide), bias_out B (grp r) h (sub r) c _ _ (by
      rintro ⟨_, h2⟩
      dsimp only at h2
      rw [hcol] at h2
      exact hk h2), masked_scaled]

/-- A context key: the reference's score is the kernel's times `log 2`. -/
theorem score_context (b r : Fin 32) (h : Fin 8) (c : Fin 64) (k : Fin 256)
    (hX : ∀ (n : Fin 65536) (l : Fin 1024), ∃ a : ℝ, X (ix2 n ⟨l.val, by omega⟩) = a)
    (hC : ∀ (n : Fin 8192) (l : Fin 512), ∃ a : ℝ, C (ix2 n ⟨512 + l.val, by omega⟩) = a) :
    val_main_v106 (F := Ideal) X C B (ix5 b h r c ⟨512 + k.val, by omega⟩)
      = cScore X C (tile b r) h (trow r c) k * ((Real.log 2 : ℝ) : EReal) := by
  rw [Cert.ReferenceIdeal.Attn.score_hi, Cert.ReferenceIdeal.Attn.ctxDot_at]
  unfold cScore
  rw [qRow_eq, cRow_eq,
    ← dot_scaled (fun e : Fin 64 => X (ix2 (gRow b r c) ⟨64 * h.val + e.val, by omega⟩))
    (fun e : Fin 64 => C (ix2 (xRow b k) ⟨512 + (64 * h.val + e.val), by omega⟩))
    (fun e => hX _ ⟨64 * h.val + e.val, by omega⟩) (fun e => hC _ ⟨64 * h.val + e.val, by omega⟩)]
  refine congrArg (· * ((1 / 8 : ℝ) : EReal)) (Finset.sum_congr rfl fun e _ => ?_)
  rw [Cert.ReferenceIdeal.Attn.query_at, Cert.ReferenceIdeal.Attn.ctxKey_at]

/-- The reference's result at a grid position and a lane of a head. -/
theorem rOut_eq (b r : Fin 32) (c : Fin 64) (h : Fin 8) (d : Fin 64) :
    val_main_v127 (F := Ideal) X C B (ix2 (gRow b r c) ⟨64 * h.val + d.val, by omega⟩)
      = (∑ x : Fin 512, weight (fun k => val_main_v106 (F := Ideal) X C B (ix5 b h r c k)) ⟨x.val, by omega⟩
          * X (ix2 (gRow b (wRow r x) (wCol x)) ⟨1024 + (128 * h.val + d.val), by omega⟩))
        + ∑ k : Fin 256, weight (fun k => val_main_v106 (F := Ideal) X C B (ix5 b h r c k)) ⟨512 + k.val, by omega⟩
          * C (ix2 (xRow b k) ⟨1024 + (128 * h.val + d.val), by omega⟩) := by
  rw [Cert.ReferenceIdeal.Attn.res_at, Cert.ReferenceIdeal.Attn.out_window, Cert.ReferenceIdeal.Attn.out_context]
  refine congrArg₂ (· + ·) (Finset.sum_congr rfl fun x _ => ?_) (Finset.sum_congr rfl fun k _ => ?_)
  · rw [Cert.ReferenceIdeal.Attn.weight_at]
    refine congrArg₂ (· * ·) rfl ?_
    unfold val_main_v75
    rw [Cert.ReferenceIdeal.Attn.rows_gather _ _ _ _ _ _ _ _ (wRow r x) (Cert.ReferenceIdeal.Attn.valRow_at _ _),
      Cert.ReferenceIdeal.Attn.value_at]
    rfl
  · rw [Cert.ReferenceIdeal.Attn.weight_at, Cert.ReferenceIdeal.Attn.ctxValue_at, mul_comm]

/-- The kernel's result at a grid position and a lane of a head is the reference's. -/
theorem out_eq (b r : Fin 32) (c : Fin 64) (h : Fin 8) (d : Fin 64)
    (hX1 : ∀ (n : Fin 65536) (h : Fin 8), X (ix2 n ⟨1088 + 128 * h.val, by omega⟩) = 1)
    (hC1 : ∀ (n : Fin 8192) (h : Fin 8), C (ix2 n ⟨1088 + 128 * h.val, by omega⟩) = 1)
    (hX : ∀ (n : Fin 65536) (l : Fin 1024), ∃ a : ℝ, X (ix2 n ⟨l.val, by omega⟩) = a)
    (hC : ∀ (n : Fin 8192) (l : Fin 512), ∃ a : ℝ, C (ix2 n ⟨512 + l.val, by omega⟩) = a)
    (hB : ∀ i, ∃ a : ℝ, B i = a) :
    kOut X C (tab B) (tile b r) h (trow r c) d
      = val_main_v127 (F := Ideal) X C B (ix2 (gRow b r c) ⟨64 * h.val + d.val, by omega⟩) := by
  have hu : ∀ k, ∃ a : ℝ, cScore X C (tile b r) h (trow r c) k = a := fun k =>
    dot_real _ _ (fun e => hX _ ⟨64 * h.val + e.val, by omega⟩) (fun e => hC _ ⟨64 * h.val + e.val, by omega⟩)
  have hd : ∀ l, ∃ a : ℝ, prod X h (gRow b r c) l = a := fun l =>
    dot_real _ _ (fun e => hX _ ⟨64 * h.val + e.val, by omega⟩) (fun e => hX _ ⟨512 + (64 * h.val + e.val), by omega⟩)
  have hs := shift_eq r
  have hr : r0 r = min 24 (r.val - 4) := rfl
  have e1 : (fun l => X (ix2 (kRow (tile b r) l) ⟨1024 + (128 * h.val + (64 : Fin 128).val), by omega⟩)) = fun _ => 1 :=
    funext fun l => (congrArg X (ix2_ext rfl (by simp only [Fin.isValue]; show _ = 1088 + 128 * h.val; change 1024 + (128 * h.val + 64) = _; omega))).trans (hX1 _ h)
  have e2 : (fun l => C (ix2 (cRow (tile b r) l) ⟨1024 + (128 * h.val + (64 : Fin 128).val), by omega⟩)) = fun _ => 1 :=
    funext fun l => (congrArg C (ix2_ext rfl (by show _ = 1088 + 128 * h.val; change 1024 + (128 * h.val + 64) = _; omega))).trans (hC1 _ h)
  unfold kOut
  rw [show kAttend X C (tab B) (tile b r) h (trow r c) 64 = attend (kScore X (tab B) (tile b r) h (trow r c))
      (cScore X C (tile b r) h (trow r c)) (fun _ => 1) (fun _ => 1) from by unfold kAttend; rw [e1, e2]]
  unfold kAttend
  rw [softmax_eq _ _ (fun k => val_main_v106 (F := Ideal) X C B (ix5 b h r c k)) (place r) (place_inj r)
    (fun i => ?_) (fun k => ?_) (fun k => ?_) (fun i hi => ?_) (fun x => score_window X C B b r h c x hX hB)
    (fun k => score_context X C B b r h c k hX hC), rOut_eq]
  · refine congrArg₂ (· + ·) (Finset.sum_congr rfl fun x _ => ?_) (Finset.sum_congr rfl fun k _ => ?_)
    · rw [kRow_eq]
    · rw [cRow_eq]
  · rw [kScore_eq]
    by_cases hj : (shift (grp r) (sub r) ≤ i.val / 64 ∧ i.val / 64 < shift (grp r) (sub r) + 8)
        ∧ Cert.KernelIdeal.Attn.c0 c ≤ i.val % 64 ∧ i.val % 64 < Cert.KernelIdeal.Attn.c0 c + 16
    · have hc : Cert.KernelIdeal.Attn.c0 c = min 48 (c.val - 8) := rfl
      rw [bias_in B (grp r) h (sub r) c _ _ hj.1 hj.2
        ⟨min 21 (4 * (r.val / 4) - 4) + i.val / 64 + 7 - r.val, by omega⟩ ⟨i.val % 64 + 15 - c.val, by omega⟩
        (by dsimp only [grp, sub]; omega) rfl]
      exact biased_ne_top _ _ (hd _) (hB _)
    · rw [bias_out B (grp r) h (sub r) c _ _ hj, EReal.add_bot]
      exact bot_ne_top
  · obtain ⟨a, ha⟩ := hu k
    rw [ha]; exact EReal.coe_ne_top _
  · obtain ⟨a, ha⟩ := hu k
    rw [ha]; exact EReal.coe_ne_bot _
  · rw [kScore_eq, bias_out B (grp r) h (sub r) c _ _ (by
      rintro ⟨h1, _⟩
      dsimp only at h1
      refine hi ⟨i.val - 64 * shift (grp r) (sub r), by omega⟩ (Fin.ext ?_)
      simp only [place]
      omega), EReal.add_bot]

/-- THE KERNEL'S RESULT IS THE REFERENCE'S: on arguments with unit lanes and real queries, keys and biases. -/
theorem result_eq (hX1 : ∀ (n : Fin 65536) (h : Fin 8), X (ix2 n ⟨1088 + 128 * h.val, by omega⟩) = 1)
    (hC1 : ∀ (n : Fin 8192) (h : Fin 8), C (ix2 n ⟨1088 + 128 * h.val, by omega⟩) = 1)
    (hX : ∀ (n : Fin 65536) (l : Fin 1024), ∃ a : ℝ, X (ix2 n ⟨l.val, by omega⟩) = a)
    (hC : ∀ (n : Fin 8192) (l : Fin 512), ∃ a : ℝ, C (ix2 n ⟨512 + l.val, by omega⟩) = a)
    (hB : ∀ i, ∃ a : ℝ, B i = a) : kRes X C (tab B) = val_main_v127 (F := Ideal) X C B := by
  funext y
  obtain ⟨n, j, rfl⟩ : ∃ (n : Fin 65536) (j : Fin 512), y = ix2 n j := ⟨y 0, y 1, by funext a; fin_cases a <;> rfl⟩
  rw [kRes_at X C (tab B) (ix2 n j) (tile ⟨n.val / 2048, by omega⟩ ⟨n.val / 64 % 32, by omega⟩) ⟨j.val / 64, by omega⟩
    (trow ⟨n.val / 64 % 32, by omega⟩ ⟨n.val % 64, by omega⟩) ⟨j.val % 64, by omega⟩
    (by show n.val = _; simp only [tile, trow]; omega) (by show j.val = _; dsimp only; omega),
    out_eq X C B _ _ _ _ _ hX1 hC1 hX hC hB]
  exact congrArg _ (ix2_ext (by simp only [gRow]; omega) (by dsimp only; omega))

end Cert.Attn

end
-- ==== Proof.Norm.lean ====
/- The modulated root-mean-square normalisation of one row, over the extended reals. -/
module

public import Idealize.ShloMosaic.Lib.ValueIdx
public import Idealize.ShloMosaic.PureOps.Ideal.Laws

@[expose] public section

noncomputable section

namespace Cert.Layer

open Idealize.ShloMosaic

/-- The inverse root mean square of a row of 1024 lanes. -/
def invRms (x : Fin 1024 → EReal) : EReal :=
  Ideal.rsqrt (Ideal.div (∑ d, x d * x d) (Ideal.ofBits .f32 0x44800000#32) + Ideal.ofBits .f32 0x358637BD#32)

/-- Lane `d` of the normalised row, under its gain, scale and shift. -/
def normed (x g sc sh : Fin 1024 → EReal) (d : Fin 1024) : EReal :=
  x d * invRms x * g d * (1 + sc d) + sh d

/-- The pattern of one. -/
theorem one_bits : Ideal.ofBits FTy.f32 0x3F800000#32 = 1 := by
  simp [Ideal.ofBits, Ideal.ieee]
  rw [← EReal.coe_mul]
  norm_num

end Cert.Layer

end
-- ==== Proof.InPay.lean ====
/- The input projection's stored values, read at an index over the extended reals. -/
module

public import proofs.«01_k».proof.Proof.Gen.Kernel2Ideal.Frame
public import proofs.«01_k».proof.Proof.Norm
public import Idealize.ShloMosaic.Lib.Pipeline.ValueKit

@[expose] public section

set_option maxRecDepth 16384

noncomputable section

namespace Cert.Kernel2Ideal.Proj

open Idealize.ShloMosaic Idealize.ShloMosaic.TcCoe Idealize.SL.Sem
open Idealize.ShloMosaic.Pipeline (Dat)
open Cert.Kernel2Ideal Cert.Kernel2Ideal.Gen Cert.Layer

/-- The normalised block. -/
theorem norm_at (x : Vec Ideal S512x1024 .f32) (g : Vec Ideal S1x1024 .f32) (sc sh : Vec Ideal S1x1x1024 .f32)
    (r : Fin 512) (d : Fin 1024) : k0_pay6 (F := Ideal) x g sc sh (ix2 r d)
      = normed (fun e => x (ix2 r e)) (fun e => g (ix2 0 e)) (fun e => sc (ix3 0 0 e)) (fun e => sh (ix3 0 0 e)) d := by
  pointwise [k0_pay6]
  unfold normed invRms
  rfl

/-- The scaled queries of a block. -/
theorem query_at (x : Vec Ideal S512x1024 .f32) (g : Vec Ideal S1x1024 .f32) (sc sh : Vec Ideal S1x1x1024 .f32)
    (w : Vec Ideal S1024x512 .bf16) (r : Fin 512) (j : Fin 512) : k0_pay7 (F := Ideal) x g sc sh w (ix2 r j)
      = (∑ k : Fin 1024, k0_pay6 (F := Ideal) x g sc sh (ix2 r k) * w (ix2 k j)) * Ideal.ofBits FTy.f32 0x3E38AA3B#32 := by
  unfold k0_pay7
  generalize k0_pay6 (F := Ideal) x g sc sh = h
  pointwise

/-- The keys of a block. -/
theorem key_at (x : Vec Ideal S512x1024 .f32) (g : Vec Ideal S1x1024 .f32) (sc sh : Vec Ideal S1x1x1024 .f32)
    (w : Vec Ideal S1024x512 .bf16) (r : Fin 512) (j : Fin 512) : k0_pay8 (F := Ideal) x g sc sh w (ix2 r j)
      = ∑ k : Fin 1024, k0_pay6 (F := Ideal) x g sc sh (ix2 r k) * w (ix2 k j) := by
  unfold k0_pay8
  generalize k0_pay6 (F := Ideal) x g sc sh = h
  pointwise

/-- The values of a block. -/
theorem value_at (h : FVec Ideal S512x1024 .bf16) (w : Vec Ideal S1024x512 .bf16) (r : Fin 512) (j : Fin 512) :
    k0_pay9 (F := Ideal) h w (ix2 r j) = ∑ k : Fin 1024, h (ix2 r k) * w (ix2 k j) := by
  pointwise [k0_pay9]

/-- The Hyena columns of a block. -/
theorem hyena_at (h : FVec Ideal S512x1024 .bf16) (w : Vec Ideal S1024x768 .bf16) (r : Fin 512) (j : Fin 768) :
    k0_pay4 (F := Ideal) h w (ix2 r j) = ∑ k : Fin 1024, h (ix2 r k) * w (ix2 k j) := by
  pointwise [k0_pay4]

/-- The Conformer columns of a block. -/
theorem conv_at (h : FVec Ideal S512x1024 .bf16) (w : Vec Ideal S1024x512 .bf16) (r : Fin 512) (j : Fin 512) :
    k0_pay5 (F := Ideal) h w (ix2 r j) = ∑ k : Fin 1024, h (ix2 r k) * w (ix2 k j) := by
  pointwise [k0_pay5]

/-- The lanes after a head's values: a one, then zeros. -/
theorem unit_at (r : Fin 512) (z : Fin 64) : k0_pay10 (F := Ideal) (ix2 r z) = if z.val = 0 then 1 else 0 := by
  pointwise [k0_pay10]
  have hz : (BitVec.ofNat 32 z.val = 0#32) ↔ z.val = 0 := by
    rw [← BitVec.toNat_inj]
    simp only [BitVec.toNat_ofNat]
    omega
  by_cases h : z.val = 0
  · rw [if_pos h, hz.mpr h]
    exact if_pos (by decide)
  · rw [if_neg h]
    refine if_neg ?_
    rw [show IntOp.cmpi CmpIPredicate.eq (BitVec.ofNat 32 z.val) 0#32 = BitVec.ofBool (BitVec.ofNat 32 z.val == 0#32) from rfl,
      show (BitVec.ofNat 32 z.val == 0#32) = false from beq_eq_false_iff_ne.mpr fun q => h (hz.mp q)]
    decide

/-- A head's lanes of the values of a block. -/
theorem head_at (h : FVec Ideal S512x1024 .bf16) (w : Vec Ideal S1024x512 .bf16) (r : Fin 512) (z : Fin 64) :
    k0_pay11 (F := Ideal) h w (ix2 r z) = k0_pay9 (F := Ideal) h w (ix2 r ⟨z.val, by omega⟩)
    ∧ k0_pay12 (F := Ideal) h w (ix2 r z) = k0_pay9 (F := Ideal) h w (ix2 r ⟨64 + z.val, by omega⟩)
    ∧ k0_pay13 (F := Ideal) h w (ix2 r z) = k0_pay9 (F := Ideal) h w (ix2 r ⟨128 + z.val, by omega⟩)
    ∧ k0_pay14 (F := Ideal) h w (ix2 r z) = k0_pay9 (F := Ideal) h w (ix2 r ⟨192 + z.val, by omega⟩)
    ∧ k0_pay15 (F := Ideal) h w (ix2 r z) = k0_pay9 (F := Ideal) h w (ix2 r ⟨256 + z.val, by omega⟩)
    ∧ k0_pay1 (F := Ideal) (k0_pay9 h w) (ix2 r z) = k0_pay9 (F := Ideal) h w (ix2 r ⟨320 + z.val, by omega⟩)
    ∧ k0_pay2 (F := Ideal) (k0_pay9 h w) (ix2 r z) = k0_pay9 (F := Ideal) h w (ix2 r ⟨384 + z.val, by omega⟩)
    ∧ k0_pay3 (F := Ideal) (k0_pay9 h w) (ix2 r z) = k0_pay9 (F := Ideal) h w (ix2 r ⟨448 + z.val, by omega⟩) := by
  unfold k0_pay11 k0_pay12 k0_pay13 k0_pay14 k0_pay15 k0_pay1 k0_pay2 k0_pay3
  generalize k0_pay9 (F := Ideal) h w = v
  refine ⟨?_, ?_, ?_, ?_, ?_, ?_, ?_, ?_⟩ <;> pointwise

/-- Row `r` of block `t` in the stream. -/
def row (t : Fin 128) (r : Fin 512) : Fin 65536 := ⟨t.val * 512 + r.val, by omega⟩

/-- The sample of block `t`. -/
def sample (t : Fin 128) : Fin 32 := ⟨t.val / 4, by omega⟩

/-- Column `j` of the projection of row `n`. -/
def proj (X : FVec Ideal S65536x1024 .f32) (G : FVec Ideal S1x1024 .f32) (C H : FVec Ideal S32x1x1024 .f32)
    (W : FVec Ideal S1024x2816 .bf16) (n : Fin 65536) (j : Fin 2816) : EReal :=
  ∑ k : Fin 1024, normed (fun e => X (ix2 n e)) (fun e => G (ix2 0 e)) (fun e => C (ix3 ⟨n.val / 2048, by omega⟩ 0 e))
    (fun e => H (ix3 ⟨n.val / 2048, by omega⟩ 0 e)) k * W (ix2 k j)

/-- What the layer hands on of row `n`'s queries, keys and values: the queries scaled, the keys, and every head's values with a one
    and zeros after them. -/
def handed (X : FVec Ideal S65536x1024 .f32) (G : FVec Ideal S1x1024 .f32) (C H : FVec Ideal S32x1x1024 .f32)
    (W : FVec Ideal S1024x2816 .bf16) (n : Fin 65536) (j : Fin 2048) : EReal :=
  if h : j.val < 512 then proj X G C H W n ⟨j.val, by omega⟩ * Ideal.ofBits FTy.f32 0x3E38AA3B#32
  else if h : j.val < 1024 then proj X G C H W n ⟨j.val, by omega⟩
  else if h : j.val % 128 < 64 then proj X G C H W n ⟨1024 + ((j.val - 1024) / 128 * 64 + j.val % 128), by omega⟩
  else if j.val % 128 = 64 then 1 else 0

section lanes

variable (X : FVec Ideal S65536x1024 .f32) (G : FVec Ideal S1x1024 .f32) (C H : FVec Ideal S32x1x1024 .f32)
  (W : FVec Ideal S1024x2816 .bf16) (n : Fin 65536) (j : Fin 2048)

/-- A query lane. -/
theorem handed_query (q : Fin 2816) (h : j.val = q.val) (hq : q.val < 512) :
    handed X G C H W n j = proj X G C H W n q * Ideal.ofBits FTy.f32 0x3E38AA3B#32 := by
  unfold handed
  rw [dif_pos (by omega)]
  congr 2
  exact Fin.ext h

/-- A key lane. -/
theorem handed_key (q : Fin 2816) (h : j.val = q.val) (hq : 512 ≤ q.val ∧ q.val < 1024) :
    handed X G C H W n j = proj X G C H W n q := by
  unfold handed
  rw [dif_neg (by omega), dif_pos (by omega)]
  congr 1
  exact Fin.ext h

/-- A value lane. -/
theorem handed_value (q : Fin 2816) (h : 1024 ≤ j.val) (hj : j.val % 128 < 64)
    (hq : q.val = 1024 + ((j.val - 1024) / 128 * 64 + j.val % 128)) : handed X G C H W n j = proj X G C H W n q := by
  unfold handed
  rw [dif_neg (by omega), dif_neg (by omega), dif_pos hj]
  congr 1
  exact Fin.ext hq.symm

/-- A lane after a head's values. -/
theorem handed_unit (z : Fin 64) (h : 1024 ≤ j.val) (hj : j.val % 128 = 64 + z.val) :
    handed X G C H W n j = if z.val = 0 then 1 else 0 := by
  unfold handed
  rw [dif_neg (by omega), dif_neg (by omega), dif_neg (by omega)]
  congr 1
  exact propext (by omega)

end lanes

/-- The blocks' positions at each point of the grid. -/
theorem idx : ∀ t : Fin cfg0.N, win0_0.index t = ![t.val, 0] ∧ win0_1.index t = ![0, 0] ∧ win0_2.index t = ![t.val / 4, 0, 0]
    ∧ win0_3.index t = ![t.val / 4, 0, 0] ∧ win0_4.index t = ![0, 0] ∧ win0_5.index t = ![t.val, 0]
    ∧ win0_6.index t = ![t.val, 0] ∧ win0_7.index t = ![t.val, 0] :=
  (by decide +kernel : ∀ t : Fin grid0.N, _)

variable (m : (ℓ : Loc nD τ sig) → Buf (Elt Ideal) ℓ)

/-- The rows, as a point stages them. -/
theorem load_x (c : Dev nD) (t : Fin cfg0.N) (t' : Fin 128) (ht : t.val = t'.val) (r : Fin 512) (e : Fin 1024) :
    iblk m c 0 t (ix2 r e) = m ((c : Thread nD τ).loc main_arg0) (ix2 (row t' r) e) := by
  blk_ext [iblk, V, idx t, row]

/-- The gain, as a point stages it. -/
theorem load_g (c : Dev nD) (t : Fin cfg0.N) (e : Fin 1024) :
    iblk m c 1 t (ix2 0 e) = m ((c : Thread nD τ).loc main_arg1) (ix2 0 e) := by
  blk_ext [iblk, V, idx t]

/-- The sample's scale, as a point stages it. -/
theorem load_sc (c : Dev nD) (t : Fin cfg0.N) (t' : Fin 128) (ht : t.val = t'.val) (e : Fin 1024) :
    iblk m c 2 t (ix3 0 0 e) = m ((c : Thread nD τ).loc main_arg2) (ix3 (sample t') 0 e) := by
  blk_ext [iblk, V, idx t, sample]

/-- The sample's shift, as a point stages it. -/
theorem load_sh (c : Dev nD) (t : Fin cfg0.N) (t' : Fin 128) (ht : t.val = t'.val) (e : Fin 1024) :
    iblk m c 3 t (ix3 0 0 e) = m ((c : Thread nD τ).loc main_arg3) (ix3 (sample t') 0 e) := by
  blk_ext [iblk, V, idx t, sample]

/-- 512 columns of the weights, as a point loads them. -/
theorem load_w (c : Dev nD) (t : Fin cfg0.N) (o : ℕ) (ho : o ≤ 2304)
    (inb : ∀ a, ![0, o] a + S1024x512.size a ≤ S1024x2816.size a) (k : Fin 1024) (j : Fin 512) :
    View.ld (iblk m c 4 t) (Rect.unit (s := S1024x2816) ![0, o] S1024x512.size inb) (ix2 k j)
      = m ((c : Thread nD τ).loc main_arg4) (ix2 k ⟨o + j.val, by omega⟩) := by
  pointwise
  blk_ext [iblk, V, idx t]

/-- 768 columns of the weights, as a point loads them. -/
theorem load_w' (c : Dev nD) (t : Fin cfg0.N) (o : ℕ) (ho : o ≤ 2048)
    (inb : ∀ a, ![0, o] a + S1024x768.size a ≤ S1024x2816.size a) (k : Fin 1024) (j : Fin 768) :
    View.ld (iblk m c 4 t) (Rect.unit (s := S1024x2816) ![0, o] S1024x768.size inb) (ix2 k j)
      = m ((c : Thread nD τ).loc main_arg4) (ix2 k ⟨o + j.val, by omega⟩) := by
  pointwise
  blk_ext [iblk, V, idx t]

/-- One column of a point's product, as the projection's. -/
theorem dot_at (c : Dev nD) (t : Fin cfg0.N) (t' : Fin 128) (ht : t.val = t'.val) (r : Fin 512) (w : Fin 1024 → EReal) (j : Fin 2816)
    (hw : ∀ k, w k = m ((c : Thread nD τ).loc main_arg4) (ix2 k j)) :
    (∑ k : Fin 1024, k0_pay6 (F := Ideal) (iblk m c 0 t) (iblk m c 1 t) (iblk m c 2 t) (iblk m c 3 t) (ix2 r k) * w k)
      = proj (m ((c : Thread nD τ).loc main_arg0)) (m ((c : Thread nD τ).loc main_arg1)) (m ((c : Thread nD τ).loc main_arg2))
        (m ((c : Thread nD τ).loc main_arg3)) (m ((c : Thread nD τ).loc main_arg4)) (row t' r) j := by
  have hs : sample t' = ⟨(row t' r).val / 2048, by omega⟩ := Fin.ext (by simp only [sample, row]; omega)
  unfold proj
  refine Finset.sum_congr rfl fun k _ => ?_
  rw [norm_at, hw k]
  simp only [load_x m c t t' ht, load_g m c t, load_sc m c t t' ht, load_sh m c t t' ht, hs]

set_option maxHeartbeats 2000000 in
/-- What a point stores of the queries, keys and values. -/
theorem block_out (c : Dev nD) (t : Fin cfg0.N) (t' : Fin 128) (ht : t.val = t'.val) (z : S512x2048.Idx)
    (r : Fin 512) (j : Fin 2048) (hr : (z 0).val = r.val) (hj : (z 1).val = j.val) :
    (outsAt0 m c t).1 z
      = handed (m ((c : Thread nD τ).loc main_arg0)) (m ((c : Thread nD τ).loc main_arg1)) (m ((c : Thread nD τ).loc main_arg2))
        (m ((c : Thread nD τ).loc main_arg3)) (m ((c : Thread nD τ).loc main_arg4)) (row t' r) j := by
  unfold outsAt0
  frame_out
  canon_tiles z h using (View.cover_of_tiledBy _ ![512, 64] (by sl_kernel_rfl) z)
  all_goals
    idx_vars z
    obtain rfl : r = z0 := Fin.ext (by omega)
    first
      | rw [unit_at]
        exact (handed_unit _ _ _ _ _ _ _ z1 (by omega) (by omega)).symm
      | rw [query_at, dot_at m c t t' ht r _ _ fun k => load_w m c t 0 (by omega) _ k z1]
        exact (handed_query _ _ _ _ _ _ _ _ (by dsimp only; omega) (by dsimp only; omega)).symm
      | rw [key_at, dot_at m c t t' ht r _ _ fun k => load_w m c t 512 (by omega) _ k z1]
        exact (handed_key _ _ _ _ _ _ _ _ (by dsimp only; omega) (by dsimp only; omega)).symm
      | simp only [head_at]
        rw [value_at, dot_at m c t t' ht r _ _ fun k => load_w m c t 1024 (by omega) _ k _]
        exact (handed_value _ _ _ _ _ _ _ _ (by omega) (by omega) (by dsimp only; omega)).symm

/-- What a point stores of the Hyena columns. -/
theorem block_hy (c : Dev nD) (t : Fin cfg0.N) (t' : Fin 128) (ht : t.val = t'.val) (r : Fin 512) (j : Fin 768) :
    (outsAt0 m c t).2.1 (ix2 r j)
      = proj (m ((c : Thread nD τ).loc main_arg0)) (m ((c : Thread nD τ).loc main_arg1)) (m ((c : Thread nD τ).loc main_arg2))
        (m ((c : Thread nD τ).loc main_arg3)) (m ((c : Thread nD τ).loc main_arg4)) (row t' r) ⟨1536 + j.val, by omega⟩ := by
  unfold outsAt0
  frame_out
  rw [hyena_at]
  exact dot_at m c t t' ht r _ _ fun k => load_w' m c t 1536 (by omega) _ k j

/-- What a point stores of the Conformer columns. -/
theorem block_cf (c : Dev nD) (t : Fin cfg0.N) (t' : Fin 128) (ht : t.val = t'.val) (r : Fin 512) (j : Fin 512) :
    (outsAt0 m c t).2.2 (ix2 r j)
      = proj (m ((c : Thread nD τ).loc main_arg0)) (m ((c : Thread nD τ).loc main_arg1)) (m ((c : Thread nD τ).loc main_arg2))
        (m ((c : Thread nD τ).loc main_arg3)) (m ((c : Thread nD τ).loc main_arg4)) (row t' r) ⟨2304 + j.val, by omega⟩ := by
  unfold outsAt0
  frame_out
  rw [conv_at]
  exact dot_at m c t t' ht r _ _ fun k => load_w m c t 2304 (by omega) _ k j

end Cert.Kernel2Ideal.Proj

end
-- ==== Proof.InFinal.lean ====
/- The input projection's result arrays, once every point has stored its blocks. -/
module

public import proofs.«01_k».proof.Proof.Gen.Kernel2Ideal.Value
public import proofs.«01_k».proof.Proof.InPay

@[expose] public section

set_option maxRecDepth 16384

noncomputable section

namespace Cert.Kernel2Ideal.Proj

open Idealize.ShloMosaic Idealize.ShloMosaic.TcCoe Idealize.SL.Sem
open Idealize.ShloMosaic.Pipeline (Dat)
open Cert.Kernel2Ideal Cert.Kernel2Ideal.Gen Cert.Layer

/-- The queries, keys and values the layer hands on. -/
def qkvArr (X : FVec Ideal S65536x1024 .f32) (G : FVec Ideal S1x1024 .f32) (C H : FVec Ideal S32x1x1024 .f32)
    (W : FVec Ideal S1024x2816 .bf16) : FVec Ideal S65536x2048 .bf16 := fun y =>
  handed X G C H W ⟨(y 0).val, by idx_bounds y; omega⟩ ⟨(y 1).val, by idx_bounds y; omega⟩

/-- The Hyena columns. -/
def hyArr (X : FVec Ideal S65536x1024 .f32) (G : FVec Ideal S1x1024 .f32) (C H : FVec Ideal S32x1x1024 .f32)
    (W : FVec Ideal S1024x2816 .bf16) : FVec Ideal S65536x768 .f32 := fun y =>
  proj X G C H W ⟨(y 0).val, by idx_bounds y; omega⟩ ⟨1536 + (y 1).val, by idx_bounds y; omega⟩

/-- The Conformer columns. -/
def cfArr (X : FVec Ideal S65536x1024 .f32) (G : FVec Ideal S1x1024 .f32) (C H : FVec Ideal S32x1x1024 .f32)
    (W : FVec Ideal S1024x2816 .bf16) : FVec Ideal S65536x512 .f32 := fun y =>
  proj X G C H W ⟨(y 0).val, by idx_bounds y; omega⟩ ⟨2304 + (y 1).val, by idx_bounds y; omega⟩

/-- An entry of the queries, keys and values. -/
theorem qkvArr_at (X : FVec Ideal S65536x1024 .f32) (G : FVec Ideal S1x1024 .f32) (C H : FVec Ideal S32x1x1024 .f32)
    (W : FVec Ideal S1024x2816 .bf16) (y : S65536x2048.Idx) (n : Fin 65536) (j : Fin 2048) (h0 : (y 0).val = n.val)
    (h1 : (y 1).val = j.val) : qkvArr X G C H W y = handed X G C H W n j := by
  unfold qkvArr
  simp only [h0, h1]

/-- An entry of the Hyena columns. -/
theorem hyArr_at (X : FVec Ideal S65536x1024 .f32) (G : FVec Ideal S1x1024 .f32) (C H : FVec Ideal S32x1x1024 .f32)
    (W : FVec Ideal S1024x2816 .bf16) (y : S65536x768.Idx) (n : Fin 65536) (j : Fin 768) (h0 : (y 0).val = n.val)
    (h1 : (y 1).val = j.val) : hyArr X G C H W y = proj X G C H W n ⟨1536 + j.val, by omega⟩ := by
  unfold hyArr
  simp only [h0, h1]

/-- An entry of the Conformer columns. -/
theorem cfArr_at (X : FVec Ideal S65536x1024 .f32) (G : FVec Ideal S1x1024 .f32) (C H : FVec Ideal S32x1x1024 .f32)
    (W : FVec Ideal S1024x2816 .bf16) (y : S65536x512.Idx) (n : Fin 65536) (j : Fin 512) (h0 : (y 0).val = n.val)
    (h1 : (y 1).val = j.val) : cfArr X G C H W y = proj X G C H W n ⟨2304 + j.val, by omega⟩ := by
  unfold cfArr
  simp only [h0, h1]

variable (m : (ℓ : Loc nD τ sig) → Buf (Elt Ideal) ℓ)

/-- The queries, keys and values after the run. -/
theorem final_qkv (c : Dev nD) : (dats m 0 c).arrAt 5 cfg0.N
    = qkvArr (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  have hi := (idx t).2.2.2.2.2.1
  idx_bounds y
  refine (block_out m c t ⟨t.val, t.isLt⟩ rfl y ⟨(y 0).val, by omega⟩ ⟨(y 1).val, by omega⟩ rfl rfl).trans
    (qkvArr_at _ _ _ _ _ _ _ _ ?_ ?_).symm
  · blk_simp
    rw [hi]
    rfl
  · blk_simp
    rw [hi]
    show 0 * 2048 + (y 1).val = (y 1).val
    omega

/-- The Hyena columns after the run. -/
theorem final_hy (c : Dev nD) : (dats m 0 c).arrAt 6 cfg0.N
    = hyArr (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  blk_simp
  rw [after0_6]
  have hi := (idx t).2.2.2.2.2.2.1
  idx_vars y
  refine (block_hy m c t ⟨t.val, t.isLt⟩ rfl y0 y1).trans
    (hyArr_at _ _ _ _ _ _ _ _ ?_ ?_).symm
  · blk_simp
    rw [hi]
    rfl
  · blk_simp
    rw [hi]
    show 0 * 768 + y1.val = y1.val
    omega

/-- The Conformer columns after the run. -/
theorem final_cf (c : Dev nD) : (dats m 0 c).arrAt 7 cfg0.N
    = cfArr (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t hf y => ?_
  blk_simp
  rw [after0_7]
  have hi := (idx t).2.2.2.2.2.2.2
  idx_vars y
  refine (block_cf m c t ⟨t.val, t.isLt⟩ rfl y0 y1).trans
    (cfArr_at _ _ _ _ _ _ _ _ ?_ ?_).symm
  · blk_simp
    rw [hi]
    rfl
  · blk_simp
    rw [hi]
    show 0 * 512 + y1.val = y1.val
    omega

end Cert.Kernel2Ideal.Proj

end
-- ==== Proof.InRef.lean ====
/- The reference's input projection, read at an index over the extended reals. -/
module

public import proofs.«01_k».proof.Proof.Gen.Reference2Ideal.Read
public import proofs.«01_k».proof.Proof.InFinal
public import Idealize.ShloMosaic.Lib.Pipeline.ValueKit

@[expose] public section

set_option maxRecDepth 16384

noncomputable section

namespace Cert.Reference2Ideal.Proj

open Idealize.ShloMosaic Idealize.ShloMosaic.TcCoe Idealize.SL.Sem
open Cert.Reference2Ideal Cert.Reference2Ideal.Gen Cert.Reference2Ideal.Read Cert.Layer
open Cert.Kernel2Ideal.Proj (proj handed qkvArr hyArr cfArr handed_query handed_key handed_value)

/-- The stream's row of a token. -/
def tok (b : Fin 32) (s : Fin 2048) : Fin 65536 := ⟨b.val * 2048 + s.val, by omega⟩

/-- Positions of a matrix agree where their coordinates do. -/
theorem ix2_ext {n m : ℕ} {a b : Fin n} {c d : Fin m} (h : a.val = b.val) (h' : c.val = d.val) : ix2 a c = ix2 b d := by
  rw [Fin.ext h, Fin.ext h']

variable (X : FVec Ideal S65536x1024 .f32) (G : FVec Ideal S1x1024 .f32) (C H : FVec Ideal S32x1x1024 .f32)
  (W : FVec Ideal S1024x2816 .bf16)

/-- The stream by samples. -/
theorem stream_at (b : Fin 32) (s : Fin 2048) (e : Fin 1024) : val_main_v0 (F := Ideal) X (ix3 b s e) = X (ix2 (tok b s) e) := by
  unfold val_main_v0
  pointwise
  exact congrArg X (ix2_ext (by simp only [tok]; try omega) (by try omega))

/-- The inverse root mean square of a token's row. -/
theorem rms_at (b : Fin 32) (s : Fin 2048) : val_main_v9 (F := Ideal) X (ix3 b s 0) = invRms fun e => X (ix2 (tok b s) e) := by
  have h3 : val_main_v3 (F := Ideal) X (ix2 b s) = ∑ e : Fin 1024, X (ix2 (tok b s) e) * X (ix2 (tok b s) e) := by
    rw [val_main_v3_apply]
    have hz : (val_main_cst (F := Ideal)) (Shape.Idx.first h_S_) = 0 := by
      pointwise [val_main_cst]
    rw [hz, zero_add]
    refine Finset.sum_congr rfl fun e _ => ?_
    have hi : idx_main_v3 (ix2 b s) e = ix3 b s e := by funext a; fin_cases a <;> rfl
    rw [hi, val_main_v2_apply, stream_at]
    rfl
  unfold val_main_v9 val_main_v8 val_main_v6 val_main_v4
  generalize val_main_v3 (F := Ideal) X = y at h3
  pointwise [val_main_v7, val_main_v5, val_main_cst_0, val_main_cst_1]
  rw [h3]
  rfl

/-- The normalised token. -/
theorem norm_at (b : Fin 32) (s : Fin 2048) (d : Fin 1024) : val_main_v20 (F := Ideal) X G C H (ix3 b s d)
    = normed (fun e => X (ix2 (tok b s) e)) (fun e => G (ix2 0 e)) (fun e => C (ix3 b 0 e)) (fun e => H (ix3 b 0 e)) d := by
  have h0 := stream_at X b s d
  have h9 := rms_at X b s
  unfold val_main_v20 val_main_v18 val_main_v14 val_main_v11 val_main_v10
  generalize val_main_v0 (F := Ideal) X = x at h0
  generalize val_main_v9 (F := Ideal) X = y at h9
  pointwise [val_main_v13, val_main_v12, val_main_v1, val_main_v19, val_main_v17, val_main_v16, val_main_v15, val_main_cst_2]
  rw [h0, h9]
  rfl

/-- The projection of a row. -/
theorem proj_at (n : Fin 65536) (j : Fin 2816) : val_main_v23 (F := Ideal) X G C H W (ix2 n j) = proj X G C H W n j := by
  have hn : tok ⟨n.val / 2048, by omega⟩ ⟨n.val % 2048, by omega⟩ = n := Fin.ext (by simp only [tok]; omega)
  have h22 : val_main_v22 (F := Ideal) X G C H W (ix3 ⟨n.val / 2048, by omega⟩ ⟨n.val % 2048, by omega⟩ j) = proj X G C H W n j := by
    rw [val_main_v22_apply]
    unfold proj
    refine Finset.sum_congr rfl fun k _ => congrArg₂ (· * ·) ?_ ?_
    · refine Eq.trans (congrArg _ (?_ : _ = ix3 ⟨n.val / 2048, by omega⟩ ⟨n.val % 2048, by omega⟩ k)) ?_
      · funext a; fin_cases a <;> rfl
      · rw [norm_at, hn]
    · rw [val_main_v21_apply]
      refine congrArg W ?_
      funext a; fin_cases a <;> rfl
  unfold val_main_v23
  generalize val_main_v22 (F := Ideal) X G C H W = y at h22
  pointwise
  refine Eq.trans (congrArg y ?_) h22
  congr 1 <;> apply Fin.ext <;> dsimp only <;> omega

/-- The Hyena columns. -/
theorem hy_eq : val_main_v27 (F := Ideal) X G C H W = hyArr X G C H W := by
  funext y
  idx_vars y
  have h := proj_at X G C H W y0 ⟨1536 + y1.val, by omega⟩
  unfold val_main_v27
  generalize val_main_v23 (F := Ideal) X G C H W = v at h
  pointwise
  exact h

/-- The Conformer columns. -/
theorem cf_eq : val_main_v28 (F := Ideal) X G C H W = cfArr X G C H W := by
  funext y
  idx_vars y
  have h := proj_at X G C H W y0 ⟨2304 + y1.val, by omega⟩
  unfold val_main_v28
  generalize val_main_v23 (F := Ideal) X G C H W = v at h
  pointwise
  exact h

/-- The queries, keys and values. -/
theorem qkv_eq : val_main_v37 (F := Ideal) X G C H W = qkvArr X G C H W := by
  funext y
  idx_vars y
  have h := proj_at X G C H W y0
  unfold val_main_v37 val_main_v36 val_main_v35 val_main_v33 val_main_v32 val_main_v31 val_main_v26 val_main_v25 val_main_v24
  generalize val_main_v23 (F := Ideal) X G C H W = v at h
  pointwise [val_main_v34, val_main_v29, val_main_v30, val_main_cst_3, val_main_cst_4, val_main_cst_5]
  show _ = handed X G C H W y0 y1
  simp only [h]
  unfold handed
  by_cases hq : y1.val < 512
  · rw [dif_pos hq, dif_pos hq]
  rw [dif_neg hq, dif_neg hq]
  by_cases hk : y1.val < 1024
  · rw [dif_pos (by omega), dif_pos hk]
    exact congrArg _ (Fin.ext (by dsimp only; omega))
  rw [dif_neg (by omega), dif_neg hk]
  by_cases hv : y1.val % 128 < 64
  · rw [dif_pos (by omega), dif_pos hv]
    exact congrArg _ (Fin.ext (by dsimp only; omega))
  rw [dif_neg (by omega), dif_neg hv]
  by_cases hu : y1.val % 128 = 64
  · rw [dif_pos (by omega), if_pos hu]
  · rw [dif_neg (by omega), if_neg hu]

end Cert.Reference2Ideal.Proj

end
-- ==== Proof.OutPay.lean ====
/- The output projection's stored values, read at an index over the extended reals. -/
module

public import proofs.«01_k».proof.Proof.Gen.Kernel3Ideal.Frame
public import proofs.«01_k».proof.Proof.Norm
public import Idealize.ShloMosaic.Lib.Pipeline.ValueKit

@[expose] public section

set_option maxRecDepth 16384

noncomputable section

namespace Cert.Kernel3Ideal.Proj

open Idealize.ShloMosaic Idealize.ShloMosaic.TcCoe Idealize.SL.Sem
open Idealize.ShloMosaic.Pipeline (Dat)
open Cert.Kernel3Ideal Cert.Kernel3Ideal.Gen Cert.Layer

/-- The product of a block: the attention's lanes, the Hyena lanes turned to rows, and the Conformer lanes. -/
theorem mix_at (a : Vec Ideal S512x512 .bf16) (w : Vec Ideal S512x1024 .bf16) (y0 y1 y2 y3 : Vec Ideal S1x1x256x128 .f32)
    (w' : Vec Ideal S256x1024 .bf16) (v : Vec Ideal S512x256 .bf16) (w'' : Vec Ideal S256x1024 .bf16) (r : Fin 512) (d : Fin 1024)
    (f : Fin 256 → EReal)
    (h0 : ∀ k, (h : r.val < 128) → y0 (ix4 0 0 k ⟨r.val, h⟩) = f k)
    (h1 : ∀ k, (h : 128 ≤ r.val ∧ r.val < 256) → y1 (ix4 0 0 k ⟨r.val - 128, by omega⟩) = f k)
    (h2 : ∀ k, (h : 256 ≤ r.val ∧ r.val < 384) → y2 (ix4 0 0 k ⟨r.val - 256, by omega⟩) = f k)
    (h3 : ∀ k, (h : 384 ≤ r.val) → y3 (ix4 0 0 k ⟨r.val - 384, by omega⟩) = f k) :
    k0_pay1 (F := Ideal) a w y0 y1 y2 y3 w' v w'' (ix2 r d)
      = (∑ k : Fin 512, a (ix2 r k) * w (ix2 k d)) + (∑ k : Fin 256, f k * w' (ix2 k d)) + ∑ k : Fin 256, v (ix2 r k) * w'' (ix2 k d) := by
  pointwise [k0_pay1]
  congr 2
  refine Finset.sum_congr rfl fun k _ => congrArg (· * _) ?_
  by_cases c0 : r.val < 128
  · rw [dif_pos c0]
    exact h0 k c0
  rw [dif_neg c0]
  by_cases c1 : r.val < 256
  · rw [dif_pos (by omega)]
    exact h1 k ⟨by omega, c1⟩
  rw [dif_neg (by omega)]
  by_cases c2 : r.val < 384
  · rw [dif_pos (by omega)]
    exact (congrArg (fun i => y2 (ix4 0 0 k i)) (Fin.ext (by dsimp only; omega))).trans (h2 k ⟨by omega, c2⟩)
  · rw [dif_neg (by omega)]
    exact (congrArg (fun i => y3 (ix4 0 0 k i)) (Fin.ext (by dsimp only; omega))).trans (h3 k (by omega))

/-- The stream after the gated product. -/
theorem resid_at (p x : Vec Ideal S512x1024 .f32) (g : Vec Ideal S1x1x1024 .f32) (r : Fin 512) (d : Fin 1024) :
    k0_pay2 (F := Ideal) p x g (ix2 r d) = x (ix2 r d) + g (ix3 0 0 d) * p (ix2 r d) := by
  pointwise [k0_pay2]

/-- The normalised block. -/
theorem norm_at (p x : Vec Ideal S512x1024 .f32) (g : Vec Ideal S1x1x1024 .f32) (n : Vec Ideal S1x1024 .f32)
    (sc sh : Vec Ideal S1x1x1024 .f32) (r : Fin 512) (d : Fin 1024) : k0_pay3 (F := Ideal) p x g n sc sh (ix2 r d)
      = normed (fun e => k0_pay2 (F := Ideal) p x g (ix2 r e)) (fun e => n (ix2 0 e)) (fun e => sc (ix3 0 0 e)) (fun e => sh (ix3 0 0 e)) d := by
  unfold k0_pay3
  generalize k0_pay2 (F := Ideal) p x g = y
  pointwise
  unfold normed invRms
  rfl

/-- The router's logits of a block. -/
theorem logit_at (p x : Vec Ideal S512x1024 .f32) (g : Vec Ideal S1x1x1024 .f32) (n : Vec Ideal S1x1024 .f32)
    (sc sh : Vec Ideal S1x1x1024 .f32) (w : Vec Ideal S16x1024 .bf16) (e : Fin 16) (r : Fin 512) :
    k0_pay4 (F := Ideal) p x g n sc sh w (ix3 0 e r)
      = ∑ k : Fin 1024, k0_pay3 (F := Ideal) p x g n sc sh (ix2 r k) * w (ix2 e k) := by
  unfold k0_pay4
  generalize k0_pay3 (F := Ideal) p x g n sc sh = y
  pointwise
  exact Finset.sum_congr rfl fun k _ => mul_comm _ _

/-- Row `r` of block `t` in the stream. -/
def row (t : Fin 128) (r : Fin 512) : Fin 65536 := ⟨t.val * 512 + r.val, by omega⟩

section arrays

variable (A : FVec Ideal S65536x512 .bf16) (Y : FVec Ideal S16x32x256x128 .f32) (V' : FVec Ideal S65536x256 .bf16)
  (X : FVec Ideal S65536x1024 .f32) (E : FVec Ideal S32x1x1024 .f32) (W : FVec Ideal S1024x1024 .bf16)
  (G : FVec Ideal S1x1024 .f32) (C H : FVec Ideal S32x1x1024 .f32) (R : FVec Ideal S16x1024 .bf16)

/-- Column `d` of the three branches' product at row `n`. -/
def mixed (n : Fin 65536) (d : Fin 1024) : EReal :=
  (∑ k : Fin 512, A (ix2 n k) * W (ix2 ⟨k.val, by omega⟩ d))
    + (∑ k : Fin 256, Y (ix4 ⟨n.val % 2048 / 128, by omega⟩ ⟨n.val / 2048, by omega⟩ k ⟨n.val % 128, by omega⟩)
      * W (ix2 ⟨512 + k.val, by omega⟩ d))
    + ∑ k : Fin 256, V' (ix2 n k) * W (ix2 ⟨768 + k.val, by omega⟩ d)

/-- The stream after the layer's first half, at row `n`. -/
def resid (n : Fin 65536) (d : Fin 1024) : EReal :=
  X (ix2 n d) + E (ix3 ⟨n.val / 2048, by omega⟩ 0 d) * mixed A Y V' W n d

/-- Its normalised row. -/
def outNorm (n : Fin 65536) (d : Fin 1024) : EReal :=
  normed (fun e => resid A Y V' X E W n e) (fun e => G (ix2 0 e)) (fun e => C (ix3 ⟨n.val / 2048, by omega⟩ 0 e))
    (fun e => H (ix3 ⟨n.val / 2048, by omega⟩ 0 e)) d

/-- The router's logit of expert `e` at row `n`. -/
def logit (n : Fin 65536) (e : Fin 16) : EReal := ∑ k : Fin 1024, outNorm A Y V' X E W G C H n k * R (ix2 e k)

end arrays

/-- The blocks' positions at each point of the grid. -/
theorem idx : ∀ t : Fin cfg0.N, win0_0.index t = ![t.val, 0] ∧ win0_1.index t = ![t.val % 4, t.val / 4, 0, 0] ∧ win0_2.index t = ![t.val, 0]
    ∧ win0_3.index t = ![t.val, 0] ∧ win0_4.index t = ![t.val / 4, 0, 0] ∧ win0_5.index t = ![0, 0]
    ∧ win0_6.index t = ![0, 0] ∧ win0_7.index t = ![t.val / 4, 0, 0] ∧ win0_8.index t = ![t.val / 4, 0, 0]
    ∧ win0_9.index t = ![0, 0] ∧ win0_10.index t = ![t.val, 0] ∧ win0_11.index t = ![t.val, 0] ∧ win0_12.index t = ![t.val / 4, 0, t.val % 4] :=
  (by decide +kernel : ∀ t : Fin grid0.N, _)

variable (m : (ℓ : Loc nD τ sig) → Buf (Elt Ideal) ℓ)

section loads

variable (c : Dev nD) (t : Fin cfg0.N)

/-- Rows of the weights, as a point loads them. -/
theorem load_w (n o : ℕ) (ho : o + n ≤ 1024) (inb : ∀ a, ![o, 0] a + (![n, 1024] : Fin 2 → ℕ) a ≤ S1024x1024.size a) (k : Fin n) (d : Fin 1024) :
    View.ld (iblk m c 5 t) (Rect.unit (s := S1024x1024) ![o, 0] ![n, 1024] inb) (ix2 k d)
      = m ((c : Thread nD τ).loc main_arg5) (ix2 ⟨o + k.val, by omega⟩ d) := by
  pointwise
  blk_ext [iblk, V, idx t]

variable (t' : Fin 128) (ht : t.val = t'.val)

include ht

/-- The attention's rows, as a point stages them. -/
theorem load_a (r : Fin 512) (k : Fin 512) : iblk m c 0 t (ix2 r k) = m ((c : Thread nD τ).loc main_arg0) (ix2 (row t' r) k) := by
  blk_ext [iblk, V, idx t, row]

/-- A tile of the Hyena channels, as a point stages them. -/
theorem load_y (q : Fin 4) (k : Fin 256) (p : Fin 128) : iblk m c 1 t (ix4 q 0 k p)
    = m ((c : Thread nD τ).loc main_arg1) (ix4 ⟨t'.val % 4 * 4 + q.val, by omega⟩ ⟨t'.val / 4, by omega⟩ k p) := by
  blk_ext [iblk, V, idx t]

/-- The Conformer's rows, as a point stages them. -/
theorem load_v (r : Fin 512) (k : Fin 256) : iblk m c 2 t (ix2 r k) = m ((c : Thread nD τ).loc main_arg2) (ix2 (row t' r) k) := by
  blk_ext [iblk, V, idx t, row]

/-- The stream's rows, as a point stages them. -/
theorem load_x (r : Fin 512) (d : Fin 1024) : iblk m c 3 t (ix2 r d) = m ((c : Thread nD τ).loc main_arg3) (ix2 (row t' r) d) := by
  blk_ext [iblk, V, idx t, row]

/-- The gate, as a point stages it. -/
theorem load_e (d : Fin 1024) : iblk m c 4 t (ix3 0 0 d) = m ((c : Thread nD τ).loc main_arg4) (ix3 ⟨t'.val / 4, by omega⟩ 0 d) := by
  blk_ext [iblk, V, idx t]

/-- The gain, as a point stages it. -/
theorem load_g (d : Fin 1024) : iblk m c 6 t (ix2 0 d) = m ((c : Thread nD τ).loc main_arg6) (ix2 0 d) := by
  blk_ext [iblk, V, idx t]

/-- The scale, as a point stages it. -/
theorem load_c (d : Fin 1024) : iblk m c 7 t (ix3 0 0 d) = m ((c : Thread nD τ).loc main_arg7) (ix3 ⟨t'.val / 4, by omega⟩ 0 d) := by
  blk_ext [iblk, V, idx t]

/-- The shift, as a point stages it. -/
theorem load_h (d : Fin 1024) : iblk m c 8 t (ix3 0 0 d) = m ((c : Thread nD τ).loc main_arg8) (ix3 ⟨t'.val / 4, by omega⟩ 0 d) := by
  blk_ext [iblk, V, idx t]

/-- The router's weights, as a point stages them. -/
theorem load_r (e : Fin 16) (k : Fin 1024) : iblk m c 9 t (ix2 e k) = m ((c : Thread nD τ).loc main_arg9) (ix2 e k) := by
  blk_ext [iblk, V, idx t]

/-- A tile of the Hyena channels, as a point loads it for row `r`. -/
theorem tile_y (q : Fin 4) (inb : ∀ a, ![q.val, 0, 0, 0] a + S1x1x256x128.size a ≤ S4x1x256x128.size a) (r : Fin 512) (k : Fin 256)
    (p : Fin 128) (hp : r.val = 128 * q.val + p.val) :
    View.ld (iblk m c 1 t) (Rect.unit (s := S4x1x256x128) ![q.val, 0, 0, 0] S1x1x256x128.size inb) (ix4 0 0 k p)
      = m ((c : Thread nD τ).loc main_arg1)
        (ix4 ⟨(row t' r).val % 2048 / 128, by omega⟩ ⟨(row t' r).val / 2048, by omega⟩ k ⟨(row t' r).val % 128, by omega⟩) := by
  have e0 : (⟨(row t' r).val % 2048 / 128, by omega⟩ : Fin 16) = ⟨t'.val % 4 * 4 + q.val, by omega⟩ := Fin.ext (by simp only [row]; omega)
  have e1 : (⟨(row t' r).val / 2048, by omega⟩ : Fin 32) = ⟨t'.val / 4, by omega⟩ := Fin.ext (by simp only [row]; omega)
  have e2 : (⟨(row t' r).val % 128, by omega⟩ : Fin 128) = p := Fin.ext (by simp only [row]; omega)
  rw [e0, e1, e2, ← load_y m c t t' ht]
  pointwise

end loads

set_option maxHeartbeats 1000000 in
/-- The product of a point's block. -/
theorem block_mix (c : Dev nD) (t : Fin cfg0.N) (t' : Fin 128) (ht : t.val = t'.val) (r : Fin 512) (d : Fin 1024) :
    k0_pay5 (F := Ideal) (iblk m c 0 t) (iblk m c 1 t) (iblk m c 2 t) (iblk m c 3 t) (iblk m c 4 t) (iblk m c 5 t) (iblk m c 6 t)
        (iblk m c 7 t) (iblk m c 8 t) (iblk m c 9 t) (ix2 r d)
      = mixed (m ((c : Thread nD τ).loc main_arg0)) (m ((c : Thread nD τ).loc main_arg1)) (m ((c : Thread nD τ).loc main_arg2))
        (m ((c : Thread nD τ).loc main_arg5)) (row t' r) d := by
  unfold k0_pay5
  rw [mix_at _ _ _ _ _ _ _ _ _ _ _ (fun k => m ((c : Thread nD τ).loc main_arg1)
    (ix4 ⟨(row t' r).val % 2048 / 128, by omega⟩ ⟨(row t' r).val / 2048, by omega⟩ k ⟨(row t' r).val % 128, by omega⟩))]
  · unfold mixed
    refine congrArg₂ (· + ·) (congrArg₂ (· + ·) ?_ ?_) ?_ <;> refine Finset.sum_congr rfl fun k _ => congrArg₂ (· * ·) ?_ ?_
    · exact Eq.trans (by pointwise) (load_a m c t t' ht r k)
    · exact (load_w m c t 512 0 (by omega) _ k d).trans (congrArg (fun i => m ((c : Thread nD τ).loc main_arg5) (ix2 i d)) (Fin.ext (by simp only []; omega)))
    · rfl
    · exact load_w m c t 256 512 (by omega) _ k d
    · exact Eq.trans (by pointwise) (load_v m c t t' ht r k)
    · exact load_w m c t 256 768 (by omega) _ k d
  · exact fun k h => tile_y m c t t' ht 0 _ r k _ (by simp only []; omega)
  · exact fun k h => tile_y m c t t' ht 1 _ r k _ (by simp only []; omega)
  · exact fun k h => tile_y m c t t' ht 2 _ r k _ (by simp only []; omega)
  · exact fun k h => tile_y m c t t' ht 3 _ r k _ (by simp only []; omega)

/-- The stream a point leaves. -/
theorem block_resid (c : Dev nD) (t : Fin cfg0.N) (t' : Fin 128) (ht : t.val = t'.val) (r : Fin 512) (d : Fin 1024) :
    k0_pay2 (F := Ideal) (k0_pay5 (iblk m c 0 t) (iblk m c 1 t) (iblk m c 2 t) (iblk m c 3 t) (iblk m c 4 t) (iblk m c 5 t) (iblk m c 6 t)
        (iblk m c 7 t) (iblk m c 8 t) (iblk m c 9 t)) (iblk m c 3 t) (iblk m c 4 t) (ix2 r d)
      = resid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (row t' r) d := by
  have hs : (⟨t'.val / 4, by omega⟩ : Fin 32) = ⟨(row t' r).val / 2048, by omega⟩ := Fin.ext (by simp only [row]; omega)
  rw [resid_at, block_mix m c t t' ht, load_x m c t t' ht, load_e m c t t' ht, hs]
  rfl

/-- The normalised rows a point leaves. -/
theorem block_norm (c : Dev nD) (t : Fin cfg0.N) (t' : Fin 128) (ht : t.val = t'.val) (r : Fin 512) (d : Fin 1024) :
    k0_pay3 (F := Ideal) (k0_pay5 (iblk m c 0 t) (iblk m c 1 t) (iblk m c 2 t) (iblk m c 3 t) (iblk m c 4 t) (iblk m c 5 t) (iblk m c 6 t)
        (iblk m c 7 t) (iblk m c 8 t) (iblk m c 9 t)) (iblk m c 3 t) (iblk m c 4 t) (iblk m c 6 t) (iblk m c 7 t) (iblk m c 8 t) (ix2 r d)
      = outNorm (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (row t' r) d := by
  have hs : (⟨t'.val / 4, by omega⟩ : Fin 32) = ⟨(row t' r).val / 2048, by omega⟩ := Fin.ext (by simp only [row]; omega)
  rw [norm_at]
  unfold outNorm
  simp only [block_resid m c t t' ht, load_g m c t t' ht, load_c m c t t' ht, load_h m c t t' ht, hs]

/-- The stream, in a point's buffer. -/
theorem out_x (c : Dev nD) (t : Fin cfg0.N) (t' : Fin 128) (ht : t.val = t'.val) (r : Fin 512) (d : Fin 1024) :
    out0_10 (F := Ideal) (iblk m c 0 t) (iblk m c 1 t) (iblk m c 2 t) (iblk m c 3 t) (iblk m c 4 t) (iblk m c 5 t) (iblk m c 6 t)
        (iblk m c 7 t) (iblk m c 8 t) (iblk m c 9 t) (ix2 r d)
      = resid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (row t' r) d := by
  refine Eq.trans ?_ (block_resid m c t t' ht r d)
  unfold out0_10
  generalize k0_pay5 (F := Ideal) (iblk m c 0 t) (iblk m c 1 t) (iblk m c 2 t) (iblk m c 3 t) (iblk m c 4 t) (iblk m c 5 t) (iblk m c 6 t)
    (iblk m c 7 t) (iblk m c 8 t) (iblk m c 9 t) = p
  frame_out

/-- The normalised stream, in a point's buffer. -/
theorem out_h (c : Dev nD) (t : Fin cfg0.N) (t' : Fin 128) (ht : t.val = t'.val) (r : Fin 512) (d : Fin 1024) :
    out0_11 (F := Ideal) (iblk m c 0 t) (iblk m c 1 t) (iblk m c 2 t) (iblk m c 3 t) (iblk m c 4 t) (iblk m c 5 t) (iblk m c 6 t)
        (iblk m c 7 t) (iblk m c 8 t) (iblk m c 9 t) (ix2 r d)
      = outNorm (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (row t' r) d := by
  refine Eq.trans ?_ (block_norm m c t t' ht r d)
  unfold out0_11
  generalize k0_pay5 (F := Ideal) (iblk m c 0 t) (iblk m c 1 t) (iblk m c 2 t) (iblk m c 3 t) (iblk m c 4 t) (iblk m c 5 t) (iblk m c 6 t)
    (iblk m c 7 t) (iblk m c 8 t) (iblk m c 9 t) = p
  frame_out

/-- The logits, in a point's buffer. -/
theorem out_l (c : Dev nD) (t : Fin cfg0.N) (t' : Fin 128) (ht : t.val = t'.val) (e : Fin 16) (r : Fin 512) :
    out0_12 (F := Ideal) (iblk m c 0 t) (iblk m c 1 t) (iblk m c 2 t) (iblk m c 3 t) (iblk m c 4 t) (iblk m c 5 t) (iblk m c 6 t)
        (iblk m c 7 t) (iblk m c 8 t) (iblk m c 9 t) (ix3 0 e r)
      = logit (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (row t' r) e := by
  have hn := block_norm m c t t' ht r
  unfold out0_12 logit
  generalize k0_pay5 (F := Ideal) (iblk m c 0 t) (iblk m c 1 t) (iblk m c 2 t) (iblk m c 3 t) (iblk m c 4 t) (iblk m c 5 t) (iblk m c 6 t)
    (iblk m c 7 t) (iblk m c 8 t) (iblk m c 9 t) = p at hn
  frame_out
  rw [logit_at]
  simp only [hn, load_r m c t t' ht]

end Cert.Kernel3Ideal.Proj

end
-- ==== Proof.OutFinal.lean ====
/- The output projection's result arrays, once every point has stored its blocks. -/
module

public import proofs.«01_k».proof.Proof.Gen.Kernel3Ideal.Value
public import proofs.«01_k».proof.Proof.OutPay

@[expose] public section

set_option maxRecDepth 16384

noncomputable section

namespace Cert.Kernel3Ideal.Proj

open Idealize.ShloMosaic Idealize.ShloMosaic.TcCoe Idealize.SL.Sem
open Idealize.ShloMosaic.Pipeline (Dat)
open Cert.Kernel3Ideal Cert.Kernel3Ideal.Gen Cert.Layer

section arrays

variable (A : FVec Ideal S65536x512 .bf16) (Y : FVec Ideal S16x32x256x128 .f32) (V' : FVec Ideal S65536x256 .bf16)
  (X : FVec Ideal S65536x1024 .f32) (E : FVec Ideal S32x1x1024 .f32) (W : FVec Ideal S1024x1024 .bf16)
  (G : FVec Ideal S1x1024 .f32) (C H : FVec Ideal S32x1x1024 .f32) (R : FVec Ideal S16x1024 .bf16)

/-- The stream after the layer's first half. -/
def xArr : FVec Ideal S65536x1024 .f32 := fun y =>
  resid A Y V' X E W ⟨(y 0).val, by idx_bounds y; omega⟩ ⟨(y 1).val, by idx_bounds y; omega⟩

/-- Its normalised rows. -/
def hArr : FVec Ideal S65536x1024 .bf16 := fun y =>
  outNorm A Y V' X E W G C H ⟨(y 0).val, by idx_bounds y; omega⟩ ⟨(y 1).val, by idx_bounds y; omega⟩

/-- The router's logits. -/
def lArr : FVec Ideal S32x16x2048 .f32 := fun y =>
  logit A Y V' X E W G C H R ⟨(y 0).val * 2048 + (y 2).val, by idx_bounds y; omega⟩ ⟨(y 1).val, by idx_bounds y; omega⟩

/-- An entry of the stream. -/
theorem xArr_at (y : S65536x1024.Idx) (n : Fin 65536) (d : Fin 1024) (h0 : (y 0).val = n.val) (h1 : (y 1).val = d.val) :
    xArr A Y V' X E W y = resid A Y V' X E W n d := by
  unfold xArr
  simp only [h0, h1]

/-- An entry of the normalised rows. -/
theorem hArr_at (y : S65536x1024.Idx) (n : Fin 65536) (d : Fin 1024) (h0 : (y 0).val = n.val) (h1 : (y 1).val = d.val) :
    hArr A Y V' X E W G C H y = outNorm A Y V' X E W G C H n d := by
  unfold hArr
  simp only [h0, h1]

/-- An entry of the logits. -/
theorem lArr_at (y : S32x16x2048.Idx) (n : Fin 65536) (e : Fin 16) (h0 : (y 0).val * 2048 + (y 2).val = n.val) (h1 : (y 1).val = e.val) :
    lArr A Y V' X E W G C H R y = logit A Y V' X E W G C H R n e := by
  unfold lArr
  simp only [h0, h1]

end arrays

variable (m : (ℓ : Loc nD τ sig) → Buf (Elt Ideal) ℓ)

/-- The stream after the run. -/
theorem final_x (c : Dev nD) : (dats m 0 c).arrAt 10 cfg0.N
    = xArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  have hi := (idx t).2.2.2.2.2.2.2.2.2.2.1
  idx_vars y
  refine (out_x m c t ⟨t.val, t.isLt⟩ rfl y0 y1).trans (xArr_at _ _ _ _ _ _ _ _ _ ?_ ?_).symm
  · blk_simp
    rw [hi]
    rfl
  · blk_simp
    rw [hi]
    show 0 * 1024 + y1.val = y1.val
    omega

/-- The normalised rows after the run. -/
theorem final_h (c : Dev nD) : (dats m 0 c).arrAt 11 cfg0.N
    = hArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp
  rw [after0_11]
  have hi := (idx t).2.2.2.2.2.2.2.2.2.2.2.1
  idx_vars y
  refine (out_h m c t ⟨t.val, t.isLt⟩ rfl y0 y1).trans (hArr_at _ _ _ _ _ _ _ _ _ _ _ _ ?_ ?_).symm
  · blk_simp
    rw [hi]
    rfl
  · blk_simp
    rw [hi]
    show 0 * 1024 + y1.val = y1.val
    omega

/-- The logits after the run. -/
theorem final_l (c : Dev nD) : (dats m 0 c).arrAt 12 cfg0.N
    = lArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  refine (dats m 0 c).arrAt_eq_of_covers 12 _ (by decide +kernel) fun t hf y => ?_
  blk_simp
  rw [after0_12]
  have hi := (idx t).2.2.2.2.2.2.2.2.2.2.2.2
  have ht : t.val < 128 := t.isLt
  idx_vars y
  obtain rfl : y0 = 0 := Fin.ext (by omega)
  refine (out_l m c t ⟨t.val, t.isLt⟩ rfl y1 y2).trans (lArr_at _ _ _ _ _ _ _ _ _ _ _ _ _ ?_ ?_).symm
  · blk_simp
    rw [hi]
    show (t.val / 4 + 0) * 2048 + (t.val % 4 * 512 + y2.val) = t.val * 512 + y2.val
    omega
  · blk_simp
    rw [hi]
    show 0 * 16 + y1.val = y1.val
    omega

end Cert.Kernel3Ideal.Proj

end
-- ==== Proof.OutRef.lean ====
/- The reference's output projection, read at an index over the extended reals. -/
module

public import proofs.«01_k».proof.Proof.Gen.Reference3Ideal.Read
public import proofs.«01_k».proof.Proof.OutFinal
public import Idealize.ShloMosaic.Lib.Pipeline.ValueKit

@[expose] public section

set_option maxRecDepth 16384

noncomputable section

namespace Cert.Reference3Ideal.Proj

open Idealize.ShloMosaic Idealize.ShloMosaic.TcCoe Idealize.SL.Sem
open Cert.Reference3Ideal Cert.Reference3Ideal.Gen Cert.Reference3Ideal.Read Cert.Layer
open Cert.Kernel3Ideal.Proj (mixed resid outNorm logit xArr hArr lArr)

/-- The stream's row of a token. -/
def tok (b : Fin 32) (s : Fin 2048) : Fin 65536 := ⟨b.val * 2048 + s.val, by omega⟩

/-- A row is its token's. -/
theorem tok_row (n : Fin 65536) : tok ⟨n.val / 2048, by omega⟩ ⟨n.val % 2048, by omega⟩ = n := Fin.ext (by simp only [tok]; omega)

/-- Positions of a matrix agree where their coordinates do. -/
theorem ix2_ext {n m : ℕ} {a b : Fin n} {c d : Fin m} (h : a.val = b.val) (h' : c.val = d.val) : ix2 a c = ix2 b d := by
  rw [Fin.ext h, Fin.ext h']

/-- A sum over the three branches' lanes. -/
theorem sum_branches (f : Fin 1024 → EReal) : ∑ x : Fin 1024, f x
    = (∑ k : Fin 512, f ⟨k.val, by omega⟩) + (∑ k : Fin 256, f ⟨512 + k.val, by omega⟩) + ∑ k : Fin 256, f ⟨768 + k.val, by omega⟩ := by
  refine (Fin.sum_univ_add (a := 768) (b := 256) f).trans (congrArg₂ (· + ·) ?_ rfl)
  exact Fin.sum_univ_add (a := 512) (b := 256) fun i : Fin 768 => f ⟨i.val, by omega⟩

variable (A : FVec Ideal S65536x512 .bf16) (Y : FVec Ideal S16x32x256x128 .f32) (V' : FVec Ideal S65536x256 .bf16)
  (X : FVec Ideal S65536x1024 .f32) (E : FVec Ideal S32x1x1024 .f32) (W : FVec Ideal S1024x1024 .bf16)
  (G : FVec Ideal S1x1024 .f32) (C H : FVec Ideal S32x1x1024 .f32) (R : FVec Ideal S16x1024 .bf16)

/-- The product of a token's three branches. -/
theorem mixed_at (b : Fin 32) (s : Fin 2048) (d : Fin 1024) :
    val_main_v9 (F := Ideal) A Y V' W (ix3 b s d) = mixed A Y V' W (tok b s) d := by
  unfold val_main_v9 val_main_v6
  pointwise [val_main_v8, val_main_v5, val_main_v4, val_main_v3, val_main_v2, val_main_v1, val_main_v0]
  have e0 : (⟨(tok b s).val % 2048 / 128, by omega⟩ : Fin 16) = ⟨s.val / 128, by omega⟩ := Fin.ext (by simp only [tok]; omega)
  have e1 : (⟨(tok b s).val / 2048, by omega⟩ : Fin 32) = b := Fin.ext (by simp only [tok]; omega)
  have e2 : (⟨(tok b s).val % 128, by omega⟩ : Fin 128) = ⟨s.val % 128, by omega⟩ := Fin.ext (by simp only [tok]; omega)
  rw [sum_branches]
  unfold mixed
  rw [e0, e1, e2]
  refine congrArg₂ (· + ·) (congrArg₂ (· + ·) ?_ ?_) ?_ <;> refine Finset.sum_congr rfl fun k _ => congrArg (· * _) ?_
  · exact dif_pos k.isLt
  · rw [dif_neg (by dsimp only; omega), dif_pos (by dsimp only; omega)]
    exact congrArg (fun i => Y (ix4 _ b i _)) (Fin.ext (by dsimp only; omega))
  · rw [dif_neg (by dsimp only; omega), dif_neg (by dsimp only; omega)]
    exact congrArg V' (ix2_ext rfl (by dsimp only; omega))

/-- The stream of a token. -/
theorem resid_at (b : Fin 32) (s : Fin 2048) (d : Fin 1024) :
    val_main_v12 (F := Ideal) A Y V' X E W (ix3 b s d) = resid A Y V' X E W (tok b s) d := by
  have h9 := mixed_at A Y V' W b s d
  have hb : (⟨(tok b s).val / 2048, by omega⟩ : Fin 32) = b := Fin.ext (by simp only [tok]; omega)
  unfold val_main_v12 val_main_v11 resid
  generalize val_main_v9 (F := Ideal) A Y V' W = y at h9
  pointwise [val_main_v10, val_main_v7]
  rw [h9, hb]
  exact congrArg (· + _) (congrArg X (ix2_ext (by simp only [tok]; try omega) (by try omega)))

/-- The inverse root mean square of a token's row. -/
theorem rms_at (b : Fin 32) (s : Fin 2048) :
    val_main_v21 (F := Ideal) A Y V' X E W (ix3 b s 0) = invRms fun e => resid A Y V' X E W (tok b s) e := by
  have h15 : val_main_v15 (F := Ideal) A Y V' X E W (ix2 b s)
      = ∑ e : Fin 1024, resid A Y V' X E W (tok b s) e * resid A Y V' X E W (tok b s) e := by
    rw [val_main_v15_apply]
    have hz : (val_main_cst (F := Ideal)) (Shape.Idx.first h_S_) = 0 := by
      pointwise [val_main_cst]
    rw [hz, zero_add]
    refine Finset.sum_congr rfl fun e _ => ?_
    have hi : idx_main_v15 (ix2 b s) e = ix3 b s e := by funext a; fin_cases a <;> rfl
    rw [hi, val_main_v14_apply, resid_at]
    rfl
  unfold val_main_v21 val_main_v20 val_main_v18 val_main_v16
  generalize val_main_v15 (F := Ideal) A Y V' X E W = y at h15
  pointwise [val_main_v19, val_main_v17, val_main_cst_0, val_main_cst_1]
  rw [h15]
  rfl

/-- The normalised token. -/
theorem norm_at (b : Fin 32) (s : Fin 2048) (d : Fin 1024) :
    val_main_v32 (F := Ideal) A Y V' X E W G C H (ix3 b s d) = outNorm A Y V' X E W G C H (tok b s) d := by
  have h12 := resid_at A Y V' X E W b s d
  have h21 := rms_at A Y V' X E W b s
  have hb : (⟨(tok b s).val / 2048, by omega⟩ : Fin 32) = b := Fin.ext (by simp only [tok]; omega)
  unfold val_main_v32 val_main_v30 val_main_v26 val_main_v23 val_main_v22 outNorm
  generalize val_main_v12 (F := Ideal) A Y V' X E W = x at h12
  generalize val_main_v21 (F := Ideal) A Y V' X E W = y at h21
  pointwise [val_main_v25, val_main_v24, val_main_v13, val_main_v31, val_main_v29, val_main_v28, val_main_v27, val_main_cst_2]
  rw [h12, h21, hb]
  rfl

/-- The stream. -/
theorem x_eq : val_main_v37 (F := Ideal) A Y V' X E W = xArr A Y V' X E W := by
  funext y
  idx_vars y
  have h := resid_at A Y V' X E W ⟨y0.val / 2048, by omega⟩ ⟨y0.val % 2048, by omega⟩ y1
  rw [tok_row] at h
  unfold val_main_v37
  generalize val_main_v12 (F := Ideal) A Y V' X E W = x at h
  pointwise
  exact h

/-- The normalised stream. -/
theorem h_eq : val_main_v39 (F := Ideal) A Y V' X E W G C H = hArr A Y V' X E W G C H := by
  funext y
  idx_vars y
  have h := norm_at A Y V' X E W G C H ⟨y0.val / 2048, by omega⟩ ⟨y0.val % 2048, by omega⟩ y1
  rw [tok_row] at h
  unfold val_main_v39 val_main_v38
  generalize val_main_v32 (F := Ideal) A Y V' X E W G C H = x at h
  pointwise
  exact h

/-- The logits. -/
theorem l_eq : val_main_v36 (F := Ideal) A Y V' X E W G C H R = lArr A Y V' X E W G C H R := by
  funext y
  idx_vars y
  have h := norm_at A Y V' X E W G C H y0 y2
  unfold val_main_v36 val_main_v35
  generalize val_main_v32 (F := Ideal) A Y V' X E W G C H = x at h
  pointwise [val_main_v34, val_main_v33]
  simp only [h]
  rfl

end Cert.Reference3Ideal.Proj

end
-- ==== Proof.FfnSlots.lean ====
/- Rules for a weight matrix brought from HBM in slabs of rows through a staging buffer of two slots, one copy in flight a
   slot, each slab rounded into one of the two places of a weight buffer. -/
module

public import Idealize.ShloMosaic.Lib.Pipeline.FrameBody
public import Idealize.ShloMosaic.Lib.Pipeline.ValueKit
public import Idealize.ShloMosaic.Lib.Ring
public import Idealize.ShloMosaic.Lib.ValueLayout
public import Idealize.ShloMosaic.Lib.Tactic

@[expose] public section

set_option maxRecDepth 16384

noncomputable section

namespace Cert.Slots

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type} [FloatOps F] {Λ : Labels}

local notation "𝕄" => MT nD τ sig Unit (Elt F) ℕ (Pipeline.UD sig nD τ) ℕ

/-- The HBM array: two layers of sixteen matrices of `D` rows and `C` columns. -/
abbrev SA (D C : ℕ) : Shape := ⟨4, ![2, 16, D, C]⟩
/-- The staging buffer: two slots of `R` rows. -/
abbrev SB (R C : ℕ) : Shape := ⟨3, ![2, R, C]⟩
abbrev S1 (R C : ℕ) : Shape := ⟨3, ![1, R, C]⟩
abbrev S11 (R C : ℕ) : Shape := ⟨4, ![1, 1, R, C]⟩
abbrev S0 (R C : ℕ) : Shape := ⟨2, ![R, C]⟩

/-- One slot of the staging buffer. -/
theorem slot_in (R C : ℕ) (s : Fin 2) : ∀ a, (![s.val, 0, 0] : Fin 3 → ℕ) a + (S1 R C).size a ≤ (SB R C).size a := by
  intro a; fin_cases a
  · change s.val + 1 ≤ 2; omega
  · change 0 + R ≤ R; omega
  · change 0 + C ≤ C; omega
def slotRect (R C : ℕ) (s : Fin 2) : Rect (SB R C) := Rect.unit (s := SB R C) ![s.val, 0, 0] (S1 R C).size (slot_in R C s)

/-- The share of the HBM array that a slot's copies read through. -/
def sh (s : Fin 2) : PosShare TreeShare := if s = 0 then fullShare.left else fullShare.right

section
variable {D R C : ℕ} (A : Memref sig .tc .hbm (SA D C) .f32) (B : Memref sig .tc .vmem (SB R C) .f32) (W : Memref sig .tc .vmem (SB D C) .bf16)
variable (sm : Fin 2 → DmaSem sig) (c : Dev nD) (fA : Buf (Elt F) (A.view.loc (c : Thread nD τ)))

/-- The slot's elements of the buffer. -/
abbrev slotSet (s : Fin 2) : Finset (Idx (B.view.loc (c : Thread nD τ))) := B.view.setOn (slotRect R C s).set

/-- The slot holds the slab at offset `off` of the array. -/
def Slab (s : Fin 2) (off : Fin 4 → ℕ) (f : Buf (Elt F) (B.view.loc (c : Thread nD τ))) : Prop :=
  ∀ (a : Fin R) (b : Fin C) (i : (SA D C).Idx), ((i 0).val = off 0 ∧ (i 1).val = off 1 ∧ (i 2).val = off 2 + a.val ∧ (i 3).val = off 3 + b.val) →
    B.view.read (Elt F) f (ix3 s a b) = A.view.read (Elt F) fA i

def Idle (s : Fin 2) : sProp 𝕄 :=
  iprop((∃ f, (B.view.loc (c : Thread nD τ)) ↦[slotSet B c s]{fullShare} f) ∗ ((A.view.loc (c : Thread nD τ)) ↦{sh s} fA)
    ∗ semVal ((c : Thread nD τ), SemLoc.dma (sm s)) 0)

def Ready (s : Fin 2) (off : Fin 4 → ℕ) : sProp 𝕄 :=
  iprop((∃ f, ⌜Slab A B c fA s off f⌝ ∗ (B.view.loc (c : Thread nD τ)) ↦[slotSet B c s]{fullShare} f) ∗ ((A.view.loc (c : Thread nD τ)) ↦{sh s} fA)
    ∗ semVal ((c : Thread nD τ), SemLoc.dma (sm s)) 0)

def Busy (s : Fin 2) (off : Fin 4 → ℕ) : sProp 𝕄 :=
  iprop(∃ (Rg : Finset (Idx (A.view.loc (c : Thread nD τ)))) (f : Buf (Elt F) (B.view.loc (c : Thread nD τ))) (N : ℕ), ⌜Slab A B c fA s off f ∧ N = sig.dmaCredit .tc (Kind.table .tc .vmem) B.view.buf (S0 R C) .f32⌝
    ∗ Transfers.Flight countersEmb (c : Thread nD τ) (SemLoc.dma (sm s)) () N
        iprop(((B.view.loc (c : Thread nD τ)) ↦[slotSet B c s]{fullShare} f) ∗ ((A.view.loc (c : Thread nD τ)) ↦[Rg]{sh s} fA))
    ∗ ((A.view.loc (c : Thread nD τ)) ↦[Finset.univ \ Rg]{sh s} fA))

/-- What the core owes: nothing. -/
def Ow : sProp 𝕄 := iprop(∃ W', owes (c : Thread nD τ) 0 W')

theorem ready_idle (s : Fin 2) (off : Fin 4 → ℕ) : Ready A B sm c fA s off ⊢ Idle A B sm c fA s := by
  unfold Ready Idle
  iintro ⟨⟨%f, -, H⟩, HA, HS⟩
  isplitl [H]; · iexists f; iexact H
  isplitl [HA]; · iexact HA
  iexact HS

theorem sh_split (s : Fin 2) (f : Buf (Elt F) (A.view.loc (c : Thread nD τ))) :
    ((A.view.loc (c : Thread nD τ)) ↦{fullShare} f : sProp 𝕄) ⊣⊢ iprop(((A.view.loc (c : Thread nD τ)) ↦{sh 0} f) ∗ ((A.view.loc (c : Thread nD τ)) ↦{sh 1} f)) :=
  pointsTo_share (PosShare.mem_left_op_right _)

variable {A B W sm c fA}
variable {defs : Defs nD τ sig (Elt F) Λ} (𝒱 : Variants) {α : Type}

/-- The slot's elements, as the view of the slot names them. -/
theorem slot_set (s : Fin 2) {offB : Fin 3 → ℕ} (hB : ∀ a, offB a + (S1 R C).size a ≤ (SB R C).size a) (hs : offB = ![s.val, 0, 0])
    (sq : (S1 R C).Squeezes (S0 R C)) :
    (((B.slice (Rect.unit (s := SB R C) offB (S1 R C).size hB) (fun _ => rfl)).squeeze (S0 R C) sq).view.set : Finset (Idx (B.view.loc (c : Thread nD τ))))
      = slotSet (τ := τ) B c s := by
  subst hs
  exact (View.set_reshape _ _).trans (View.set_slice _ _)

/-- What a copy lands in the slot. -/
theorem landed (s : Fin 2) {offB : Fin 3 → ℕ} {offA : Fin 4 → ℕ} (hA : ∀ a, offA a + (S11 R C).size a ≤ (SA D C).size a)
    (hB : ∀ a, offB a + (S1 R C).size a ≤ (SB R C).size a) (hs : offB = ![s.val, 0, 0])
    (sqA : (S11 R C).Squeezes (S0 R C)) (sq : (S1 R C).Squeezes (S0 R C)) (f : Buf (Elt F) (B.view.loc (c : Thread nD τ))) :
    Slab A B c fA s offA
      (((B.slice (Rect.unit (s := SB R C) offB (S1 R C).size hB) (fun _ => rfl)).squeeze (S0 R C) sq).view.write (Elt F) f
        (ReadAs.same.apply (((A.slice (Rect.unit (s := SA D C) offA (S11 R C).size hA) (fun _ => rfl)).squeeze (S0 R C) sqA).view.read (Elt F) fA)) Finset.univ) := by
  subst hs
  intro a b i hi
  have e1 : B.view.emb (ix3 s a b)
      = ((B.slice (Rect.unit (s := SB R C) ![s.val, 0, 0] (S1 R C).size hB) (fun _ => rfl)).squeeze (S0 R C) sq).view.emb (ix2 a b) := by
    change _ = B.view.emb ((Rect.unit (s := SB R C) ![s.val, 0, 0] (S1 R C).size hB).emb (Shape.reshapeEquiv _ (ix2 a b)))
    erw [ValueIdx.reshapeEquiv_ix2_1ab]
    refine congrArg B.view.emb (funext fun x => Fin.ext ?_)
    rw [Rect.emb_apply]
    fin_cases x
    · change s.val = s.val + 1 * 0; omega
    · change a.val = 0 + 1 * a.val; omega
    · change b.val = 0 + 1 * b.val; omega
  have e2 : A.view.emb i
      = ((A.slice (Rect.unit (s := SA D C) offA (S11 R C).size hA) (fun _ => rfl)).squeeze (S0 R C) sqA).view.emb (ix2 a b) := by
    change _ = A.view.emb ((Rect.unit (s := SA D C) offA (S11 R C).size hA).emb (Shape.reshapeEquiv _ (ix2 a b)))
    erw [ValueIdx.reshapeEquiv_ix2_11ab]
    refine congrArg A.view.emb (funext fun x => Fin.ext ?_)
    rw [Rect.emb_apply]
    obtain ⟨h0, h1, h2, h3⟩ := hi
    fin_cases x
    · change (i 0).val = offA 0 + 1 * 0; omega
    · change (i 1).val = offA 1 + 1 * 0; omega
    · change (i 2).val = offA 2 + 1 * a.val; omega
    · change (i 3).val = offA 3 + 1 * b.val; omega
  have e3 := View.read_write_of_mem (v := ((B.slice (Rect.unit (s := SB R C) ![s.val, 0, 0] (S1 R C).size hB) (fun _ => rfl)).squeeze (S0 R C) sq).view) f
    (ReadAs.same.apply (((A.slice (Rect.unit (s := SA D C) offA (S11 R C).size hA) (fun _ => rfl)).squeeze (S0 R C) sqA).view.read (Elt F) fA))
    (Finset.mem_univ (ix2 a b))
  rw [View.read_apply] at e3 ⊢
  rw [e1]
  refine e3.trans ?_
  change View.read (Elt F) ((A.slice (Rect.unit (s := SA D C) offA (S11 R C).size hA) (fun _ => rfl)).squeeze (S0 R C) sqA).view fA (ix2 a b) = _
  rw [View.read_apply, View.read_apply, e2]

/-- A copy of a slab into an idle slot starts. -/
theorem start (s : Fin 2) {offB : Fin 3 → ℕ} {offA : Fin 4 → ℕ} {hA : ∀ a, offA a + (S11 R C).size a ≤ (SA D C).size a}
    {hB : ∀ a, offB a + (S1 R C).size a ≤ (SB R C).size a} (hs : offB = ![s.val, 0, 0])
    {sqA : (S11 R C).Squeezes (S0 R C)} {sq : (S1 R C).Squeezes (S0 R C)} {smx : DmaSem sig} (hsm : smx = sm s)
    (hpos : 0 < (S0 R C).numel) {hsrc} {hdst} {hsem}
    {k : PUnit → Prog (TpuEff nD τ sig (Elt F) Λ (c : Thread nD τ).2) α} {Q : α → sProp 𝕄} :
    Idle A B sm c fA s
      ⊢ iprop((Busy A B sm c fA s offA -∗ wp frame (wpE defs 𝒱 (c : Thread nD τ) none) Set.univ (k ⟨⟩) Q)
        -∗ wp frame (wpE defs 𝒱 (c : Thread nD τ) none) Set.univ
          (Prog.lift (TpuEff.enqueueDma (p := (c : Thread nD τ).2) ((A.slice (Rect.unit (s := SA D C) offA (S11 R C).size hA) (fun _ => rfl)).squeeze (S0 R C) sqA)
            (.here ((B.slice (Rect.unit (s := SB R C) offB (S1 R C).size hB) (fun _ => rfl)).squeeze (S0 R C) sq)) (.dma smx) hsrc hdst hsem) >>= k) Q) := by
  have hset := slot_set (τ := τ) (B := B) (c := c) s hB hs sq
  have hl := fun f => landed (A := A) (B := B) (c := c) (fA := fA) s hA hB hs sqA sq f
  subst hsm
  unfold Idle
  iintro ⟨⟨%f, H⟩, HA, HS⟩ Hk
  ihave HA := (pointsTo_split_subset (Finset.subset_univ
    ((A.slice (Rect.unit (s := SA D C) offA (S11 R C).size hA) (fun _ => rfl)).squeeze (S0 R C) sqA).view.set)).1 $$ HA
  icases HA with ⟨HA1, HA2⟩
  iapply (Transfers.wp_dmaLocal countersEmb 𝒱 (c : Thread nD τ) none (src := (A.slice (Rect.unit (s := SA D C) offA (S11 R C).size hA) (fun _ => rfl)).squeeze (S0 R C) sqA)
    (dst := (B.slice (Rect.unit (s := SB R C) offB (S1 R C).size hB) (fun _ => rfl)).squeeze (S0 R C) sq) () _ rfl (View.dmaCredit_pos _ hpos) (Sd := slotSet B c s)
    (Finset.subset_of_eq hset)) $$ [HA1 H HS]
  · isplitl [HA1]; · iexact HA1
    isplitl [H]; · iexact H
    iexact HS
  iintro HF
  iapply Hk
  unfold Busy
  iexists _, _, _
  isplit
  · ipureintro; exact ⟨hl f, rfl⟩
  isplitl [HF]; · iexact HF
  iexact HA2

/-- A wait for a slot's copy. -/
theorem wait (s : Fin 2) {off : Fin 4 → ℕ} {smx : DmaSem sig} (hsm : smx = sm s) {sp : Space} {srcw : Memref sig .tc sp (S0 R C) .f32}
    {offB : Fin 3 → ℕ} {hB : ∀ a, offB a + (S1 R C).size a ≤ (SB R C).size a} {sq : (S1 R C).Squeezes (S0 R C)} {hsrc} {hdst}
    {k : PUnit → Prog (TpuEff nD τ sig (Elt F) Λ (c : Thread nD τ).2) α} {Q : α → sProp 𝕄} :
    Busy A B sm c fA s off
      ⊢ iprop(Ow c -∗ (Ready A B sm c fA s off -∗ Ow c -∗ wp frame (wpE defs 𝒱 (c : Thread nD τ) none) Set.univ (k ⟨⟩) Q)
        -∗ wp frame (wpE defs 𝒱 (c : Thread nD τ) none) Set.univ
          (Prog.lift (TpuEff.waitDma2 (p := (c : Thread nD τ).2) smx srcw ((B.slice (Rect.unit (s := SB R C) offB (S1 R C).size hB) (fun _ => rfl)).squeeze (S0 R C) sq) hsrc hdst) >>= k) Q) := by
  subst hsm
  unfold Busy Ow
  iintro ⟨%Rg, %f, %N, %hf, HF, HA2⟩ ⟨%W', HO⟩ Hk
  obtain ⟨hf, rfl⟩ := hf
  iapply (Transfers.wp_waitLocal countersEmb 𝒱 (c : Thread nD τ) none () (srcw := srcw)
    (dstw := (B.slice (Rect.unit (s := SB R C) offB (S1 R C).size hB) (fun _ => rfl)).squeeze (S0 R C) sq) (hsrc := hsrc) (hdst := hdst) rfl) $$ [HF HO]
  · isplitl [HF]; · iexact HF
    iexact HO
  iintro ⟨⟨HB, HA1⟩, HS, HO⟩
  iapply Hk $$ [HB HA1 HA2 HS] [HO]
  · unfold Ready
    isplitl [HB]
    · iexists f
      isplitr
      · ipureintro; exact hf
      iexact HB
    isplitl [HA1 HA2]
    · iapply (pointsTo_split_subset (Finset.subset_univ Rg)).2
      isplitl [HA1]; · iexact HA1
      iexact HA2
    iexact HS
  · iexists _
    iexact HO

/-- A copy into a slot whose slab is no longer wanted starts. -/
theorem restart (s : Fin 2) {off : Fin 4 → ℕ} {offB : Fin 3 → ℕ} {offA : Fin 4 → ℕ} {hA : ∀ a, offA a + (S11 R C).size a ≤ (SA D C).size a}
    {hB : ∀ a, offB a + (S1 R C).size a ≤ (SB R C).size a} (hs : offB = ![s.val, 0, 0])
    {sqA : (S11 R C).Squeezes (S0 R C)} {sq : (S1 R C).Squeezes (S0 R C)} {smx : DmaSem sig} (hsm : smx = sm s)
    (hpos : 0 < (S0 R C).numel) {hsrc} {hdst} {hsem}
    {k : PUnit → Prog (TpuEff nD τ sig (Elt F) Λ (c : Thread nD τ).2) α} {Q : α → sProp 𝕄} :
    Ready A B sm c fA s off
      ⊢ iprop((Busy A B sm c fA s offA -∗ wp frame (wpE defs 𝒱 (c : Thread nD τ) none) Set.univ (k ⟨⟩) Q)
        -∗ wp frame (wpE defs 𝒱 (c : Thread nD τ) none) Set.univ
          (Prog.lift (TpuEff.enqueueDma (p := (c : Thread nD τ).2) ((A.slice (Rect.unit (s := SA D C) offA (S11 R C).size hA) (fun _ => rfl)).squeeze (S0 R C) sqA)
            (.here ((B.slice (Rect.unit (s := SB R C) offB (S1 R C).size hB) (fun _ => rfl)).squeeze (S0 R C) sq)) (.dma smx) hsrc hdst hsem) >>= k) Q) :=
  (ready_idle A B sm c fA s off).trans (start 𝒱 s hs hsm hpos)

/-- A staged slab, as loaded. -/
def IsSlab (A : Memref sig .tc .hbm (SA D C) .f32) (fA : Buf (Elt F) (A.view.loc (c : Thread nD τ))) (off : Fin 4 → ℕ) (v : Vec F (S1 R C) .f32) : Prop :=
  ∀ (a : Fin R) (b : Fin C) (i : (SA D C).Idx), ((i 0).val = off 0 ∧ (i 1).val = off 1 ∧ (i 2).val = off 2 + a.val ∧ (i 3).val = off 3 + b.val) →
    v (ix3 0 a b) = A.view.read (Elt F) fA i

/-- A staged slab, rounded. -/
def IsCast (A : Memref sig .tc .hbm (SA D C) .f32) (fA : Buf (Elt F) (A.view.loc (c : Thread nD τ))) (off : Fin 4 → ℕ) (p : Vec F (S1 R C) .bf16) : Prop :=
  ∀ (a : Fin R) (b : Fin C) (i : (SA D C).Idx), ((i 0).val = off 0 ∧ (i 1).val = off 1 ∧ (i 2).val = off 2 + a.val ∧ (i 3).val = off 3 + b.val) →
    p (ix3 0 a b) = FloatOps.truncf (F := F) (φ := .f32) .bf16 (by decide) (A.view.read (Elt F) fA i)

theorem cast_slab {off : Fin 4 → ℕ} {v : Vec F (S1 R C) .f32} (h : IsSlab A fA off v) (h1 : (S1 R C).ShapeCasts (S0 R C))
    (h2 : (S0 R C).ShapeCasts (S1 R C)) (hb : FTy.bits .bf16 < FTy.bits .f32) :
    IsCast A fA off (shapeCast (S1 R C) (truncf .bf16 (shapeCast (S0 R C) v h1 : FVec F (S0 R C) .f32) hb) h2) := by
  intro a b i hi
  refine (ValueIdx.shapeCast_ab_1ab_apply _ h2 0 a b).trans ?_
  change FloatOps.truncf .bf16 hb (shapeCast (S0 R C) v h1 (ix2 a b)) = _
  exact congrArg (FloatOps.truncf (F := F) (φ := .f32) .bf16 hb) ((ValueIdx.shapeCast_1ab_ab_apply v h1 a b).trans (h a b i hi))

/-- A load of a slot that holds a slab. -/
theorem loadB (s : Fin 2) {off : Fin 4 → ℕ} {offB : Fin 3 → ℕ} {hB : ∀ a, offB a + (S1 R C).size a ≤ (SB R C).size a} (hs : offB = ![s.val, 0, 0]) {hl}
    {k : Vec F (S1 R C) .f32 → Prog (TpuEff nD τ sig (Elt F) Λ (c : Thread nD τ).2) α} {Q : α → sProp 𝕄} :
    Ready A B sm c fA s off
      ⊢ iprop((∀ v, ⌜IsSlab A fA off v⌝ -∗ Ready A B sm c fA s off -∗ wp frame (wpE defs 𝒱 (c : Thread nD τ) none) Set.univ (k v) Q)
        -∗ wp frame (wpE defs 𝒱 (c : Thread nD τ) none) Set.univ
          (Prog.lift (TpuEff.load (p := (c : Thread nD τ).2) B (Rect.unit (s := SB R C) offB (S1 R C).size hB).toLoadRect hl) >>= k) Q) := by
  subst hs
  unfold Ready
  iintro ⟨⟨%f, %hf, H⟩, HA, HS⟩ Hk
  iapply (wp_load_rect 𝒱 (c : Thread nD τ) none Set.univ (m := B) (r := Rect.unit (s := SB R C) ![s.val, 0, 0] (S1 R C).size hB) (S := slotSet B c s)
    (Finset.subset_of_eq (View.set_slice _ _))) $$ H
  iintro H
  iapply Hk $$ [] [H HA HS]
  · ipureintro
    intro a b i hi
    refine Eq.trans ?_ (hf a b i hi)
    change View.read (Elt F) B.view f ((Rect.unit (s := SB R C) ![s.val, 0, 0] (S1 R C).size hB).emb (ix3 0 a b)) = _
    refine congrArg (View.read (Elt F) B.view f) (funext fun x => Fin.ext ?_)
    rw [Rect.emb_apply]
    fin_cases x
    · change s.val + 1 * 0 = s.val; omega
    · change 0 + 1 * a.val = a.val; omega
    · change 0 + 1 * b.val = b.val; omega
  · isplitl [H]
    · iexists f
      isplitr
      · ipureintro; exact hf
      iexact H
    isplitl [HA]; · iexact HA
    iexact HS

variable (A fA) in
/-- The rounded matrix of an expert. -/
def wVal (x : Fin 16) : Vec F (S1 D C) .bf16 := fun y => FloatOps.truncf (F := F) (φ := .f32) .bf16 (by decide) (A.view.read (Elt F) fA (ix4 1 x (y 1) (y 2)))

variable (A W fA) in
/-- The first `n` slabs of place `w` are those of expert `x`. -/
def Has (R : ℕ) (w : Fin 2) (x : Fin 16) (n : ℕ) (g : Buf (Elt F) (W.view.loc (c : Thread nD τ))) : Prop :=
  ∀ (r : Fin D) (b : Fin C), r.val < R * n → W.view.read (Elt F) g (ix3 w r b) = wVal A fA x (ix3 0 r b)

variable (A W fA) in
def Wt (R : ℕ) (w : Fin 2) (x : Fin 16) (n : ℕ) (w' : Fin 2) (x' : Fin 16) (n' : ℕ) : sProp 𝕄 :=
  iprop(∃ g, ⌜Has A W fA R w x n g ∧ Has A W fA R w' x' n' g⌝ ∗ (W.view.loc (c : Thread nD τ)) ↦{fullShare} g)

theorem wt_swap (w : Fin 2) (x : Fin 16) (n : ℕ) (w' : Fin 2) (x' : Fin 16) (n' : ℕ) :
    Wt A W fA R w x n w' x' n' ⊢ Wt A W fA R w' x' n' w x n := by
  unfold Wt
  iintro ⟨%g, %hg, H⟩
  iexists g
  isplitr
  · ipureintro; exact ⟨hg.2, hg.1⟩
  iexact H

theorem wt_zero (w : Fin 2) (x : Fin 16) (n : ℕ) (w' : Fin 2) (x' : Fin 16) (n' : ℕ) (w₁ : Fin 2) (x₁ : Fin 16) :
    Wt A W fA R w x n w' x' n' ⊢ Wt A W fA R w x n w₁ x₁ 0 := by
  unfold Wt
  iintro ⟨%g, %hg, H⟩
  iexists g
  isplitr
  · ipureintro; exact ⟨hg.1, fun r b h => absurd h (by omega)⟩
  iexact H

/-- A load whose value nothing reads. -/
theorem loadW {w : Fin 2} {x : Fin 16} {n : ℕ} {w' : Fin 2} {x' : Fin 16} {n' : ℕ} {r : LoadRect (SB D C)} {hl}
    {k : (r.shape.Idx → Elt F .bf16) → Prog (TpuEff nD τ sig (Elt F) Λ (c : Thread nD τ).2) α} {Q : α → sProp 𝕄} :
    Wt A W fA R w x n w' x' n'
      ⊢ iprop((∀ v, Wt A W fA R w x n w' x' n' -∗ wp frame (wpE defs 𝒱 (c : Thread nD τ) none) Set.univ (k v) Q)
        -∗ wp frame (wpE defs 𝒱 (c : Thread nD τ) none) Set.univ
          (Prog.lift (TpuEff.load (p := (c : Thread nD τ).2) W r hl) >>= k) Q) := by
  unfold Wt
  iintro ⟨%g, %hg, H⟩ Hk
  iapply (wp_load 𝒱 (c : Thread nD τ) none Set.univ (m := W) (r := r) (S := Finset.univ) (Finset.subset_univ _)) $$ H
  iintro H
  iapply Hk $$ %(W.view.readAt (Elt F) r g)
  iexists g
  isplitr
  · ipureintro; exact hg
  iexact H

/-- A load of a place that holds a whole matrix. -/
theorem loadAll {w : Fin 2} {x : Fin 16} {n : ℕ} {w' : Fin 2} {x' : Fin 16} {n' : ℕ} {offW : Fin 3 → ℕ}
    {hW : ∀ a, offW a + (S1 D C).size a ≤ (SB D C).size a} (hs : offW = ![w.val, 0, 0]) (hn : D ≤ R * n) {hl}
    {k : Vec F (S1 D C) .bf16 → Prog (TpuEff nD τ sig (Elt F) Λ (c : Thread nD τ).2) α} {Q : α → sProp 𝕄} :
    Wt A W fA R w x n w' x' n'
      ⊢ iprop((Wt A W fA R w x n w' x' n' -∗ wp frame (wpE defs 𝒱 (c : Thread nD τ) none) Set.univ (k (wVal A fA x)) Q)
        -∗ wp frame (wpE defs 𝒱 (c : Thread nD τ) none) Set.univ
          (Prog.lift (TpuEff.load (p := (c : Thread nD τ).2) W (Rect.unit (s := SB D C) offW (S1 D C).size hW).toLoadRect hl) >>= k) Q) := by
  subst hs
  unfold Wt
  iintro ⟨%g, %hg, H⟩ Hk
  have hv : (W.access (Rect.unit (s := SB D C) ![w.val, 0, 0] (S1 D C).size hW)).read (Elt F) g = wVal A fA x := by
    funext y
    obtain ⟨u, a, b, rfl⟩ : ∃ u a b, y = ix3 u a b := ⟨_, _, _, eq_ix3 y⟩
    obtain rfl : u = 0 := Fin.ext (by omega)
    refine Eq.trans ?_ (hg.1 a b (by omega))
    change View.read (Elt F) W.view g ((Rect.unit (s := SB D C) ![w.val, 0, 0] (S1 D C).size hW).emb (ix3 0 a b)) = _
    refine congrArg (View.read (Elt F) W.view g) (funext fun x => Fin.ext ?_)
    rw [Rect.emb_apply]
    fin_cases x
    · change w.val + 1 * 0 = w.val; omega
    · change 0 + 1 * a.val = a.val; omega
    · change 0 + 1 * b.val = b.val; omega
  iapply (wp_load_rect 𝒱 (c : Thread nD τ) none Set.univ (m := W) (r := Rect.unit (s := SB D C) ![w.val, 0, 0] (S1 D C).size hW) (S := Finset.univ)
    (Finset.subset_univ _)) $$ H
  iintro H
  rw [hv]
  iapply Hk
  iexists g
  isplitr
  · ipureintro; exact hg
  iexact H

/-- A rounded slab stored after those a place holds. -/
theorem storeW {w : Fin 2} {x : Fin 16} (n : ℕ) {w' : Fin 2} {x' : Fin 16} {n' : ℕ} {off : Fin 4 → ℕ} {offW : Fin 3 → ℕ}
    {hW : ∀ a, offW a + (S1 R C).size a ≤ (SB D C).size a} {p : Vec F (S1 R C) .bf16} (hp : IsCast A fA off p) (hww : w ≠ w')
    (hs : offW = ![w.val, R * n, 0]) (ho : off = ![1, x.val, R * n, 0]) {hx} {hm}
    {k : PUnit → Prog (TpuEff nD τ sig (Elt F) Λ (c : Thread nD τ).2) α} {Q : α → sProp 𝕄} :
    Wt A W fA R w x n w' x' n'
      ⊢ iprop((Wt A W fA R w x (n + 1) w' x' n' -∗ wp frame (wpE defs 𝒱 (c : Thread nD τ) none) Set.univ (k ⟨⟩) Q)
        -∗ wp frame (wpE defs 𝒱 (c : Thread nD τ) none) Set.univ
          (Prog.lift (TpuEff.store (p := (c : Thread nD τ).2) W (Rect.unit (s := SB D C) offW (S1 R C).size hW) p Finset.univ hx hm) >>= k) Q) := by
  subst hs
  subst ho
  unfold Wt
  iintro ⟨%g, %hg, H⟩ Hk
  iapply (wp_store 𝒱 (c : Thread nD τ) none Set.univ (m := W) (r := Rect.unit (s := SB D C) ![w.val, R * n, 0] (S1 R C).size hW) (S := Finset.univ)
    (Finset.subset_univ _)) $$ H
  iintro H
  iapply Hk
  iexists _
  isplitr
  rotate_left
  · iexact H
  ipureintro
  have hout : ∀ (u : Fin 2) (r : Fin D) (b : Fin C), (u ≠ w ∨ r.val < R * n) →
      W.view.read (Elt F) ((W.access (Rect.unit (s := SB D C) ![w.val, R * n, 0] (S1 R C).size hW)).write (Elt F) g p Finset.univ) (ix3 u r b)
        = W.view.read (Elt F) g (ix3 u r b) := by
    intro u r b h
    refine View.read_slice_write_of_not_mem _ _ _ _ fun hmem => ?_
    obtain ⟨y, -, hy⟩ := Finset.mem_map.mp hmem
    have h0 := congrArg (fun z => (z 0).val) hy
    have h1 := congrArg (fun z => (z 1).val) hy
    simp only [Rect.emb_apply] at h0 h1
    replace h0 : w.val + 1 * (y 0).val = u.val := h0
    replace h1 : R * n + 1 * (y 1).val = r.val := h1
    have hy0 : (y 0).val < 1 := (y 0).isLt
    rcases h with h | h
    · exact h (Fin.ext (by omega))
    · omega
  refine ⟨fun r b hr => ?_, fun r b hr => (hout w' r b (.inl hww.symm)).trans (hg.2 r b hr)⟩
  by_cases hlt : r.val < R * n
  · exact (hout w r b (.inr hlt)).trans (hg.1 r b hlt)
  have hR : r.val - R * n < R := by
    rw [Nat.mul_add, Nat.mul_one] at hr; omega
  have e : (ix3 w r b : (SB D C).Idx) = (Rect.unit (s := SB D C) ![w.val, R * n, 0] (S1 R C).size hW).emb (ix3 0 ⟨r.val - R * n, hR⟩ b) := by
    refine funext fun z => Fin.ext ?_
    rw [Rect.emb_apply]
    fin_cases z
    · change w.val = w.val + 1 * 0; omega
    · change r.val = R * n + 1 * (r.val - R * n); omega
    · change b.val = 0 + 1 * b.val; omega
  rw [e]
  refine (View.read_slice_write_emb _ _ _ (Finset.mem_univ _)).trans ?_
  refine hp ⟨r.val - R * n, hR⟩ b (ix4 1 x r b) ⟨rfl, rfl, ?_, ?_⟩
  · change r.val = R * n + (r.val - R * n); omega
  · change b.val = 0 + b.val; omega

end

end Cert.Slots
-- ==== Proof.FfnWhole.lean ====
/- The staging slots of a buffer, split off it and put back. -/
module

public import Idealize.ShloMosaic.Lib.Pipeline.FrameBody
public import Idealize.ShloMosaic.Lib.Pipeline.ValueKit
public import Idealize.ShloMosaic.Lib.Ring
public import Idealize.ShloMosaic.Lib.ValueLayout
public import Idealize.ShloMosaic.Lib.Tactic
public import proofs.«01_k».proof.Proof.FfnSlots

@[expose] public section

set_option maxRecDepth 16384

noncomputable section

namespace Cert.Slots

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type} [FloatOps F] {Λ : Labels}

local notation "𝕄" => MT nD τ sig Unit (Elt F) ℕ (Pipeline.UD sig nD τ) ℕ

section
variable {D R C : ℕ} (A : Memref sig .tc .hbm (SA D C) .f32) (B : Memref sig .tc .vmem (SB R C) .f32) (W : Memref sig .tc .vmem (SB D C) .bf16)
variable (sm : Fin 2 → DmaSem sig) (c : Dev nD) (fA : Buf (Elt F) (A.view.loc (c : Thread nD τ)))

theorem slot_mem (s : Fin 2) (i : (SB R C).Idx) : i ∈ (slotRect R C s).set ↔ (i 0).val = s.val := by
  unfold slotRect
  rw [Rect.mem_set_unit]
  constructor
  · intro h
    have h0 := h 0
    change s.val ≤ (i 0).val ∧ (i 0).val < s.val + 1 at h0
    omega
  · intro h a
    fin_cases a
    · change s.val ≤ (i 0).val ∧ (i 0).val < s.val + 1; omega
    · change 0 ≤ (i 1).val ∧ (i 1).val < 0 + R
      have := (i 1).isLt
      change (i 1).val < R at this
      omega
    · change 0 ≤ (i 2).val ∧ (i 2).val < 0 + C
      have := (i 2).isLt
      change (i 2).val < C at this
      omega

theorem slots_disj : Disjoint (slotSet (τ := τ) B c 0) (slotSet (τ := τ) B c 1) := by
  refine (Finset.disjoint_map _).mpr (Finset.disjoint_left.mpr fun i h0 h1 => ?_)
  have a := (slot_mem 0 i).mp h0
  have b := (slot_mem 1 i).mp h1
  rw [a] at b
  exact absurd b (by decide)

theorem slots_union (hB : B.view.set = Finset.univ) : slotSet (τ := τ) B c 0 ∪ slotSet (τ := τ) B c 1 = Finset.univ := by
  refine Eq.trans (Finset.map_union _ _).symm (Eq.trans ?_ hB)
  refine congrArg (Finset.map _) (Finset.eq_univ_iff_forall.mpr fun i => Finset.mem_union.mpr ?_)
  have h := (i 0).isLt
  change (i 0).val < 2 at h
  rcases (by omega : (i 0).val = 0 ∨ (i 0).val = 1) with h | h
  · exact Or.inl ((slot_mem 0 i).mpr h)
  · exact Or.inr ((slot_mem 1 i).mpr h)

theorem idle_intro (hB : B.view.set = Finset.univ) :
    iprop((∃ f, (B.view.loc (c : Thread nD τ)) ↦{fullShare} f) ∗ ((A.view.loc (c : Thread nD τ)) ↦{fullShare} fA)
        ∗ semVal ((c : Thread nD τ), SemLoc.dma (sm 0)) 0 ∗ semVal ((c : Thread nD τ), SemLoc.dma (sm 1)) 0)
      ⊢ (iprop(Idle A B sm c fA 0 ∗ Idle A B sm c fA 1) : sProp 𝕄) := by
  unfold Idle
  iintro ⟨⟨%f, HB⟩, HA, S0, S1⟩
  rw [← slots_union B c hB]
  ihave HB := (pointsTo_union (slots_disj B c)).1 $$ HB
  ihave HA := (sh_split A c 0 fA).1 $$ HA
  icases HB with ⟨HB0, HB1⟩
  icases HA with ⟨HA0, HA1⟩
  isplitl [HB0 HA0 S0]
  · isplitl [HB0]; · iexists f; iexact HB0
    isplitl [HA0]; · iexact HA0
    iexact S0
  · isplitl [HB1]; · iexists f; iexact HB1
    isplitl [HA1]; · iexact HA1
    iexact S1

theorem idle_elim (hB : B.view.set = Finset.univ) :
    (iprop(Idle A B sm c fA 0 ∗ Idle A B sm c fA 1) : sProp 𝕄)
      ⊢ iprop((∃ f, (B.view.loc (c : Thread nD τ)) ↦{fullShare} f) ∗ ((A.view.loc (c : Thread nD τ)) ↦{fullShare} fA)
        ∗ semVal ((c : Thread nD τ), SemLoc.dma (sm 0)) 0 ∗ semVal ((c : Thread nD τ), SemLoc.dma (sm 1)) 0) := by
  unfold Idle
  iintro ⟨⟨⟨%f, HB0⟩, HA0, S0⟩, ⟨%g, HB1⟩, HA1, S1⟩
  isplitl [HB0 HB1]
  · iexists ((slotSet (τ := τ) B c 1).piecewise g f)
    rw [← slots_union B c hB]
    iapply (pointsTo_join (slots_disj B c)) $$ [HB0 HB1]
    isplitl [HB0]; · iexact HB0
    iexact HB1
  isplitl [HA0 HA1]
  · iapply (sh_split A c 0 fA).2 $$ [HA0 HA1]
    isplitl [HA0]; · iexact HA0
    iexact HA1
  isplitl [S0]; · iexact S0
  iexact S1

variable {A W fA c} in
theorem wt_intro (R : ℕ) (w w' : Fin 2) (x x' : Fin 16) :
    iprop(∃ g, (W.view.loc (c : Thread nD τ)) ↦{fullShare} g) ⊢ (Wt A W fA R w x 0 w' x' 0 : sProp 𝕄) := by
  unfold Wt
  iintro ⟨%g, H⟩
  iexists g
  isplitr
  · ipureintro
    exact ⟨fun r b h => absurd h (by omega), fun r b h => absurd h (by omega)⟩
  iexact H

variable {A W fA c} in
theorem wt_elim {R : ℕ} {w w' : Fin 2} {x x' : Fin 16} {n n' : ℕ} :
    (Wt A W fA R w x n w' x' n' : sProp 𝕄) ⊢ iprop(∃ g, (W.view.loc (c : Thread nD τ)) ↦{fullShare} g) := by
  unfold Wt
  iintro ⟨%g, -, H⟩
  iexists g
  iexact H
end

end Cert.Slots

end
-- ==== Proof.FfnIdealCell.lean ====
/- The cells of the expert call's staging slots, and the state its body keeps between points. -/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.FfnSlots
public import Idealize.ShloMosaic.Lib.VecWindow

@[expose] public section

set_option maxRecDepth 16384

noncomputable section

namespace Cert.Kernel4Ideal.Hand

open Cert.Kernel4Ideal Cert.Kernel4Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem cell_in (s : Fin 2) (j : Fin 3) : ∀ a, (![s.val, j.val] : Fin 2 → ℕ) a + S1x1.size a ≤ S2x3.size a := by
  revert s j; decide
/-- The cell of a slot's copies into staging buffer `j`. -/
def cell (arg13 : DmaSems sig S2x3) (j : Fin 3) (s : Fin 2) : DmaSem sig :=
  ((arg13.slice (Rect.unit (s := S2x3) ![s.val, j.val] S1x1.size (cell_in s j))).squeeze S_ squeezes_S1x1_S_).sem

section
variable (c : Dev nD) (arg3 : Memref sig .tc .hbm S2x16x1024x2048 .f32) (arg4 : Memref sig .tc .hbm S2x16x1024x2048 .f32)
  (arg5 : Memref sig .tc .hbm S2x16x2048x1024 .f32)
  (arg7 : Memref sig .tc .vmem S2x1024x2048 .bf16) (arg8 : Memref sig .tc .vmem S2x1024x2048 .bf16)
  (arg9 : Memref sig .tc .vmem S2x2048x1024 .bf16) (arg10 : Memref sig .tc .vmem S2x64x2048 .f32)
  (arg11 : Memref sig .tc .vmem S2x64x2048 .f32) (arg12 : Memref sig .tc .vmem S2x128x1024 .f32)
  (arg13 : DmaSems sig S2x3)
  (f1 : Buf (Elt F) (arg3.view.loc (c : Thread nD τ))) (f2 : Buf (Elt F) (arg4.view.loc (c : Thread nD τ))) (f3 : Buf (Elt F) (arg5.view.loc (c : Thread nD τ)))

/-- Slot `s0` of each array in flight, slot `s1` free, `n` slabs of expert `x` in place `w` and the whole of expert `x'` in place `w'`. -/
def St (s0 s1 : Fin 2) (o o3 : Fin 4 → ℕ) (w : Fin 2) (x : Fin 16) (n : ℕ) (w' : Fin 2) (x' : Fin 16) : sProp 𝕄 :=
  iprop((Busy (R := 64) arg3 arg10 (cell arg13 0) c f1 s0 o ∗ Idle (R := 64) arg3 arg10 (cell arg13 0) c f1 s1)
    ∗ (Busy (R := 64) arg4 arg11 (cell arg13 1) c f2 s0 o ∗ Idle (R := 64) arg4 arg11 (cell arg13 1) c f2 s1)
    ∗ (Busy (R := 128) arg5 arg12 (cell arg13 2) c f3 s0 o3 ∗ Idle (R := 128) arg5 arg12 (cell arg13 2) c f3 s1)
    ∗ Wt (c := c) arg3 arg7 f1 64 w x n w' x' 16 ∗ Wt (c := c) arg4 arg8 f2 64 w x n w' x' 16 ∗ Wt (c := c) arg5 arg9 f3 128 w x n w' x' 16 ∗ Ow c)
end

/-- The cell a copy names, at the offset it computes. -/
theorem cell_at {arg13 : DmaSems sig S2x3} {off : Fin 2 → ℕ} (hin : ∀ a, off a + S1x1.size a ≤ S2x3.size a) (j : Fin 3) (s : Fin 2) (h : off = ![s.val, j.val]) :
    ((arg13.slice (Rect.unit (s := S2x3) off S1x1.size hin)).squeeze S_ squeezes_S1x1_S_).sem = cell arg13 j s := by
  subst h; rfl

section
open Idealize.ShloMosaic
variable {α : Type}

/-- A load of a whole window. -/
theorem loadX {s : Shape} {e : EltTy} {M : Memref sig .tc .vmem s e} {c : Dev nD} {q : PosShare TreeShare} {x : s.Idx → Elt F e} {off : Fin s.rank → ℕ}
    {inb : ∀ a, off a + s.size a ≤ s.size a} {hl}
    {k : (s.Idx → Elt F e) → Prog (TpuEff nD τ sig (Elt F) Λ₀ (c : Thread nD τ).2) α} {Q : α → sProp 𝕄} :
    (owns (c : Thread nD τ) M q x : sProp 𝕄)
      ⊢ iprop((owns (c : Thread nD τ) M q x -∗ wp frame (wpE (defs₀ (F := F)) Variants.none (c : Thread nD τ) none) Set.univ (k x) Q)
        -∗ wp frame (wpE (defs₀ (F := F)) Variants.none (c : Thread nD τ) none) Set.univ
          (Prog.lift (TpuEff.load (p := (c : Thread nD τ).2) M (Rect.unit (s := s) off s.size inb).toLoadRect hl) >>= k) Q) := by
  unfold owns
  iintro ⟨%f, %hf, H⟩ Hk
  have hv : M.view.readAt (Elt F) (Rect.unit (s := s) off s.size inb).toLoadRect f = x := (View.readAt_full M.view f inb).trans hf
  iapply (wp_load Variants.none (c : Thread nD τ) none Set.univ (m := M) (r := (Rect.unit (s := s) off s.size inb).toLoadRect) (S := M.view.set) (View.setOn_subset_set _ _)) $$ H
  iintro H
  rw [hv]
  iapply Hk
  iexists f
  isplitr
  · ipureintro; exact hf
  iexact H

/-- A load of a whole window that holds anything. -/
theorem loadY {s : Shape} {e : EltTy} {M : Memref sig .tc .vmem s e} {c : Dev nD} {off : Fin s.rank → ℕ}
    {inb : ∀ a, off a + s.size a ≤ s.size a} {hl}
    {k : (s.Idx → Elt F e) → Prog (TpuEff nD τ sig (Elt F) Λ₀ (c : Thread nD τ).2) α} {Q : α → sProp 𝕄} :
    (iprop(∃ x, owns (c : Thread nD τ) M fullShare x) : sProp 𝕄)
      ⊢ iprop((∀ v, (∃ x, owns (c : Thread nD τ) M fullShare x) -∗ wp frame (wpE (defs₀ (F := F)) Variants.none (c : Thread nD τ) none) Set.univ (k v) Q)
        -∗ wp frame (wpE (defs₀ (F := F)) Variants.none (c : Thread nD τ) none) Set.univ
          (Prog.lift (TpuEff.load (p := (c : Thread nD τ).2) M (Rect.unit (s := s) off s.size inb).toLoadRect hl) >>= k) Q) := by
  iintro ⟨%x, H⟩ Hk
  iapply loadX $$ H
  iintro H
  iapply Hk $$ %x
  iexists x
  iexact H

/-- A store over a whole window. -/
theorem storeX {s : Shape} {e : EltTy} {M : Memref sig .tc .vmem s e} {c : Dev nD} {off : Fin s.rank → ℕ}
    {inb : ∀ a, off a + s.size a ≤ s.size a} {p : s.Idx → Elt F e} {hx} {hm}
    {k : PUnit → Prog (TpuEff nD τ sig (Elt F) Λ₀ (c : Thread nD τ).2) α} {Q : α → sProp 𝕄} :
    (iprop(∃ x, owns (c : Thread nD τ) M fullShare x) : sProp 𝕄)
      ⊢ iprop((owns (c : Thread nD τ) M fullShare p -∗ wp frame (wpE (defs₀ (F := F)) Variants.none (c : Thread nD τ) none) Set.univ (k ⟨⟩) Q)
        -∗ wp frame (wpE (defs₀ (F := F)) Variants.none (c : Thread nD τ) none) Set.univ
          (Prog.lift (TpuEff.store (p := (c : Thread nD τ).2) M (Rect.unit (s := s) off s.size inb) p Finset.univ hx hm) >>= k) Q) := by
  unfold owns
  iintro ⟨%x, %f, %hf, H⟩ Hk
  iapply (wp_store Variants.none (c : Thread nD τ) none Set.univ (m := M) (r := Rect.unit (s := s) off s.size inb) (S := M.view.set) (View.setOn_slice_subset_set _ _ _)) $$ H
  iintro H
  iapply Hk
  iexists _
  isplitr
  rotate_left
  · iexact H
  · ipureintro
    exact View.read_writes_full M.view f inb p []
end

end Cert.Kernel4Ideal.Hand

end
-- ==== Proof.FfnIdealPro.lean ====
/- The expert call's first point: every slab of the first expert's three matrices brought in and rounded. -/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.FfnIdealCell

@[expose] public section

set_option maxRecDepth 16384

noncomputable section

namespace Cert.Kernel4Ideal.Hand

open Cert.Kernel4Ideal Cert.Kernel4Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The weights, their staging slots and their cells -/

attribute [local irreducible] wp Prog.bind Prog.lift Idle Ready Busy Wt Ow IsSlab IsCast Slab

/-- A part's continuation, set apart. -/
def Aside {α : Type} (Q : α → sProp 𝕄) : α → sProp 𝕄 := Q

theorem wp_part {α β : Type} {c : Dev nD} (e : Prog (TpuEff nD τ sig (Elt F) Λ₀ (c : Thread nD τ).2) α)
    (k : α → Prog (TpuEff nD τ sig (Elt F) Λ₀ (c : Thread nD τ).2) β) (Q : β → sProp 𝕄) :
    wp frame (wpE (defs₀ (F := F)) Variants.none (c : Thread nD τ) none) Set.univ (e >>= k) Q
      = wp frame (wpE (defs₀ (F := F)) Variants.none (c : Thread nD τ) none) Set.univ e
        (Aside fun a => wp frame (wpE (defs₀ (F := F)) Variants.none (c : Thread nD τ) none) Set.univ (k a) Q) := wp_bind _ _ _ _ _ _

section
variable (c : Dev nD) (arg2 : Memref sig .tc .vmem S2x256x1024 .bf16) (harg2 : arg2.IsWhole)
  (arg3 : Memref sig .tc .hbm S2x16x1024x2048 .f32) (harg3 : arg3.IsWhole) (arg4 : Memref sig .tc .hbm S2x16x1024x2048 .f32) (harg4 : arg4.IsWhole)
  (arg5 : Memref sig .tc .hbm S2x16x2048x1024 .f32) (harg5 : arg5.IsWhole) (arg6 : Memref sig .tc .vmem S2x256x1024 .bf16) (harg6 : arg6.IsWhole)
  (arg7 : Memref sig .tc .vmem S2x1024x2048 .bf16) (harg7 : arg7.IsWhole) (arg8 : Memref sig .tc .vmem S2x1024x2048 .bf16) (harg8 : arg8.IsWhole)
  (arg9 : Memref sig .tc .vmem S2x2048x1024 .bf16) (harg9 : arg9.IsWhole) (arg10 : Memref sig .tc .vmem S2x64x2048 .f32) (harg10 : arg10.IsWhole)
  (arg11 : Memref sig .tc .vmem S2x64x2048 .f32) (harg11 : arg11.IsWhole) (arg12 : Memref sig .tc .vmem S2x128x1024 .f32) (harg12 : arg12.IsWhole)
  (arg13 : DmaSems sig S2x3)
  (f1 : Buf (Elt F) (arg3.view.loc (c : Thread nD τ))) (f2 : Buf (Elt F) (arg4.view.loc (c : Thread nD τ))) (f3 : Buf (Elt F) (arg5.view.loc (c : Thread nD τ)))

set_option maxHeartbeats 0 in
/-- The first point's slabs. -/
theorem pro (i : grid0.Coords) (h1 : k0_cond1 i = 1#1) (x' : Fin 16) (Q : PUnit → sProp 𝕄) :
    iprop((Idle (R := 64) arg3 arg10 (cell arg13 0) c f1 0 ∗ Idle (R := 64) arg3 arg10 (cell arg13 0) c f1 1)
        ∗ (Idle (R := 64) arg4 arg11 (cell arg13 1) c f2 0 ∗ Idle (R := 64) arg4 arg11 (cell arg13 1) c f2 1)
        ∗ (Idle (R := 128) arg5 arg12 (cell arg13 2) c f3 0 ∗ Idle (R := 128) arg5 arg12 (cell arg13 2) c f3 1)
        ∗ Wt (c := c) arg3 arg7 f1 64 0 0 0 1 x' 0 ∗ Wt (c := c) arg4 arg8 f2 64 0 0 0 1 x' 0 ∗ Wt (c := c) arg5 arg9 f3 128 0 0 0 1 x' 0 ∗ Ow c)
      ⊢ iprop(((Busy (R := 64) arg3 arg10 (cell arg13 0) c f1 0 k0_off1 ∗ Idle (R := 64) arg3 arg10 (cell arg13 0) c f1 1)
        ∗ (Busy (R := 64) arg4 arg11 (cell arg13 1) c f2 0 k0_off1 ∗ Idle (R := 64) arg4 arg11 (cell arg13 1) c f2 1)
        ∗ (Idle (R := 128) arg5 arg12 (cell arg13 2) c f3 0 ∗ Idle (R := 128) arg5 arg12 (cell arg13 2) c f3 1)
        ∗ Wt (c := c) arg3 arg7 f1 64 0 0 16 1 x' 0 ∗ Wt (c := c) arg4 arg8 f2 64 0 0 16 1 x' 0 ∗ Wt (c := c) arg5 arg9 f3 128 0 0 16 1 x' 0 ∗ Ow c -∗ Q ⟨⟩)
        -∗ wp frame (wpE (defs₀ (F := F)) Variants.none (c : Thread nD τ) none) Set.univ
          (k0_part39 (F := F) i arg2 harg2 arg3 harg3 arg4 harg4 arg5 harg5 arg6 harg6 arg7 harg7 arg8 harg8 arg9 harg9 arg10 harg10
            arg11 harg11 arg12 harg12 arg13 h1) Q) := by
  iintro ⟨⟨B10, B11⟩, ⟨B20, B21⟩, ⟨B30, B31⟩, W1, W2, W3, HO⟩ Hk
  rw [k0_part39_eq_skeleton]
  unfold k0_part39_skel
  dsimp only
  repeat (first
    | (iapply (start Variants.none 0 rfl rfl (by decide)) $$ B10; iintro B10)
    | (iapply (restart Variants.none 0 rfl rfl (by decide)) $$ B10; iintro B10)
    | (iapply (wait Variants.none 0 rfl) $$ B10 HO; iintro B10 HO)
    | (iapply (loadB Variants.none 0 rfl) $$ B10; iintro %v %hv B10)
    | (iapply (start Variants.none 1 rfl rfl (by decide)) $$ B11; iintro B11)
    | (iapply (restart Variants.none 1 rfl rfl (by decide)) $$ B11; iintro B11)
    | (iapply (wait Variants.none 1 rfl) $$ B11 HO; iintro B11 HO)
    | (iapply (loadB Variants.none 1 rfl) $$ B11; iintro %v %hv B11)
    | (iapply (loadW Variants.none) $$ W1; iintro %u W1; try clear u)
    | (iapply (storeW Variants.none _ (cast_slab hv _ _ _) (by decide) rfl rfl) $$ W1; iintro W1; clear hv; try clear v)
    | (iapply (start Variants.none 0 rfl rfl (by decide)) $$ B20; iintro B20)
    | (iapply (restart Variants.none 0 rfl rfl (by decide)) $$ B20; iintro B20)
    | (iapply (wait Variants.none 0 rfl) $$ B20 HO; iintro B20 HO)
    | (iapply (loadB Variants.none 0 rfl) $$ B20; iintro %v %hv B20)
    | (iapply (start Variants.none 1 rfl rfl (by decide)) $$ B21; iintro B21)
    | (iapply (restart Variants.none 1 rfl rfl (by decide)) $$ B21; iintro B21)
    | (iapply (wait Variants.none 1 rfl) $$ B21 HO; iintro B21 HO)
    | (iapply (loadB Variants.none 1 rfl) $$ B21; iintro %v %hv B21)
    | (iapply (loadW Variants.none) $$ W2; iintro %u W2; try clear u)
    | (iapply (storeW Variants.none _ (cast_slab hv _ _ _) (by decide) rfl rfl) $$ W2; iintro W2; clear hv; try clear v)
    | (iapply (start Variants.none 0 rfl rfl (by decide)) $$ B30; iintro B30)
    | (iapply (restart Variants.none 0 rfl rfl (by decide)) $$ B30; iintro B30)
    | (iapply (wait Variants.none 0 rfl) $$ B30 HO; iintro B30 HO)
    | (iapply (loadB Variants.none 0 rfl) $$ B30; iintro %v %hv B30)
    | (iapply (start Variants.none 1 rfl rfl (by decide)) $$ B31; iintro B31)
    | (iapply (restart Variants.none 1 rfl rfl (by decide)) $$ B31; iintro B31)
    | (iapply (wait Variants.none 1 rfl) $$ B31 HO; iintro B31 HO)
    | (iapply (loadB Variants.none 1 rfl) $$ B31; iintro %v %hv B31)
    | (iapply (loadW Variants.none) $$ W3; iintro %u W3; try clear u)
    | (iapply (storeW Variants.none _ (cast_slab hv _ _ _) (by decide) rfl rfl) $$ W3; iintro W3; clear hv; try clear v)
    | (rw [wp_pure]; imodintro; subst hK; unfold Aside; try dsimp only)
    | (rw [wp_part]; generalize hK : Aside _ = K; first
        | (rw [k0_part1_eq_skeleton]; unfold k0_part1_skel; dsimp only)
        | (rw [k0_part2_eq_skeleton]; unfold k0_part2_skel; dsimp only)
        | (rw [k0_part3_eq_skeleton]; unfold k0_part3_skel; dsimp only)
        | (rw [k0_part4_eq_skeleton]; unfold k0_part4_skel; dsimp only)
        | (rw [k0_part5_eq_skeleton]; unfold k0_part5_skel; dsimp only)
        | (rw [k0_part6_eq_skeleton]; unfold k0_part6_skel; dsimp only)
        | (rw [k0_part7_eq_skeleton]; unfold k0_part7_skel; dsimp only)
        | (rw [k0_part8_eq_skeleton]; unfold k0_part8_skel; dsimp only)
        | (rw [k0_part9_eq_skeleton]; unfold k0_part9_skel; dsimp only)
        | (rw [k0_part10_eq_skeleton]; unfold k0_part10_skel; dsimp only)
        | (rw [k0_part11_eq_skeleton]; unfold k0_part11_skel; dsimp only)
        | (rw [k0_part12_eq_skeleton]; unfold k0_part12_skel; dsimp only)
        | (rw [k0_part13_eq_skeleton]; unfold k0_part13_skel; dsimp only)
        | (rw [k0_part14_eq_skeleton]; unfold k0_part14_skel; dsimp only)
        | (rw [k0_part15_eq_skeleton]; unfold k0_part15_skel; dsimp only)
        | (rw [k0_part16_eq_skeleton]; unfold k0_part16_skel; dsimp only)
        | (rw [k0_part17_eq_skeleton]; unfold k0_part17_skel; dsimp only)
        | (rw [k0_part18_eq_skeleton]; unfold k0_part18_skel; dsimp only)
        | (rw [k0_part19_eq_skeleton]; unfold k0_part19_skel; dsimp only)
        | (rw [k0_part20_eq_skeleton]; unfold k0_part20_skel; dsimp only)
        | (rw [k0_part21_eq_skeleton]; unfold k0_part21_skel; dsimp only)
        | (rw [k0_part22_eq_skeleton]; unfold k0_part22_skel; dsimp only)
        | (rw [k0_part23_eq_skeleton]; unfold k0_part23_skel; dsimp only)
        | (rw [k0_part24_eq_skeleton]; unfold k0_part24_skel; dsimp only)
        | (rw [k0_part25_eq_skeleton]; unfold k0_part25_skel; dsimp only)
        | (rw [k0_part26_eq_skeleton]; unfold k0_part26_skel; dsimp only)
        | (rw [k0_part27_eq_skeleton]; unfold k0_part27_skel; dsimp only)
        | (rw [k0_part28_eq_skeleton]; unfold k0_part28_skel; dsimp only)
        | (rw [k0_part29_eq_skeleton]; unfold k0_part29_skel; dsimp only)
        | (rw [k0_part30_eq_skeleton]; unfold k0_part30_skel; dsimp only)
        | (rw [k0_part31_eq_skeleton]; unfold k0_part31_skel; dsimp only)
        | (rw [k0_part32_eq_skeleton]; unfold k0_part32_skel; dsimp only)
        | (rw [k0_part33_eq_skeleton]; unfold k0_part33_skel; dsimp only)
        | (rw [k0_part34_eq_skeleton]; unfold k0_part34_skel; dsimp only)
        | (rw [k0_part35_eq_skeleton]; unfold k0_part35_skel; dsimp only)
        | (rw [k0_part36_eq_skeleton]; unfold k0_part36_skel; dsimp only)
        | (rw [k0_part37_eq_skeleton]; unfold k0_part37_skel; dsimp only)
        | (rw [k0_part38_eq_skeleton]; unfold k0_part38_skel; dsimp only)))
  rw [wp_pure]; imodintro
  iapply Hk
  isplitl [B10 B11]
  · isplitl [B10]
    · iexact B10
    · iapply (ready_idle _ _ _ _ _ _ _) $$ B11
  isplitl [B20 B21]
  · isplitl [B20]
    · iexact B20
    · iapply (ready_idle _ _ _ _ _ _ _) $$ B21
  isplitl [B30 B31]
  · isplitl [B30]
    · iapply (ready_idle _ _ _ _ _ _ _) $$ B30
    · iapply (ready_idle _ _ _ _ _ _ _) $$ B31
  isplitl [W1]; · iexact W1
  isplitl [W2]; · iexact W2
  isplitl [W3]; · iexact W3
  iexact HO

end

end Cert.Kernel4Ideal.Hand
-- ==== Proof.FfnIdealBody.lean ====
/- One point of the expert call: its copies, its rounding, its two products. -/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.FfnIdealCell

@[expose] public section

set_option maxRecDepth 16384

noncomputable section

namespace Cert.Kernel4Ideal.Hand

open Cert.Kernel4Ideal Cert.Kernel4Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

attribute [local irreducible] wp Prog.bind Prog.lift Idle Ready Busy Wt Ow IsSlab IsCast Slab owns

/-- The offsets a point computes. -/
structure At (i : grid0.Coords) (s0 s1 w w' : Fin 2) (n : ℕ) : Prop where
  h3 : k0_off3 i = ![s0.val, (0 : Fin 3).val]
  h6 : k0_off6 i = ![s0.val, (1 : Fin 3).val]
  h7 : k0_off7 i = ![s0.val, (2 : Fin 3).val]
  h10 : k0_off10 i = ![s1.val, (0 : Fin 3).val]
  h13 : k0_off13 i = ![s1.val, (1 : Fin 3).val]
  h14 : k0_off14 i = ![s1.val, (2 : Fin 3).val]
  h11 : k0_off11 i = ![s1.val, 0, 0]
  h15 : k0_off15 i = ![s1.val, 0, 0]
  h17 : k0_off17 i = ![s0.val, 0, 0]
  h19 : k0_off19 i = ![s0.val, 0, 0]
  h18 : k0_off18 i = ![w.val, 64 * n, 0]
  h20 : k0_off20 i = ![w.val, 128 * n, 0]
  h21 : k0_off21 i = ![w'.val, 0, 0]
  h22 : k0_off22 i = ![w'.val, 0, 0]

section
variable (c : Dev nD) (arg2 : Memref sig .tc .vmem S2x256x1024 .bf16) (harg2 : arg2.IsWhole)
  (arg3 : Memref sig .tc .hbm S2x16x1024x2048 .f32) (harg3 : arg3.IsWhole) (arg4 : Memref sig .tc .hbm S2x16x1024x2048 .f32) (harg4 : arg4.IsWhole)
  (arg5 : Memref sig .tc .hbm S2x16x2048x1024 .f32) (harg5 : arg5.IsWhole) (arg6 : Memref sig .tc .vmem S2x256x1024 .bf16) (harg6 : arg6.IsWhole)
  (arg7 : Memref sig .tc .vmem S2x1024x2048 .bf16) (harg7 : arg7.IsWhole) (arg8 : Memref sig .tc .vmem S2x1024x2048 .bf16) (harg8 : arg8.IsWhole)
  (arg9 : Memref sig .tc .vmem S2x2048x1024 .bf16) (harg9 : arg9.IsWhole) (arg10 : Memref sig .tc .vmem S2x64x2048 .f32) (harg10 : arg10.IsWhole)
  (arg11 : Memref sig .tc .vmem S2x64x2048 .f32) (harg11 : arg11.IsWhole) (arg12 : Memref sig .tc .vmem S2x128x1024 .f32) (harg12 : arg12.IsWhole)
  (arg13 : DmaSems sig S2x3)
  (f1 : Buf (Elt F) (arg3.view.loc (c : Thread nD τ))) (f2 : Buf (Elt F) (arg4.view.loc (c : Thread nD τ))) (f3 : Buf (Elt F) (arg5.view.loc (c : Thread nD τ)))

/-- What a point does before its own work: at the first, every slab of the first expert. -/
abbrev firstProg (i : grid0.Coords) {α : Type} (k : Prog (TpuEff nD τ sig (Elt F) Λ₀ .tc) α) : Prog (TpuEff nD τ sig (Elt F) Λ₀ .tc) α :=
  if k0_h1 : k0_cond1 i = 1#1 then do
    k0_part39 i arg2 harg2 arg3 harg3 arg4 harg4 arg5 harg5 arg6 harg6 arg7 harg7 arg8 harg8 arg9 harg9 arg10 harg10 arg11 harg11 arg12 harg12 arg13 k0_h1
    let v1177 : Memref sig .tc .hbm S1x1x128x1024 .f32 := arg5.slice (Rect.unit (s := S2x16x2048x1024) k0_off2 S1x1x128x1024.size (k0_off2_inb i k0_h1)) (fun _ => rfl)
    let v1178 : Memref sig .tc .hbm S128x1024 .f32 := v1177.squeeze S128x1024 squeezes_S1x1x128x1024_S128x1024
    let v1173 : DmaSems sig S1x1 := arg13.slice (Rect.unit (s := S2x3) ![0, 2] S1x1.size inb_S2x3_S1x1_0_2)
    let v1174 : DmaSems sig S_ := v1173.squeeze S_ squeezes_S1x1_S_
    let v1175 : Memref sig .tc .vmem S1x128x1024 .f32 := arg12.slice (Rect.unit (s := S2x128x1024) ![0, 0, 0] S1x128x1024.size inb_S2x128x1024_S1x128x1024_0_0_0) (fun _ => rfl)
    let v1176 : Memref sig .tc .vmem S128x1024 .f32 := v1175.squeeze S128x1024 squeezes_S1x128x1024_S128x1024
    Prog.lift (.enqueueDma v1178 (.here v1176) (.dma v1174.sem) ((View.wordExact_bits rfl).reshape _ _) ((View.wordExact_bits rfl).reshape _ _) ⟨Or.inl rfl, trivial⟩)
    k
  else k

/-- What a point does after its own work: at the last, the copies in flight waited for. -/
abbrev lastProg (i : grid0.Coords) : Prog (TpuEff nD τ sig (Elt F) Λ₀ .tc) PUnit :=
  if k0_h2 : k0_cond2 i = 1#1 then do
    let v157 : DmaSems sig S1x1 := arg13.slice (Rect.unit (s := S2x3) (k0_off23 i) S1x1.size (k0_off23_inb i k0_h2))
    let v158 : DmaSems sig S_ := v157.squeeze S_ squeezes_S1x1_S_
    let v159 : Memref sig .tc .vmem S1x64x2048 .f32 := arg10.slice (Rect.unit (s := S2x64x2048) (k0_off24 i) S1x64x2048.size (k0_off24_inb i k0_h2)) (fun _ => rfl)
    let v160 : Memref sig .tc .vmem S64x2048 .f32 := v159.squeeze S64x2048 squeezes_S1x64x2048_S64x2048
    let v161 : Memref sig .tc .hbm S1x1x64x2048 .f32 := arg3.slice (Rect.unit (s := S2x16x1024x2048) (k0_off25 i) S1x1x64x2048.size (k0_off25_inb i k0_h2)) (fun _ => rfl)
    let v162 : Memref sig .tc .hbm S64x2048 .f32 := v161.squeeze S64x2048 squeezes_S1x1x64x2048_S64x2048
    Prog.lift (.waitDma2 v158.sem v162 v160 ((View.wordExact_bits rfl).reshape _ _) ((View.wordExact_bits rfl).reshape _ _))
    let v163 : DmaSems sig S1x1 := arg13.slice (Rect.unit (s := S2x3) (k0_off26 i) S1x1.size (k0_off26_inb i k0_h2))
    let v164 : DmaSems sig S_ := v163.squeeze S_ squeezes_S1x1_S_
    let v165 : Memref sig .tc .vmem S1x64x2048 .f32 := arg11.slice (Rect.unit (s := S2x64x2048) (k0_off24 i) S1x64x2048.size (k0_off24_inb i k0_h2)) (fun _ => rfl)
    let v166 : Memref sig .tc .vmem S64x2048 .f32 := v165.squeeze S64x2048 squeezes_S1x64x2048_S64x2048
    let v167 : Memref sig .tc .hbm S1x1x64x2048 .f32 := arg4.slice (Rect.unit (s := S2x16x1024x2048) (k0_off25 i) S1x1x64x2048.size (k0_off25_inb i k0_h2)) (fun _ => rfl)
    let v168 : Memref sig .tc .hbm S64x2048 .f32 := v167.squeeze S64x2048 squeezes_S1x1x64x2048_S64x2048
    Prog.lift (.waitDma2 v164.sem v168 v166 ((View.wordExact_bits rfl).reshape _ _) ((View.wordExact_bits rfl).reshape _ _))
    let v169 : DmaSems sig S1x1 := arg13.slice (Rect.unit (s := S2x3) (k0_off27 i) S1x1.size (k0_off27_inb i k0_h2))
    let v170 : DmaSems sig S_ := v169.squeeze S_ squeezes_S1x1_S_
    let v171 : Memref sig .tc .vmem S1x128x1024 .f32 := arg12.slice (Rect.unit (s := S2x128x1024) (k0_off28 i) S1x128x1024.size (k0_off28_inb i k0_h2)) (fun _ => rfl)
    let v172 : Memref sig .tc .vmem S128x1024 .f32 := v171.squeeze S128x1024 squeezes_S1x128x1024_S128x1024
    let v173 : Memref sig .tc .hbm S1x1x128x1024 .f32 := arg5.slice (Rect.unit (s := S2x16x2048x1024) (k0_off29 i) S1x1x128x1024.size (k0_off29_inb i k0_h2)) (fun _ => rfl)
    let v174 : Memref sig .tc .hbm S128x1024 .f32 := v173.squeeze S128x1024 squeezes_S1x1x128x1024_S128x1024
    Prog.lift (.waitDma2 v170.sem v174 v172 ((View.wordExact_bits rfl).reshape _ _) ((View.wordExact_bits rfl).reshape _ _))
    pure ⟨⟩
  else do
    pure ⟨⟩

/-- The result of a point. -/
abbrev outAt (x' : Fin 16) (xe : Vec F S2x256x1024 .bf16) : Vec F S2x256x1024 .bf16 :=
  k0_pay1 (k0_pay59 xe (wVal arg3 f1 x') (wVal arg4 f2 x')) (wVal arg5 f3 x')

set_option maxHeartbeats 4000000 in
/-- One point, whatever precedes and follows its own work. -/
theorem point (i : grid0.Coords) {s0 s1 w w' : Fin 2} {x x' : Fin 16} {n : ℕ} {o o3 : Fin 4 → ℕ} (hat : At i s0 s1 w w' n) (hww : w ≠ w')
    (ho : o = ![1, x.val, 64 * n, 0]) (ho3 : o3 = ![1, x.val, 128 * n, 0]) (q : PosShare TreeShare) (xe : Vec F S2x256x1024 .bf16) (P P' : sProp 𝕄)
    (hfirst : ∀ (α : Type) (k : Prog (TpuEff nD τ sig (Elt F) Λ₀ .tc) α) (Q : α → sProp 𝕄), P ⊢ iprop((St c arg3 arg4 arg5 arg7 arg8 arg9 arg10 arg11 arg12 arg13 f1 f2 f3 s0 s1 o o3 w x n w' x' -∗ wp frame (wpE (defs₀ (F := F)) Variants.none (c : Thread nD τ) none) Set.univ k Q)
      -∗ wp frame (wpE (defs₀ (F := F)) Variants.none (c : Thread nD τ) none) Set.univ (firstProg arg2 harg2 arg3 harg3 arg4 harg4 arg5 harg5 arg6 harg6 arg7 harg7 arg8 harg8 arg9 harg9 arg10 harg10 arg11 harg11 arg12 harg12 arg13 i k) Q))
    (hlast : ∀ Q : PUnit → sProp 𝕄, St c arg3 arg4 arg5 arg7 arg8 arg9 arg10 arg11 arg12 arg13 f1 f2 f3 s1 s0 (k0_off12 i) (k0_off16 i) w x (n + 1) w' x' ⊢ iprop((P' -∗ Q ⟨⟩)
      -∗ wp frame (wpE (defs₀ (F := F)) Variants.none (c : Thread nD τ) none) Set.univ (lastProg arg3 arg4 arg5 arg10 arg11 arg12 arg13 i) Q))
    (Q : PUnit → sProp 𝕄) :
    iprop(P ∗ owns (c : Thread nD τ) arg2 q xe ∗ (∃ d, owns (c : Thread nD τ) arg6 fullShare d))
      ⊢ iprop((P' ∗ owns (c : Thread nD τ) arg2 q xe ∗ owns (c : Thread nD τ) arg6 fullShare (outAt c arg3 arg4 arg5 f1 f2 f3 x' xe) -∗ Q ⟨⟩)
        -∗ wp frame (wpE (defs₀ (F := F)) Variants.none (c : Thread nD τ) none) Set.univ
          (cc0_ec_expert_ffn (F := F) i arg2 harg2 arg3 harg3 arg4 harg4 arg5 harg5 arg6 harg6 arg7 harg7 arg8 harg8 arg9 harg9 arg10 harg10 arg11 harg11 arg12 harg12 arg13) Q) := by
  obtain ⟨h3, h6, h7, h10, h13, h14, h11, h15, h17, h19, h18, h20, h21, h22⟩ := hat
  iintro ⟨HP, HX, HOut⟩ Hk
  rw [cc0_ec_expert_ffn_eq_skeleton]
  unfold cc0_ec_expert_ffn_skel
  try dsimp only
  rw [wp_bind, k0_part40_eq_skeleton]
  unfold k0_part40_skel
  try dsimp only
  iapply (hfirst _ _ _) $$ HP
  unfold St
  iintro ⟨⟨B10, B11⟩, ⟨B20, B21⟩, ⟨B30, B31⟩, W1, W2, W3, HO⟩
  iapply (wait Variants.none s0 (cell_at _ 0 s0 h3)) $$ B10 HO
  iintro B10 HO
  rw [wp_pure]; imodintro
  try dsimp only
  rw [wp_bind, k0_part41_eq_skeleton]
  unfold k0_part41_skel
  try dsimp only
  iapply (wait Variants.none s0 (cell_at _ 1 s0 h6)) $$ B20 HO
  iintro B20 HO
  iapply (wait Variants.none s0 (cell_at _ 2 s0 h7)) $$ B30 HO
  iintro B30 HO
  iapply (start Variants.none s1 h11 (cell_at _ 0 s1 h10) (by decide)) $$ B11
  iintro B11
  rw [wp_pure]; imodintro
  try dsimp only
  rw [wp_bind, k0_part42_eq_skeleton]
  unfold k0_part42_skel
  try dsimp only
  iapply (start Variants.none s1 h11 (cell_at _ 1 s1 h13) (by decide)) $$ B21
  iintro B21
  iapply (start Variants.none s1 h15 (cell_at _ 2 s1 h14) (by decide)) $$ B31
  iintro B31
  iapply (loadB Variants.none s0 h17) $$ B10
  iintro %v1 %hv1 B10
  iapply (loadW Variants.none) $$ W1
  iintro %u1 W1
  iapply (storeW Variants.none _ (cast_slab hv1 _ _ _) hww h18 ho) $$ W1
  iintro W1
  iapply (loadB Variants.none s0 h17) $$ B20
  iintro %v2 %hv2 B20
  rw [wp_pure]; imodintro
  try dsimp only
  rw [wp_bind, k0_part43_eq_skeleton]
  unfold k0_part43_skel
  try dsimp only
  iapply (loadW Variants.none) $$ W2
  iintro %u2 W2
  iapply (storeW Variants.none _ (cast_slab hv2 _ _ _) hww h18 ho) $$ W2
  iintro W2
  iapply (loadB Variants.none s0 h19) $$ B30
  iintro %v3 %hv3 B30
  iapply (loadW Variants.none) $$ W3
  iintro %u3 W3
  iapply (storeW Variants.none _ (cast_slab hv3 _ _ _) hww h20 ho3) $$ W3
  iintro W3
  iapply loadX $$ HX
  iintro HX
  ihave W1 := (wt_swap _ _ _ _ _ _) $$ W1
  ihave W2 := (wt_swap _ _ _ _ _ _) $$ W2
  ihave W3 := (wt_swap _ _ _ _ _ _) $$ W3
  iapply (loadAll Variants.none h21 (by decide)) $$ W1
  iintro W1
  iapply (loadAll Variants.none h21 (by decide)) $$ W2
  iintro W2
  rw [wp_pure]; imodintro
  try dsimp only
  iapply (loadAll Variants.none h22 (by decide)) $$ W3
  iintro W3
  iapply loadY $$ HOut
  iintro %u4 HOut
  iapply storeX $$ HOut
  iintro HOut
  ihave W1 := (wt_swap _ _ _ _ _ _) $$ W1
  ihave W2 := (wt_swap _ _ _ _ _ _) $$ W2
  ihave W3 := (wt_swap _ _ _ _ _ _) $$ W3
  iapply (hlast _) $$ [B10 B11 B20 B21 B30 B31 W1 W2 W3 HO]
  · unfold St
    isplitl [B10 B11]
    · isplitl [B11]
      · iexact B11
      · iapply (ready_idle _ _ _ _ _ _ _) $$ B10
    isplitl [B20 B21]
    · isplitl [B21]
      · iexact B21
      · iapply (ready_idle _ _ _ _ _ _ _) $$ B20
    isplitl [B30 B31]
    · isplitl [B31]
      · iexact B31
      · iapply (ready_idle _ _ _ _ _ _ _) $$ B30
    isplitl [W1]; · iexact W1
    isplitl [W2]; · iexact W2
    isplitl [W3]; · iexact W3
    iexact HO
  iintro HP'
  iapply Hk
  isplitl [HP']; · iexact HP'
  isplitl [HX]; · iexact HX
  iexact HOut
end

end Cert.Kernel4Ideal.Hand

end
-- ==== Proof.FfnIdealOffs.lean ====
/- The offsets the expert call computes at each point. -/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.FfnIdealBody
public import Idealize.ShloMosaic.Lib.VecWindow

@[expose] public section

set_option maxRecDepth 16384

noncomputable section

namespace Cert.Kernel4Ideal.Hand

open Cert.Kernel4Ideal Cert.Kernel4Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The slot and the places in use at a point, and the experts they hold. -/
def sA (p : ℕ) : Fin 2 := ⟨p % 2, Nat.mod_lt _ (by decide)⟩
def xN (p : ℕ) : Fin 16 := ⟨min (p / 16 + 1) 15, by omega⟩
def xO (p : ℕ) : Fin 16 := ⟨p / 16 % 16, Nat.mod_lt _ (by decide)⟩

theorem off3_eq : ∀ t : Fin grid0.N, k0_off3 (grid0.coords t) = ![(sA t.val).val, (0 : Fin 3).val] := by decide +kernel
theorem off6_eq : ∀ t : Fin grid0.N, k0_off6 (grid0.coords t) = ![(sA t.val).val, (1 : Fin 3).val] := by decide +kernel
theorem off7_eq : ∀ t : Fin grid0.N, k0_off7 (grid0.coords t) = ![(sA t.val).val, (2 : Fin 3).val] := by decide +kernel
theorem off10_eq : ∀ t : Fin grid0.N, k0_off10 (grid0.coords t) = ![(sA (t.val + 1)).val, (0 : Fin 3).val] := by decide +kernel
theorem off13_eq : ∀ t : Fin grid0.N, k0_off13 (grid0.coords t) = ![(sA (t.val + 1)).val, (1 : Fin 3).val] := by decide +kernel
theorem off14_eq : ∀ t : Fin grid0.N, k0_off14 (grid0.coords t) = ![(sA (t.val + 1)).val, (2 : Fin 3).val] := by decide +kernel
theorem off11_eq : ∀ t : Fin grid0.N, k0_off11 (grid0.coords t) = ![(sA (t.val + 1)).val, 0, 0] := by decide +kernel
theorem off15_eq : ∀ t : Fin grid0.N, k0_off15 (grid0.coords t) = ![(sA (t.val + 1)).val, 0, 0] := by decide +kernel
theorem off17_eq : ∀ t : Fin grid0.N, k0_off17 (grid0.coords t) = ![(sA t.val).val, 0, 0] := by decide +kernel
theorem off19_eq : ∀ t : Fin grid0.N, k0_off19 (grid0.coords t) = ![(sA t.val).val, 0, 0] := by decide +kernel
theorem off18_eq : ∀ t : Fin grid0.N, k0_off18 (grid0.coords t) = ![(sA (t.val / 16 + 1)).val, 64 * (t.val % 16), 0] := by decide +kernel
theorem off20_eq : ∀ t : Fin grid0.N, k0_off20 (grid0.coords t) = ![(sA (t.val / 16 + 1)).val, 128 * (t.val % 16), 0] := by decide +kernel
theorem off21_eq : ∀ t : Fin grid0.N, k0_off21 (grid0.coords t) = ![(sA (t.val / 16)).val, 0, 0] := by decide +kernel
theorem off22_eq : ∀ t : Fin grid0.N, k0_off22 (grid0.coords t) = ![(sA (t.val / 16)).val, 0, 0] := by decide +kernel
theorem off12_eq : ∀ t : Fin grid0.N, k0_off12 (grid0.coords t) = ![1, (xN (t.val + 1)).val, 64 * ((t.val + 1) % 16), 0] := by decide +kernel
theorem off16_eq : ∀ t : Fin grid0.N, k0_off16 (grid0.coords t) = ![1, (xN (t.val + 1)).val, 128 * ((t.val + 1) % 16), 0] := by decide +kernel
theorem off23_eq : ∀ t : Fin grid0.N, k0_off23 (grid0.coords t) = ![(sA (t.val + 1)).val, (0 : Fin 3).val] := by decide +kernel
theorem off26_eq : ∀ t : Fin grid0.N, k0_off26 (grid0.coords t) = ![(sA (t.val + 1)).val, (1 : Fin 3).val] := by decide +kernel
theorem off27_eq : ∀ t : Fin grid0.N, k0_off27 (grid0.coords t) = ![(sA (t.val + 1)).val, (2 : Fin 3).val] := by decide +kernel
theorem off1_eq : k0_off1 = ![1, (xN 0).val, 64 * (0 % 16), 0] := by decide +kernel
theorem off2_eq : k0_off2 = ![1, (xN 0).val, 128 * (0 % 16), 0] := by decide +kernel
theorem cond1_eq : ∀ t : Fin grid0.N, k0_cond1 (grid0.coords t) = 1#1 ↔ t.val = 0 := by decide +kernel
theorem cond2_eq : ∀ t : Fin grid0.N, k0_cond2 (grid0.coords t) = 1#1 ↔ t.val = 255 := by decide +kernel

theorem at_point (t : Fin grid0.N) : At (grid0.coords t) (sA t.val) (sA (t.val + 1)) (sA (t.val / 16 + 1)) (sA (t.val / 16)) (t.val % 16) where
  h3 := off3_eq t
  h6 := off6_eq t
  h7 := off7_eq t
  h10 := off10_eq t
  h13 := off13_eq t
  h14 := off14_eq t
  h11 := off11_eq t
  h15 := off15_eq t
  h17 := off17_eq t
  h19 := off19_eq t
  h18 := off18_eq t
  h20 := off20_eq t
  h21 := off21_eq t
  h22 := off22_eq t

end Cert.Kernel4Ideal.Hand

end
-- ==== Proof.FfnIdealStep.lean ====
/- The state of the expert call between its points, and the steps between them. -/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.FfnIdealPro
public import proofs.«01_k».proof.Proof.FfnWhole
public import proofs.«01_k».proof.Proof.FfnIdealOffs

@[expose] public section

set_option maxRecDepth 16384

noncomputable section

namespace Cert.Kernel4Ideal.Hand

open Cert.Kernel4Ideal Cert.Kernel4Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

attribute [local irreducible] wp Prog.bind Prog.lift Idle Ready Busy Wt Ow IsSlab IsCast Slab owns

theorem sA_two (p : ℕ) : sA (p + 1 + 1) = sA p := Fin.ext (by change (p + 1 + 1) % 2 = p % 2; omega)
theorem sA_ne (p : ℕ) : sA (p + 1) ≠ sA p := fun h => by
  have := congrArg Fin.val h
  change (p + 1) % 2 = p % 2 at this
  omega

section
variable (c : Dev nD) (arg2 : Memref sig .tc .vmem S2x256x1024 .bf16) (harg2 : arg2.IsWhole)
  (arg3 : Memref sig .tc .hbm S2x16x1024x2048 .f32) (harg3 : arg3.IsWhole) (arg4 : Memref sig .tc .hbm S2x16x1024x2048 .f32) (harg4 : arg4.IsWhole)
  (arg5 : Memref sig .tc .hbm S2x16x2048x1024 .f32) (harg5 : arg5.IsWhole) (arg6 : Memref sig .tc .vmem S2x256x1024 .bf16) (harg6 : arg6.IsWhole)
  (arg7 : Memref sig .tc .vmem S2x1024x2048 .bf16) (harg7 : arg7.IsWhole) (arg8 : Memref sig .tc .vmem S2x1024x2048 .bf16) (harg8 : arg8.IsWhole)
  (arg9 : Memref sig .tc .vmem S2x2048x1024 .bf16) (harg9 : arg9.IsWhole) (arg10 : Memref sig .tc .vmem S2x64x2048 .f32) (harg10 : arg10.IsWhole)
  (arg11 : Memref sig .tc .vmem S2x64x2048 .f32) (harg11 : arg11.IsWhole) (arg12 : Memref sig .tc .vmem S2x128x1024 .f32) (harg12 : arg12.IsWhole)
  (arg13 : DmaSems sig S2x3)
  (f1 : Buf (Elt F) (arg3.view.loc (c : Thread nD τ))) (f2 : Buf (Elt F) (arg4.view.loc (c : Thread nD τ))) (f3 : Buf (Elt F) (arg5.view.loc (c : Thread nD τ)))

/-- The state before point `p`, strictly inside the grid. -/
def Inv (p : ℕ) : sProp 𝕄 :=
  St c arg3 arg4 arg5 arg7 arg8 arg9 arg10 arg11 arg12 arg13 f1 f2 f3 (sA p) (sA (p + 1)) ![1, (xN p).val, 64 * (p % 16), 0] ![1, (xN p).val, 128 * (p % 16), 0]
    (sA (p / 16 + 1)) (xN p) (p % 16) (sA (p / 16)) (xO p)

/-- Every slot free and every buffer at anything. -/
def Rest : sProp 𝕄 :=
  iprop((Idle (R := 64) arg3 arg10 (cell arg13 0) c f1 0 ∗ Idle (R := 64) arg3 arg10 (cell arg13 0) c f1 1)
    ∗ (Idle (R := 64) arg4 arg11 (cell arg13 1) c f2 0 ∗ Idle (R := 64) arg4 arg11 (cell arg13 1) c f2 1)
    ∗ (Idle (R := 128) arg5 arg12 (cell arg13 2) c f3 0 ∗ Idle (R := 128) arg5 arg12 (cell arg13 2) c f3 1)
    ∗ (∃ g, (arg7.view.loc (c : Thread nD τ)) ↦{fullShare} g) ∗ (∃ g, (arg8.view.loc (c : Thread nD τ)) ↦{fullShare} g)
    ∗ (∃ g, (arg9.view.loc (c : Thread nD τ)) ↦{fullShare} g) ∗ Ow c)

/-- The state before point `p`. -/
def At0 (p : ℕ) : sProp 𝕄 := if p = 0 ∨ p = 256 then Rest c arg3 arg4 arg5 arg7 arg8 arg9 arg10 arg11 arg12 arg13 f1 f2 f3 else Inv c arg3 arg4 arg5 arg7 arg8 arg9 arg10 arg11 arg12 arg13 f1 f2 f3 p

theorem st_next (p : ℕ) (hp : p < 255) :
    St c arg3 arg4 arg5 arg7 arg8 arg9 arg10 arg11 arg12 arg13 f1 f2 f3 (sA (p + 1)) (sA p) ![1, (xN (p + 1)).val, 64 * ((p + 1) % 16), 0] ![1, (xN (p + 1)).val, 128 * ((p + 1) % 16), 0]
      (sA (p / 16 + 1)) (xN p) (p % 16 + 1) (sA (p / 16)) (xO p) ⊢ Inv c arg3 arg4 arg5 arg7 arg8 arg9 arg10 arg11 arg12 arg13 f1 f2 f3 (p + 1) := by
  unfold Inv
  rw [sA_two]
  by_cases h : p % 16 + 1 < 16
  · have e1 : (p + 1) / 16 = p / 16 := by omega
    have e2 : (p + 1) % 16 = p % 16 + 1 := by omega
    have e3 : xN (p + 1) = xN p := Fin.ext (by change min ((p + 1) / 16 + 1) 15 = min (p / 16 + 1) 15; rw [e1])
    have e4 : xO (p + 1) = xO p := Fin.ext (by change (p + 1) / 16 % 16 = p / 16 % 16; rw [e1])
    rw [e1, e2, e3, e4]
  · have e1 : (p + 1) / 16 = p / 16 + 1 := by omega
    have e2 : (p + 1) % 16 = 0 := by omega
    have e4 : xO (p + 1) = xN p := Fin.ext (by change (p + 1) / 16 % 16 = min (p / 16 + 1) 15; omega)
    have e5 : p % 16 + 1 = 16 := by omega
    rw [e1, e2, e4, e5, sA_two]
    unfold St
    iintro ⟨B1, B2, B3, W1, W2, W3, HO⟩
    isplitl [B1]; · iexact B1
    isplitl [B2]; · iexact B2
    isplitl [B3]; · iexact B3
    isplitl [W1]
    · iapply (wt_swap _ _ _ _ _ _)
      iapply (wt_zero _ _ _ _ _ _ _ _) $$ W1
    isplitl [W2]
    · iapply (wt_swap _ _ _ _ _ _)
      iapply (wt_zero _ _ _ _ _ _ _ _) $$ W2
    isplitl [W3]
    · iapply (wt_swap _ _ _ _ _ _)
      iapply (wt_zero _ _ _ _ _ _ _ _) $$ W3
    iexact HO

set_option maxHeartbeats 4000000 in
theorem first_zero (i : grid0.Coords) (h : k0_cond1 i = 1#1) (α : Type) (k : Prog (TpuEff nD τ sig (Elt F) Λ₀ .tc) α) (Q : α → sProp 𝕄) :
    Rest c arg3 arg4 arg5 arg7 arg8 arg9 arg10 arg11 arg12 arg13 f1 f2 f3 ⊢ iprop((Inv c arg3 arg4 arg5 arg7 arg8 arg9 arg10 arg11 arg12 arg13 f1 f2 f3 0 -∗ wp frame (wpE (defs₀ (F := F)) Variants.none (c : Thread nD τ) none) Set.univ k Q)
      -∗ wp frame (wpE (defs₀ (F := F)) Variants.none (c : Thread nD τ) none) Set.univ (firstProg arg2 harg2 arg3 harg3 arg4 harg4 arg5 harg5 arg6 harg6 arg7 harg7 arg8 harg8 arg9 harg9 arg10 harg10 arg11 harg11 arg12 harg12 arg13 i k) Q) := by
  have e : Inv c arg3 arg4 arg5 arg7 arg8 arg9 arg10 arg11 arg12 arg13 f1 f2 f3 0 = St c arg3 arg4 arg5 arg7 arg8 arg9 arg10 arg11 arg12 arg13 f1 f2 f3 0 1 k0_off1 k0_off2 1 (xN 0) 0 0 0 := by
    rw [off1_eq, off2_eq]; rfl
  rw [e]
  unfold Rest firstProg
  iintro ⟨B1, B2, B3, W1, W2, W3, HO⟩ Hk
  rw [dif_pos h]
  ihave W1 := (wt_intro (A := arg3) (fA := f1) 64 0 1 0 (xN 0)) $$ W1
  ihave W2 := (wt_intro (A := arg4) (fA := f2) 64 0 1 0 (xN 0)) $$ W2
  ihave W3 := (wt_intro (A := arg5) (fA := f3) 128 0 1 0 (xN 0)) $$ W3
  rw [wp_bind]
  iapply (pro c arg2 harg2 arg3 harg3 arg4 harg4 arg5 harg5 arg6 harg6 arg7 harg7 arg8 harg8 arg9 harg9 arg10 harg10 arg11 harg11 arg12 harg12 arg13 f1 f2 f3 i h (xN 0) _) $$ [B1 B2 B3 W1 W2 W3 HO]
  · isplitl [B1]; · iexact B1
    isplitl [B2]; · iexact B2
    isplitl [B3]; · iexact B3
    isplitl [W1]; · iexact W1
    isplitl [W2]; · iexact W2
    isplitl [W3]; · iexact W3
    iexact HO
  iintro ⟨B1, B2, ⟨B30, B31⟩, W1, W2, W3, HO⟩
  iapply (start Variants.none 0 rfl rfl (by decide)) $$ B30
  iintro B30
  iapply Hk
  unfold St
  isplitl [B1]; · iexact B1
  isplitl [B2]; · iexact B2
  isplitl [B30 B31]
  · isplitl [B30]; · iexact B30
    iexact B31
  isplitl [W1]; · iapply (wt_swap _ _ _ _ _ _) $$ W1
  isplitl [W2]; · iapply (wt_swap _ _ _ _ _ _) $$ W2
  isplitl [W3]; · iapply (wt_swap _ _ _ _ _ _) $$ W3
  iexact HO

theorem first_next (i : grid0.Coords) (h : ¬ k0_cond1 i = 1#1) (P : sProp 𝕄) (α : Type) (k : Prog (TpuEff nD τ sig (Elt F) Λ₀ .tc) α) (Q : α → sProp 𝕄) :
    P ⊢ iprop((P -∗ wp frame (wpE (defs₀ (F := F)) Variants.none (c : Thread nD τ) none) Set.univ k Q)
      -∗ wp frame (wpE (defs₀ (F := F)) Variants.none (c : Thread nD τ) none) Set.univ (firstProg arg2 harg2 arg3 harg3 arg4 harg4 arg5 harg5 arg6 harg6 arg7 harg7 arg8 harg8 arg9 harg9 arg10 harg10 arg11 harg11 arg12 harg12 arg13 i k) Q) := by
  unfold firstProg
  rw [dif_neg h]
  iintro H Hk
  iapply Hk $$ H

theorem last_next (i : grid0.Coords) (h : ¬ k0_cond2 i = 1#1) (P : sProp 𝕄) (Q : PUnit → sProp 𝕄) :
    P ⊢ iprop((P -∗ Q ⟨⟩)
      -∗ wp frame (wpE (defs₀ (F := F)) Variants.none (c : Thread nD τ) none) Set.univ (lastProg arg3 arg4 arg5 arg10 arg11 arg12 arg13 i) Q) := by
  unfold lastProg
  rw [dif_neg h]
  iintro H Hk
  rw [wp_pure]; imodintro
  iapply Hk $$ H

set_option maxHeartbeats 4000000 in
theorem last_end (i : grid0.Coords) (h : k0_cond2 i = 1#1) (h23 : k0_off23 i = ![(0 : Fin 2).val, (0 : Fin 3).val]) (h26 : k0_off26 i = ![(0 : Fin 2).val, (1 : Fin 3).val])
    (h27 : k0_off27 i = ![(0 : Fin 2).val, (2 : Fin 3).val]) {o o3 : Fin 4 → ℕ} {w w' : Fin 2} {x x' : Fin 16} {n : ℕ} (Q : PUnit → sProp 𝕄) :
    St c arg3 arg4 arg5 arg7 arg8 arg9 arg10 arg11 arg12 arg13 f1 f2 f3 0 1 o o3 w x n w' x' ⊢ iprop((Rest c arg3 arg4 arg5 arg7 arg8 arg9 arg10 arg11 arg12 arg13 f1 f2 f3 -∗ Q ⟨⟩)
      -∗ wp frame (wpE (defs₀ (F := F)) Variants.none (c : Thread nD τ) none) Set.univ (lastProg arg3 arg4 arg5 arg10 arg11 arg12 arg13 i) Q) := by
  unfold lastProg St Rest
  rw [dif_pos h]
  iintro ⟨⟨B10, B11⟩, ⟨B20, B21⟩, ⟨B30, B31⟩, W1, W2, W3, HO⟩ Hk
  iapply (wait Variants.none 0 (cell_at _ 0 0 h23)) $$ B10 HO
  iintro B10 HO
  iapply (wait Variants.none 0 (cell_at _ 1 0 h26)) $$ B20 HO
  iintro B20 HO
  iapply (wait Variants.none 0 (cell_at _ 2 0 h27)) $$ B30 HO
  iintro B30 HO
  rw [wp_pure]; imodintro
  iapply Hk
  isplitl [B10 B11]
  · isplitl [B10]
    · iapply (ready_idle _ _ _ _ _ _ _) $$ B10
    · iexact B11
  isplitl [B20 B21]
  · isplitl [B20]
    · iapply (ready_idle _ _ _ _ _ _ _) $$ B20
    · iexact B21
  isplitl [B30 B31]
  · isplitl [B30]
    · iapply (ready_idle _ _ _ _ _ _ _) $$ B30
    · iexact B31
  isplitl [W1]; · iapply wt_elim $$ W1
  isplitl [W2]; · iapply wt_elim $$ W2
  isplitl [W3]; · iapply wt_elim $$ W3
  iexact HO

/-- One point, from the state before it to the state after it. -/
theorem step (t : Fin grid0.N) (q : PosShare TreeShare) (xe : Vec F S2x256x1024 .bf16) (Q : PUnit → sProp 𝕄) :
    iprop(At0 c arg3 arg4 arg5 arg7 arg8 arg9 arg10 arg11 arg12 arg13 f1 f2 f3 t.val ∗ owns (c : Thread nD τ) arg2 q xe ∗ (∃ d, owns (c : Thread nD τ) arg6 fullShare d))
      ⊢ iprop((At0 c arg3 arg4 arg5 arg7 arg8 arg9 arg10 arg11 arg12 arg13 f1 f2 f3 (t.val + 1) ∗ owns (c : Thread nD τ) arg2 q xe ∗ owns (c : Thread nD τ) arg6 fullShare (outAt c arg3 arg4 arg5 f1 f2 f3 (xO t.val) xe) -∗ Q ⟨⟩)
        -∗ wp frame (wpE (defs₀ (F := F)) Variants.none (c : Thread nD τ) none) Set.univ
          (cc0_ec_expert_ffn (F := F) (grid0.coords t) arg2 harg2 arg3 harg3 arg4 harg4 arg5 harg5 arg6 harg6 arg7 harg7 arg8 harg8 arg9 harg9 arg10 harg10 arg11 harg11 arg12 harg12 arg13) Q) := by
  have ht : t.val < 256 := lt_of_lt_of_eq t.isLt N_0
  refine point c arg2 harg2 arg3 harg3 arg4 harg4 arg5 harg5 arg6 harg6 arg7 harg7 arg8 harg8 arg9 harg9 arg10 harg10 arg11 harg11 arg12 harg12 arg13 f1 f2 f3
    (grid0.coords t) (x := xN t.val) (x' := xO t.val) (at_point t) (sA_ne _) rfl rfl q xe (At0 c arg3 arg4 arg5 arg7 arg8 arg9 arg10 arg11 arg12 arg13 f1 f2 f3 t.val) (At0 c arg3 arg4 arg5 arg7 arg8 arg9 arg10 arg11 arg12 arg13 f1 f2 f3 (t.val + 1)) ?_ ?_ Q
  · intro α k Q
    by_cases h : t.val = 0
    · unfold At0
      rw [if_pos (Or.inl h)]
      have e := first_zero c arg2 harg2 arg3 harg3 arg4 harg4 arg5 harg5 arg6 harg6 arg7 harg7 arg8 harg8 arg9 harg9 arg10 harg10 arg11 harg11 arg12 harg12 arg13 f1 f2 f3
        (grid0.coords t) ((cond1_eq t).mpr h) α k Q
      rw [← h] at e
      exact e
    · unfold At0
      rw [if_neg (by omega)]
      exact first_next c arg2 harg2 arg3 harg3 arg4 harg4 arg5 harg5 arg6 harg6 arg7 harg7 arg8 harg8 arg9 harg9 arg10 harg10 arg11 harg11 arg12 harg12 arg13
        (grid0.coords t) (fun e => h ((cond1_eq t).mp e)) _ α k Q
  · intro Q
    by_cases h : t.val = 255
    · unfold At0
      rw [if_pos (Or.inr (by omega))]
      have e0 : sA (t.val + 1) = 0 := by rw [h]; rfl
      have e1 : sA t.val = 1 := by rw [h]; rfl
      rw [e0, e1]
      refine last_end c arg3 arg4 arg5 arg7 arg8 arg9 arg10 arg11 arg12 arg13 f1 f2 f3 (grid0.coords t) ((cond2_eq t).mpr h) ?_ ?_ ?_ Q
      · rw [off23_eq, e0]
      · rw [off26_eq, e0]
      · rw [off27_eq, e0]
    · unfold At0
      rw [if_neg (by omega), off12_eq, off16_eq]
      exact (st_next c arg3 arg4 arg5 arg7 arg8 arg9 arg10 arg11 arg12 arg13 f1 f2 f3 t.val (by omega)).trans (last_next c arg3 arg4 arg5 arg10 arg11 arg12 arg13 (grid0.coords t) (fun e => h ((cond2_eq t).mp e)) _ Q)
end

end Cert.Kernel4Ideal.Hand

end
-- ==== Proof.FfnIdealFrame.lean ====
/- The expert call's frame: the state it keeps, its obligation at each point, its run. -/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.FfnIdealStep

@[expose] public section

set_option maxRecDepth 16384

noncomputable section

namespace Cert.Kernel4Ideal.Hand

open Cert.Kernel4Ideal Cert.Kernel4Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

attribute [local irreducible] wp Idle Ready Busy Wt IsSlab IsCast Slab

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The block of the input a point reads. -/
theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats 0 c).arrAt_in 0 rfl _).trans ((hA c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) h

/-- The six cells of the staging slots. -/
abbrev osem0 : Fin 6 → SemLoc sig := fun j => (![SemLoc.dma 4, SemLoc.dma 5, SemLoc.dma 6, SemLoc.dma 7, SemLoc.dma 8, SemLoc.dma 9] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell cc0_scratch6 0 0)) 0 ∗ semVal ((c : Thread nD τ), SemLoc.dma (cell cc0_scratch6 1 0)) 0
          ∗ semVal ((c : Thread nD τ), SemLoc.dma (cell cc0_scratch6 2 0)) 0 ∗ semVal ((c : Thread nD τ), SemLoc.dma (cell cc0_scratch6 0 1)) 0
          ∗ semVal ((c : Thread nD τ), SemLoc.dma (cell cc0_scratch6 1 1)) 0 ∗ semVal ((c : Thread nD τ), SemLoc.dma (cell cc0_scratch6 2 1)) 0) := by
  rw [Pipeline.ownSems0_eq_of_list c osem0 [0, 1, 2, 3, 4, 5] (by decide) (by decide)]; rfl

/-- The three weight arrays, which the body's copies read. -/
def H0 : Finset (Ref sig .tc) := {main_arg1, main_arg2, main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_arg1) ↦{fullShare} V m c main_arg1) ∗ (((c : Thread nD τ).loc main_arg2) ↦{fullShare} V m c main_arg2)
          ∗ (((c : Thread nD τ).loc main_arg3) ↦{fullShare} V m c main_arg3)) := by
  rw [BI.bigSep_eq_bigSepL_of_eq [main_arg1, main_arg2, main_arg3] (by decide) (by decide)]; rfl

abbrev RestC (c : Dev nD) : sProp 𝕄 := Rest c (Memref.whole main_arg1) (Memref.whole main_arg2) (Memref.whole main_arg3) (Memref.whole cc0_scratch0) (Memref.whole cc0_scratch1) (Memref.whole cc0_scratch2) (Memref.whole cc0_scratch3) (Memref.whole cc0_scratch4) (Memref.whole cc0_scratch5) cc0_scratch6 (V m c main_arg1) (V m c main_arg2) (V m c main_arg3)
abbrev AtC (c : Dev nD) (p : ℕ) : sProp 𝕄 := At0 c (Memref.whole main_arg1) (Memref.whole main_arg2) (Memref.whole main_arg3) (Memref.whole cc0_scratch0) (Memref.whole cc0_scratch1) (Memref.whole cc0_scratch2) (Memref.whole cc0_scratch3) (Memref.whole cc0_scratch4) (Memref.whole cc0_scratch5) cc0_scratch6 (V m c main_arg1) (V m c main_arg2) (V m c main_arg3) p

theorem phi_in (c : Dev nD) : iprop(Pipeline.ΦD osem0 spec0 H0 (V m) c ∗ Ow c) ⊢ (iprop((∃ r, prngReg c r) ∗ RestC m c) : sProp 𝕄) := by
  rw [Pipeline.ΦD_eq, scopedRest0_eq, ownSems00_eq, hbmPts0_eq]
  unfold RestC Rest
  iintro ⟨⟨⟨W1, W2, W3, B1, B2, B3⟩, Hr, ⟨S00, S10, S20, S01, S11, S21⟩, A1, A2, A3⟩, HO⟩
  isplitl [Hr]; · iexact Hr
  isplitl [B1 A1 S00 S01]
  · iapply (idle_intro (Memref.whole main_arg1) (Memref.whole cc0_scratch3) (cell cc0_scratch6 0) c (V m c main_arg1) (View.set_whole _)) $$ [B1 A1 S00 S01]
    isplitl [B1]; · iexact B1
    isplitl [A1]; · iexact A1
    isplitl [S00]; · iexact S00
    iexact S01
  isplitl [B2 A2 S10 S11]
  · iapply (idle_intro (Memref.whole main_arg2) (Memref.whole cc0_scratch4) (cell cc0_scratch6 1) c (V m c main_arg2) (View.set_whole _)) $$ [B2 A2 S10 S11]
    isplitl [B2]; · iexact B2
    isplitl [A2]; · iexact A2
    isplitl [S10]; · iexact S10
    iexact S11
  isplitl [B3 A3 S20 S21]
  · iapply (idle_intro (Memref.whole main_arg3) (Memref.whole cc0_scratch5) (cell cc0_scratch6 2) c (V m c main_arg3) (View.set_whole _)) $$ [B3 A3 S20 S21]
    isplitl [B3]; · iexact B3
    isplitl [A3]; · iexact A3
    isplitl [S20]; · iexact S20
    iexact S21
  isplitl [W1]; · iexact W1
  isplitl [W2]; · iexact W2
  isplitl [W3]; · iexact W3
  iexact HO

theorem phi_out (c : Dev nD) : (iprop((∃ r, prngReg c r) ∗ RestC m c) : sProp 𝕄) ⊢ iprop(Pipeline.ΦD osem0 spec0 H0 (V m) c ∗ Ow c) := by
  rw [Pipeline.ΦD_eq, scopedRest0_eq, ownSems00_eq, hbmPts0_eq]
  unfold RestC Rest
  iintro ⟨Hr, I1, I2, I3, W1, W2, W3, HO⟩
  ihave I1 := (idle_elim (Memref.whole main_arg1) (Memref.whole cc0_scratch3) (cell cc0_scratch6 0) c (V m c main_arg1) (View.set_whole _)) $$ I1
  ihave I2 := (idle_elim (Memref.whole main_arg2) (Memref.whole cc0_scratch4) (cell cc0_scratch6 1) c (V m c main_arg2) (View.set_whole _)) $$ I2
  ihave I3 := (idle_elim (Memref.whole main_arg3) (Memref.whole cc0_scratch5) (cell cc0_scratch6 2) c (V m c main_arg3) (View.set_whole _)) $$ I3
  icases I1 with ⟨B1, A1, S00, S01⟩
  icases I2 with ⟨B2, A2, S10, S11⟩
  icases I3 with ⟨B3, A3, S20, S21⟩
  isplitr [HO]
  · isplitl [W1 W2 W3 B1 B2 B3]
    · isplitl [W1]; · iexact W1
      isplitl [W2]; · iexact W2
      isplitl [W3]; · iexact W3
      isplitl [B1]; · iexact B1
      isplitl [B2]; · iexact B2
      iexact B3
    isplitl [Hr]; · iexact Hr
    isplitl [S00 S10 S20 S01 S11 S21]
    · isplitl [S00]; · iexact S00
      isplitl [S10]; · iexact S10
      isplitl [S20]; · iexact S20
      isplitl [S01]; · iexact S01
      isplitl [S11]; · iexact S11
      iexact S21
    isplitl [A1]; · iexact A1
    isplitl [A2]; · iexact A2
    iexact A3
  iexact HO

/-- What a point hands on, apart from the waits. -/
def Pt (c : Dev nD) (p : ℕ) : sProp 𝕄 :=
  if p = 0 ∨ p = 256 then Pipeline.ΦD osem0 spec0 H0 (V m) c
  else iprop((∃ r, prngReg c r) ∗ (Ow c -∗ AtC m c p))

theorem at_split (c : Dev nD) (p : ℕ) (h : ¬ (p = 0 ∨ p = 256)) : AtC m c p ⊢ (iprop((Ow c -∗ AtC m c p) ∗ Ow c) : sProp 𝕄) := by
  unfold AtC At0
  rw [if_neg h]
  unfold Inv St
  iintro ⟨B1, B2, B3, W1, W2, W3, HO⟩
  isplitr [HO]
  · iintro HO
    isplitl [B1]; · iexact B1
    isplitl [B2]; · iexact B2
    isplitl [B3]; · iexact B3
    isplitl [W1]; · iexact W1
    isplitl [W2]; · iexact W2
    isplitl [W3]; · iexact W3
    iexact HO
  iexact HO

theorem pt_in (c : Dev nD) (p : ℕ) : iprop(Pt m c p ∗ Ow c) ⊢ (iprop((∃ r, prngReg c r) ∗ AtC m c p) : sProp 𝕄) := by
  by_cases h : p = 0 ∨ p = 256
  · unfold Pt AtC At0
    rw [if_pos h, if_pos h]
    exact phi_in m c
  · unfold Pt
    rw [if_neg h]
    iintro ⟨⟨Hr, H⟩, HO⟩
    isplitl [Hr]; · iexact Hr
    iapply H $$ HO

theorem pt_out (c : Dev nD) (p : ℕ) : (iprop((∃ r, prngReg c r) ∗ AtC m c p) : sProp 𝕄) ⊢ iprop(Pt m c p ∗ Ow c) := by
  by_cases h : p = 0 ∨ p = 256
  · unfold Pt AtC At0
    rw [if_pos h, if_pos h]
    exact phi_out m c
  · unfold Pt
    rw [if_neg h]
    iintro ⟨Hr, H⟩
    ihave H := (at_split m c p h) $$ H
    icases H with ⟨H, HO⟩
    isplitr [HO]
    · isplitl [Hr]; · iexact Hr
      iexact H
    iexact HO

/-- What a point leaves in the result's block. -/
def outC (c : Dev nD) (t : Fin cfg0.N) : Vec F S2x256x1024 .bf16 :=
  outAt c (Memref.whole main_arg1) (Memref.whole main_arg2) (Memref.whole main_arg3) (V m c main_arg1) (V m c main_arg2) (V m c main_arg3) (xO t.val) (iblk m c 0 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outC m c t
  Φ t := Pt m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = outC m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Pt m c t.val from rfl, show (dats m 0 c).Φ t.succ = Pt m c (t.val + 1) from rfl, after0, after1]
  simp only [before0 m (dats m 0 c) (A_eq m c 0) (after0 m c) t]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩⟩
  ihave HP := (pt_in m c t.val) $$ [HP HW]
  · isplitl [HP]; · iexact HP
    unfold Ow
    iexists W; iexact HW
  icases HP with ⟨Hr, HP⟩
  iapply (step c (win0_0.stage (cfg0.slots t 0)) (hstage0_0 ((cfg0.slots t 0).cast nbuf0_0)) (Memref.whole main_arg1) (Memref.isWhole_whole _)
    (Memref.whole main_arg2) (Memref.isWhole_whole _) (Memref.whole main_arg3) (Memref.isWhole_whole _)
    (win0_1.stage (cfg0.slots t 1)) (hstage0_1 ((cfg0.slots t 1).cast nbuf0_1)) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) cc0_scratch6 (V m c main_arg1) (V m c main_arg2) (V m c main_arg3) t fullShare (iblk m c 0 t)
    (fun _ => _)) $$ [HP H0 H1]
  · isplitl [HP]; · iexact HP
    isplitl [H0]; · iexact H0
    iexists _; iexact H1
  iintro ⟨HP, H0, H1⟩
  ihave HP := (pt_out m c (t.val + 1)) $$ [Hr HP]
  · isplitl [Hr]; · iexact Hr
    iexact HP
  icases HP with ⟨HP, HW⟩
  isplitl [HP]; · iexact HP
  isplitl [HW]
  · unfold Ow
    icases HW with ⟨%W', HW'⟩
    iexists W'; isplitr; · ipureintro; exact fun _ _ => Or.inl trivial
    iexact HW'
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_first (c : Dev nD) : Pipeline.ΦD osem0 spec0 H0 (V m) c ⊢ (dats m 0 c).Φ 0 := by
  change _ ⊢ Pt m c 0
  unfold Pt
  rw [if_pos (Or.inl rfl)]

theorem phi_last (c : Dev nD) : (dats m 0 c).Φ (Fin.last cfg0.N) ⊢ Pipeline.ΦD osem0 spec0 H0 (V m) c := by
  change Pt m c grid0.N ⊢ _
  unfold Pt
  rw [if_pos (Or.inr N_0)]

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := phi_first m) (hout := phi_last m)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  frame_of m ρ (dats m) (A_eq m) (run_main m ρ)

end Cert.Kernel4Ideal.Hand

end
-- ==== Proof.FfnPay.lean ====
/- The expert call's stored block, read at an index over the extended reals. -/
module

public import proofs.«01_k».proof.Proof.FfnIdealBody
public import proofs.«01_k».proof.Proof.Norm
public import Idealize.ShloMosaic.Lib.Pipeline.ValueKit

@[expose] public section

set_option maxRecDepth 16384

noncomputable section

namespace Cert.Kernel4Ideal.Ffn

open Idealize.ShloMosaic Idealize.ShloMosaic.TcCoe Idealize.SL.Sem
open Idealize.ShloMosaic.Pipeline (Dat)
open Cert.Kernel4Ideal Cert.Kernel4Ideal.Gen Cert.Kernel4Ideal.Hand Cert.Slots

/-- The gate of a pre-activation. -/
def swish (g : EReal) : EReal := g * Ideal.logistic g

/-- The gated activations of a block. -/
theorem act_at (x : Vec Ideal S2x256x1024 .bf16) (w w' : Vec Ideal S1x1024x2048 .bf16) (b : Fin 2) (s : Fin 256) (k : Fin 2048) :
    k0_pay59 (F := Ideal) x w w' (ix2 ⟨b.val * 256 + s.val, by omega⟩ k)
      = swish (∑ d : Fin 1024, x (ix3 b s d) * w (ix3 0 d k)) * ∑ d : Fin 1024, x (ix3 b s d) * w' (ix3 0 d k) := by
  pointwise [k0_pay59]
  rfl

/-- The product of a block. -/
theorem prod_at (y : FVec Ideal S512x2048 .bf16) (w : Vec Ideal S1x2048x1024 .bf16) (b : Fin 2) (s : Fin 256) (d : Fin 1024) :
    k0_pay1 (F := Ideal) y w (ix3 b s d) = ∑ k : Fin 2048, y (ix2 ⟨b.val * 256 + s.val, by omega⟩ k) * w (ix3 0 k d) := by
  pointwise [k0_pay1]

section arrays

variable (X : FVec Ideal S32x4096x1024 .bf16) (G U : FVec Ideal S2x16x1024x2048 .f32) (D : FVec Ideal S2x16x2048x1024 .f32)

/-- The token in place `s` of expert `e`. -/
def place (e : Fin 16) (s : Fin 256) : Fin 4096 := ⟨e.val * 256 + s.val, by omega⟩

/-- A token's product with a matrix of its expert. -/
def proj (W : FVec Ideal S2x16x1024x2048 .f32) (b : Fin 32) (e : Fin 16) (s : Fin 256) (k : Fin 2048) : EReal :=
  ∑ d : Fin 1024, X (ix3 b (place e s) d) * W (ix4 1 e d k)

/-- The expert's result at a token. -/
def ffn (b : Fin 32) (e : Fin 16) (s : Fin 256) (d : Fin 1024) : EReal :=
  ∑ k : Fin 2048, swish (proj X G b e s k) * proj X U b e s k * D (ix4 1 e k d)

/-- Every expert's results. -/
def fArr : FVec Ideal S32x4096x1024 .bf16 := fun y =>
  ffn X G U D ⟨(y 0).val, by idx_bounds y; omega⟩ ⟨(y 1).val / 256, by idx_bounds y; omega⟩ ⟨(y 1).val % 256, by omega⟩
    ⟨(y 2).val, by idx_bounds y; omega⟩

/-- An entry of the results. -/
theorem fArr_at (y : S32x4096x1024.Idx) (b : Fin 32) (e : Fin 16) (s : Fin 256) (d : Fin 1024) (h0 : (y 0).val = b.val)
    (h1 : (y 1).val = (place e s).val) (h2 : (y 2).val = d.val) : fArr X G U D y = ffn X G U D b e s d := by
  have e1 : (place e s).val / 256 = e.val := by simp only [place]; omega
  have e2 : (place e s).val % 256 = s.val := by simp only [place]; omega
  unfold fArr
  simp only [h0, h1, h2, e1, e2]

end arrays

/-- The blocks' positions at each point of the grid. -/
theorem idx : ∀ t : Fin cfg0.N, win0_0.index t = ![t.val % 16, t.val / 16, 0] ∧ win0_1.index t = ![t.val % 16, t.val / 16, 0] :=
  (by decide +kernel : ∀ t : Fin grid0.N, _)

variable (m : (ℓ : Loc nD τ sig) → Buf (Elt Ideal) ℓ)

/-- The tokens, as a point stages them. -/
theorem load_x (c : Dev nD) (t : Fin cfg0.N) (t' : Fin 256) (ht : t.val = t'.val) (b : Fin 2) (s : Fin 256) (d : Fin 1024) :
    iblk m c 0 t (ix3 b s d) = m ((c : Thread nD τ).loc main_arg0)
      (ix3 ⟨t'.val % 16 * 2 + b.val, by omega⟩ (place ⟨t'.val / 16, by omega⟩ s) d) := by
  blk_ext [iblk, V, idx t, place]

/-- The block a point leaves. -/
theorem block_at (c : Dev nD) (t : Fin cfg0.N) (t' : Fin 256) (ht : t.val = t'.val) (e : Fin 16) (he : e.val = t'.val / 16)
    (b : Fin 2) (s : Fin 256) (d : Fin 1024) :
    outAt c (Memref.whole main_arg1) (Memref.whole main_arg2) (Memref.whole main_arg3) (V m c main_arg1) (V m c main_arg2) (V m c main_arg3)
        e (iblk m c 0 t) (ix3 b s d)
      = ffn (m ((c : Thread nD τ).loc main_arg0)) (m ((c : Thread nD τ).loc main_arg1)) (m ((c : Thread nD τ).loc main_arg2))
        (m ((c : Thread nD τ).loc main_arg3)) ⟨t'.val % 16 * 2 + b.val, by omega⟩ e s d := by
  have hee : (⟨t'.val / 16, by omega⟩ : Fin 16) = e := Fin.ext he.symm
  unfold outAt
  rw [prod_at]
  unfold ffn proj
  simp only [act_at, load_x m c t t' ht, hee]
  rfl

end Cert.Kernel4Ideal.Ffn

end
-- ==== Proof.FfnFinal.lean ====
/- The expert call's result array, once every point has stored its block. -/
module

public import proofs.«01_k».proof.Proof.FfnIdealFrame
public import proofs.«01_k».proof.Proof.FfnPay

@[expose] public section

set_option maxRecDepth 16384

noncomputable section

namespace Cert.Kernel4Ideal.Ffn

open Idealize.ShloMosaic Idealize.ShloMosaic.TcCoe Idealize.SL.Sem
open Idealize.ShloMosaic.Pipeline (Dat)
open Cert.Kernel4Ideal Cert.Kernel4Ideal.Gen Cert.Kernel4Ideal.Hand

variable (m : (ℓ : Loc nD τ sig) → Buf (Elt Ideal) ℓ) (ρ : Dev nD → PrngReg)

/-- The results after the run. -/
theorem final_f (c : Dev nD) : (dats m 0 c).arrAt 1 cfg0.N
    = fArr (m ((c : Thread nD τ).loc main_arg0)) (m ((c : Thread nD τ).loc main_arg1)) (m ((c : Thread nD τ).loc main_arg2))
      (m ((c : Thread nD τ).loc main_arg3)) := by
  refine (dats m 0 c).arrAt_eq_of_covers 1 _ (by decide +kernel) fun t hf y => ?_
  blk_simp
  rw [after1]
  have hi := (idx t).2
  have ht : t.val < 256 := t.isLt
  have he : (xO t.val).val = t.val / 16 := Nat.mod_eq_of_lt (by omega)
  unfold outC
  idx_vars y
  refine (block_at m c t ⟨t.val, t.isLt⟩ rfl (xO t.val) he y0 y1 y2).trans (fArr_at _ _ _ _ _ _ _ _ _ ?_ ?_ ?_).symm
  · blk_simp
    rw [hi]
    show t.val % 16 * 2 + y0.val = _
    rfl
  · blk_simp
    rw [hi]
    show t.val / 16 * 256 + y1.val = (xO t.val).val * 256 + y1.val
    rw [he]
  · blk_simp
    rw [hi]
    show 0 * 1024 + y2.val = y2.val
    omega

/-- The run, its result array and its arguments. -/
theorem run_blocks : θ_run defs (onTc (τ := τ) (main (F := Ideal))) ⟨m, fun _ => 0, ρ⟩ fun r => ∀ c : Dev nD,
    r.2.mem ((c : Thread nD τ).loc main_v0) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 1,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

end Cert.Kernel4Ideal.Ffn

end
-- ==== Proof.FfnRef.lean ====
/- The reference's experts, read at an index over the extended reals. -/
module

public import proofs.«01_k».proof.Proof.Gen.Reference4Ideal.Read
public import proofs.«01_k».proof.Proof.FfnPay
public import Idealize.ShloMosaic.Lib.Pipeline.ValueKit

@[expose] public section

set_option maxRecDepth 16384

noncomputable section

namespace Cert.Reference4Ideal.Ffn

open Idealize.ShloMosaic Idealize.ShloMosaic.TcCoe Idealize.SL.Sem
open Cert.Reference4Ideal Cert.Reference4Ideal.Gen Cert.Reference4Ideal.Read
open Cert.Kernel4Ideal.Ffn (swish proj ffn fArr place)

variable (X : FVec Ideal S32x4096x1024 .bf16) (G U : FVec Ideal S2x16x1024x2048 .f32) (D : FVec Ideal S2x16x2048x1024 .f32)

/-- A token's product with the gate's matrix. -/
theorem gate_at (b : Fin 32) (e : Fin 16) (s : Fin 256) (k : Fin 2048) : val_main_v5 (F := Ideal) X G (ix4 b e s k) = proj X G b e s k := by
  unfold val_main_v5 val_main_v4
  pointwise [val_main_v3, val_main_v2, val_main_v1, val_main_v0]
  exact Finset.sum_congr rfl fun d _ => mul_comm _ _

/-- A token's product with the other matrix. -/
theorem up_at (b : Fin 32) (e : Fin 16) (s : Fin 256) (k : Fin 2048) : val_main_v9 (F := Ideal) X U (ix4 b e s k) = proj X U b e s k :=
  gate_at X U b e s k

/-- A token's gated activation. -/
theorem act_at (b : Fin 32) (e : Fin 16) (s : Fin 256) (k : Fin 2048) :
    val_main_v11 (F := Ideal) X G U (ix4 b e s k) = swish (proj X G b e s k) * proj X U b e s k := by
  have h5 := gate_at X G b e s k
  have h9 := up_at X U b e s k
  unfold val_main_v11 val_main_v10 val_main_call0_v5 val_main_call0_v3 val_main_call0_v1 val_main_call0_v0
  generalize val_main_v5 (F := Ideal) X G = y at h5
  generalize val_main_v9 (F := Ideal) X U = z at h9
  pointwise [val_main_call0_v4, val_main_call0_v2, val_main_call0_cst, val_main_call0_cst_0]
  rw [h5, h9]
  rfl

/-- The expert's result at a token. -/
theorem ffn_at (b : Fin 32) (e : Fin 16) (s : Fin 256) (d : Fin 1024) :
    val_main_v15 (F := Ideal) X G U D (ix4 b e s d) = ffn X G U D b e s d := by
  have h := act_at X G U b e s
  unfold val_main_v15 val_main_v14 ffn
  generalize val_main_v11 (F := Ideal) X G U = y at h
  pointwise [val_main_v13, val_main_v12]
  exact Finset.sum_congr rfl fun k _ => by rw [h, mul_comm]

/-- Every expert's results. -/
theorem f_eq : val_main_v17 (F := Ideal) X G U D = fArr X G U D := by
  funext y
  idx_vars y
  have h := ffn_at X G U D y0 ⟨y1.val / 256, by omega⟩ ⟨y1.val % 256, by omega⟩ y2
  unfold val_main_v17 val_main_v16
  generalize val_main_v15 (F := Ideal) X G U D = x at h
  pointwise
  exact h

end Cert.Reference4Ideal.Ffn

end
-- ==== Proof.Pre.lean ====
/- What the precondition says of the arguments, element by element. -/
module

public import proofs.«01_k».proof.Proof.Gen.Pre_projected
public import Idealize.ShloMosaic.Lib.ReduceAll
public import Idealize.ShloMosaic.Lib.Pointwise

@[expose] public section

set_option maxRecDepth 16384

noncomputable section

namespace Cert.Pre_projected.Attn

open Idealize.ShloMosaic Cert.Pre_projected Cert.Pre_projected.Gen

/-- A matrix with one position has one index. -/
instance : Subsingleton S_.Idx := ⟨fun a b => funext fun x => x.elim0⟩

/-- Both of two truth values hold where their conjunction does. -/
theorem and_one {a b : BitVec 1} (h : IntOp.andi a b = 1#1) : a = 1#1 ∧ b = 1#1 := by
  revert a b; decide

/-- The pattern of plus infinity. -/
theorem top_bits : Ideal.ofBits FTy.f32 0x7F800000#32 = ⊤ := by
  simp [Ideal.ofBits, Ideal.ieee]

/-- A number whose magnitude lies below plus infinity is a real. -/
theorem real_of_abs (x : EReal) (h : max x (-x) < ⊤) : ∃ a : ℝ, x = a := by
  induction x using EReal.rec with
  | top => simp at h
  | bot => simp at h
  | coe a => exact ⟨a, rfl⟩

/-- What a comparison decides holds where its word is one. -/
theorem of_word {p : Prop} [Decidable p] (h : BitVec.ofBool (decide p) = 1#1) : p := by
  by_contra hn
  rw [decide_eq_false hn] at h
  exact absurd h (by decide)

variable (X : FVec Ideal S65536x2048 .bf16) (C : FVec Ideal S8192x2048 .bf16) (B : FVec Ideal S8x15x31 .f32)

/-- The precondition, read: lane 64 of every value slot holds one, and queries, keys and biases are reals. -/
theorem facts_at (hp : fn (F := Ideal) X C B = fun _ => 1#1) :
    (∀ (n : Fin 65536) (h : Fin 8), X (ix2 n ⟨1088 + 128 * h.val, by omega⟩) = 1)
    ∧ (∀ (n : Fin 8192) (h : Fin 8), C (ix2 n ⟨1088 + 128 * h.val, by omega⟩) = 1)
    ∧ (∀ (n : Fin 65536) (l : Fin 1024), ∃ a : ℝ, X (ix2 n ⟨l.val, by omega⟩) = a)
    ∧ (∀ (n : Fin 8192) (l : Fin 512), ∃ a : ℝ, C (ix2 n ⟨512 + l.val, by omega⟩) = a)
    ∧ (∀ i, ∃ a : ℝ, B i = a) := by
  have hp := congrFun hp (Shape.Idx.first h_S_)
  dsimp only [fn, fn_part1] at hp
  obtain ⟨hp, hB⟩ := and_one hp
  obtain ⟨hp, hC⟩ := and_one hp
  obtain ⟨hp, hX⟩ := and_one hp
  obtain ⟨hX1, hC1⟩ := and_one hp
  refine ⟨fun n h => ?_, fun n h => ?_, fun n l => ?_, fun n l => ?_, fun i => ?_⟩
  · have := Host.reduce_andi_all _ _ _ _ _ hX1 (ix2 n h)
    pointwise at this
    exact of_word this
  · have := Host.reduce_andi_all _ _ _ _ _ hC1 (ix2 n h)
    pointwise at this
    exact of_word this
  · have := Host.reduce_andi_all _ _ _ _ _ hX (ix2 n l)
    pointwise at this
    have := of_word this
    rw [top_bits] at this
    exact real_of_abs _ this
  · have := Host.reduce_andi_all _ _ _ _ _ hC (ix2 n l)
    pointwise at this
    have := of_word this
    rw [top_bits] at this
    exact real_of_abs _ this
  · have := Host.reduce_andi_all _ _ _ _ _ hB i
    pointwise at this
    have := of_word this
    rw [top_bits] at this
    exact real_of_abs _ this

end Cert.Pre_projected.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_projected
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Join
public import proofs.«01_k».proof.Proof.InRef
public import proofs.«01_k».proof.Proof.OutRef
public import proofs.«01_k».proof.Proof.FfnFrame
public import proofs.«01_k».proof.Proof.FfnFinal
public import proofs.«01_k».proof.Proof.FfnRef
public import proofs.«01_k».proof.Proof.Gen.Reference4Ideal
public import proofs.«01_k».proof.Proof.Gen.Reference4Ideal.Run
public import proofs.«01_k».proof.Proof.Gen.Reference4Ideal.Read
public import proofs.«01_k».proof.Proof.Pre
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, keeps its arguments and leaves every semaphore counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) := by
  exact (θ_run _ _ _).mono (fun r h => ⟨fun c => (h c).2, sem_eq_zero_of_no_sems (by decide) r.2⟩) (Cert.ReferenceIdeal.Value.run m g)

/-- The kernel's result is the reference's, on arguments that meet the precondition. -/
theorem attention : Cert.algebraic_KernelIdeal_ReferenceIdeal_pre_projected (hKernelIdeal := Cert.KernelIdeal.Gen.facts)
    (hReferenceIdeal := Cert.ReferenceIdeal.Gen.facts) (hPre_projected := Cert.Pre_projected.Gen.facts) := by
  intro m g m' g' hpre hagree
  refine ⟨fun c => Cert.KernelIdeal.Attn.kRes (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (Cert.Attn.tab (m ((c.tc : Thread Cert.KernelIdeal.nD Cert.KernelIdeal.τ).loc Cert.KernelIdeal.main_arg2))), ?_, ?_⟩
  · refine (θ_run _ _ _).mono (fun r h c => ⟨((h c).1.trans (Cert.KernelIdeal.Attn.final m c)).trans ?_, (h c).2⟩)
      (Cert.KernelIdeal.Value.run_blocks m g)
    rw [Cert.KernelIdeal.Attn.bias_read]
  · refine (θ_run _ _ _).mono (fun r h c => ⟨(h c).1.trans ?_, (h c).2⟩) (Cert.ReferenceIdeal.Value.run m' g')
    obtain ⟨h0, h1, h2⟩ := hagree c
    obtain ⟨hX1, hC1, hX, hC, hB⟩ := Cert.Pre_projected.Attn.facts_at _ _ _ (hpre c)
    rw [Cert.ReferenceIdeal.Read.val_main_v127_eq, h0, h1, h2]
    exact (Cert.Attn.result_eq _ _ _ hX1 hC1 hX hC hB).symm

/-- The input projection's results are the reference's. -/
theorem projection_in : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N, Cert.Kernel2Ideal.Value.run_blocks m g, ?_⟩
  refine (θ_run _ _ _).mono (fun r h c => ⟨(h c).1.trans ?_, (h c).2.1.trans ?_, (h c).2.2.1.trans ?_, (h c).2.2.2⟩)
    (Cert.Reference2Ideal.Value.run m' g')
  all_goals obtain ⟨h0, h1, h2, h3, h4⟩ := hagree c
  · rw [Cert.Reference2Ideal.Read.val_main_v37_eq, h0, h1, h2, h3, h4]
    exact (Cert.Reference2Ideal.Proj.qkv_eq _ _ _ _ _).trans (Cert.Kernel2Ideal.Proj.final_qkv m c).symm
  · rw [Cert.Reference2Ideal.Read.val_main_v27_eq, h0, h1, h2, h3, h4]
    exact (Cert.Reference2Ideal.Proj.hy_eq _ _ _ _ _).trans (Cert.Kernel2Ideal.Proj.final_hy m c).symm
  · rw [Cert.Reference2Ideal.Read.val_main_v28_eq, h0, h1, h2, h3, h4]
    exact (Cert.Reference2Ideal.Proj.cf_eq _ _ _ _ _).trans (Cert.Kernel2Ideal.Proj.final_cf m c).symm

/-- The output projection's results are the reference's. -/
theorem projection_out : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N, Cert.Kernel3Ideal.Value.run_blocks m g, ?_⟩
  refine (θ_run _ _ _).mono (fun r h c => ⟨(h c).1.trans ?_, (h c).2.1.trans ?_, (h c).2.2.1.trans ?_, (h c).2.2.2⟩)
    (Cert.Reference3Ideal.Value.run m' g')
  all_goals obtain ⟨h0, h1, h2, h3, h4, h5, h6, h7, h8, h9⟩ := hagree c
  · rw [Cert.Reference3Ideal.Read.val_main_v37_eq, h0, h1, h2, h3, h4, h5]
    exact (Cert.Reference3Ideal.Proj.x_eq _ _ _ _ _ _).trans (Cert.Kernel3Ideal.Proj.final_x m c).symm
  · rw [Cert.Reference3Ideal.Read.val_main_v39_eq, h0, h1, h2, h3, h4, h5, h6, h7, h8]
    exact (Cert.Reference3Ideal.Proj.h_eq _ _ _ _ _ _ _ _ _).trans (Cert.Kernel3Ideal.Proj.final_h m c).symm
  · rw [Cert.Reference3Ideal.Read.val_main_v36_eq, h0, h1, h2, h3, h4, h5, h6, h7, h8, h9]
    exact (Cert.Reference3Ideal.Proj.l_eq _ _ _ _ _ _ _ _ _ _).trans (Cert.Kernel3Ideal.Proj.final_l m c).symm

/-- The experts' results are the reference's. -/
theorem experts : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Hand.dats m 0 c).arrAt 1 Cert.Kernel4Ideal.cfg0.N, Cert.Kernel4Ideal.Ffn.run_blocks m g, ?_⟩
  refine (θ_run _ _ _).mono (fun r h c => ⟨(h c).1.trans ?_, (h c).2⟩) (Cert.Reference4Ideal.Value.run m' g')
  obtain ⟨h0, h1, h2, h3⟩ := hagree c
  rw [Cert.Reference4Ideal.Read.val_main_v17_eq, h0, h1, h2, h3]
  exact (Cert.Reference4Ideal.Ffn.f_eq _ _ _ _).trans (Cert.Kernel4Ideal.Ffn.final_f m c).symm

/-- The frames of the programs, and the value claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Pre_projected.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Kernel2.Gen.frame m ρ, fun m ρ _ => Cert.Kernel2Ideal.Gen.frame m ρ,
  fun m ρ _ => (θ_run _ _ _).mono (fun r h => ⟨fun c => (h c).2.2.2, sem_eq_zero_of_no_sems (by decide) r.2⟩)
    (Cert.Reference2Ideal.Value.run m ρ),
  fun m ρ _ => Cert.Kernel3.Gen.frame m ρ, fun m ρ _ => Cert.Kernel3Ideal.Gen.frame m ρ,
  fun m ρ _ => (θ_run _ _ _).mono (fun r h => ⟨fun c => (h c).2.2.2, sem_eq_zero_of_no_sems (by decide) r.2⟩)
    (Cert.Reference3Ideal.Value.run m ρ),
  fun m ρ _ => Cert.Kernel4.Hand.frame m ρ, fun m ρ _ => Cert.Kernel4Ideal.Hand.frame m ρ,
  fun m ρ _ => (θ_run _ _ _).mono (fun r h => ⟨fun c => (h c).2, sem_eq_zero_of_no_sems (by decide) r.2⟩)
    (Cert.Reference4Ideal.Value.run m ρ),
  trivial, attention, trivial, projection_in, trivial, projection_out, trivial, experts⟩

end Cert.Proof

end
